-- ==== Defs.lean ====
def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_tame [hPre_tame : Cert.Pre_tame.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_tame.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4)) (m ((c.tc : Thread Cert.ScoresIdeal.nD Cert.ScoresIdeal.τ).loc Cert.ScoresIdeal.main_arg5)) (m ((c.tc : Thread Cert.ScoresIdeal.nD Cert.ScoresIdeal.τ).loc Cert.ScoresIdeal.main_arg6))).1 = (fun _ => 1#1)
    ∧ (Cert.Pre_tame.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4)) (m ((c.tc : Thread Cert.ScoresIdeal.nD Cert.ScoresIdeal.τ).loc Cert.ScoresIdeal.main_arg5)) (m ((c.tc : Thread Cert.ScoresIdeal.nD Cert.ScoresIdeal.τ).loc Cert.ScoresIdeal.main_arg6))).2.1 = (fun _ => 1#1)
    ∧ (Cert.Pre_tame.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4)) (m ((c.tc : Thread Cert.ScoresIdeal.nD Cert.ScoresIdeal.τ).loc Cert.ScoresIdeal.main_arg5)) (m ((c.tc : Thread Cert.ScoresIdeal.nD Cert.ScoresIdeal.τ).loc Cert.ScoresIdeal.main_arg6))).2.2.1 = (fun _ => 1#1)
    ∧ (Cert.Pre_tame.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4)) (m ((c.tc : Thread Cert.ScoresIdeal.nD Cert.ScoresIdeal.τ).loc Cert.ScoresIdeal.main_arg5)) (m ((c.tc : Thread Cert.ScoresIdeal.nD Cert.ScoresIdeal.τ).loc Cert.ScoresIdeal.main_arg6))).2.2.2.1 = (fun _ => 1#1)
    ∧ (Cert.Pre_tame.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4)) (m ((c.tc : Thread Cert.ScoresIdeal.nD Cert.ScoresIdeal.τ).loc Cert.ScoresIdeal.main_arg5)) (m ((c.tc : Thread Cert.ScoresIdeal.nD Cert.ScoresIdeal.τ).loc Cert.ScoresIdeal.main_arg6))).2.2.2.2 = (fun _ => 1#1)

def Pre_IndexScoresIdeal (m : (ℓ : Loc Cert.IndexScoresIdeal.nD Cert.IndexScoresIdeal.τ Cert.IndexScoresIdeal.sig) → Buf (Elt Ideal) ℓ) : Prop :=
  True

def Pre_IndexScoresIdeal_tame [hPre_tame : Cert.Pre_tame.Facts] (m : (ℓ : Loc Cert.IndexScoresIdeal.nD Cert.IndexScoresIdeal.τ Cert.IndexScoresIdeal.sig) → Buf (Elt Ideal) ℓ) : Prop :=
  ∀ c : Dev Cert.IndexScoresIdeal.nD,
    (Cert.Pre_tame.fn (F := Ideal) (m ((c.tc : Thread Cert.IndexScoresIdeal.nD Cert.IndexScoresIdeal.τ).loc Cert.IndexScoresIdeal.main_arg0)) (m ((c.tc : Thread Cert.IndexScoresIdeal.nD Cert.IndexScoresIdeal.τ).loc Cert.IndexScoresIdeal.main_arg1)) (m ((c.tc : Thread Cert.IndexScoresIdeal.nD Cert.IndexScoresIdeal.τ).loc Cert.IndexScoresIdeal.main_arg2)) (m ((c.tc : Thread Cert.IndexScoresIdeal.nD Cert.IndexScoresIdeal.τ).loc Cert.IndexScoresIdeal.main_arg3)) (m ((c.tc : Thread Cert.IndexScoresIdeal.nD Cert.IndexScoresIdeal.τ).loc Cert.IndexScoresIdeal.main_arg4)) (m ((c.tc : Thread Cert.IndexScoresIdeal.nD Cert.IndexScoresIdeal.τ).loc Cert.IndexScoresIdeal.main_arg5)) (m ((c.tc : Thread Cert.IndexScoresIdeal.nD Cert.IndexScoresIdeal.τ).loc Cert.IndexScoresIdeal.main_arg6))).1 = (fun _ => 1#1)
    ∧ (Cert.Pre_tame.fn (F := Ideal) (m ((c.tc : Thread Cert.IndexScoresIdeal.nD Cert.IndexScoresIdeal.τ).loc Cert.IndexScoresIdeal.main_arg0)) (m ((c.tc : Thread Cert.IndexScoresIdeal.nD Cert.IndexScoresIdeal.τ).loc Cert.IndexScoresIdeal.main_arg1)) (m ((c.tc : Thread Cert.IndexScoresIdeal.nD Cert.IndexScoresIdeal.τ).loc Cert.IndexScoresIdeal.main_arg2)) (m ((c.tc : Thread Cert.IndexScoresIdeal.nD Cert.IndexScoresIdeal.τ).loc Cert.IndexScoresIdeal.main_arg3)) (m ((c.tc : Thread Cert.IndexScoresIdeal.nD Cert.IndexScoresIdeal.τ).loc Cert.IndexScoresIdeal.main_arg4)) (m ((c.tc : Thread Cert.IndexScoresIdeal.nD Cert.IndexScoresIdeal.τ).loc Cert.IndexScoresIdeal.main_arg5)) (m ((c.tc : Thread Cert.IndexScoresIdeal.nD Cert.IndexScoresIdeal.τ).loc Cert.IndexScoresIdeal.main_arg6))).2.1 = (fun _ => 1#1)
    ∧ (Cert.Pre_tame.fn (F := Ideal) (m ((c.tc : Thread Cert.IndexScoresIdeal.nD Cert.IndexScoresIdeal.τ).loc Cert.IndexScoresIdeal.main_arg0)) (m ((c.tc : Thread Cert.IndexScoresIdeal.nD Cert.IndexScoresIdeal.τ).loc Cert.IndexScoresIdeal.main_arg1)) (m ((c.tc : Thread Cert.IndexScoresIdeal.nD Cert.IndexScoresIdeal.τ).loc Cert.IndexScoresIdeal.main_arg2)) (m ((c.tc : Thread Cert.IndexScoresIdeal.nD Cert.IndexScoresIdeal.τ).loc Cert.IndexScoresIdeal.main_arg3)) (m ((c.tc : Thread Cert.IndexScoresIdeal.nD Cert.IndexScoresIdeal.τ).loc Cert.IndexScoresIdeal.main_arg4)) (m ((c.tc : Thread Cert.IndexScoresIdeal.nD Cert.IndexScoresIdeal.τ).loc Cert.IndexScoresIdeal.main_arg5)) (m ((c.tc : Thread Cert.IndexScoresIdeal.nD Cert.IndexScoresIdeal.τ).loc Cert.IndexScoresIdeal.main_arg6))).2.2.1 = (fun _ => 1#1)
    ∧ (Cert.Pre_tame.fn (F := Ideal) (m ((c.tc : Thread Cert.IndexScoresIdeal.nD Cert.IndexScoresIdeal.τ).loc Cert.IndexScoresIdeal.main_arg0)) (m ((c.tc : Thread Cert.IndexScoresIdeal.nD Cert.IndexScoresIdeal.τ).loc Cert.IndexScoresIdeal.main_arg1)) (m ((c.tc : Thread Cert.IndexScoresIdeal.nD Cert.IndexScoresIdeal.τ).loc Cert.IndexScoresIdeal.main_arg2)) (m ((c.tc : Thread Cert.IndexScoresIdeal.nD Cert.IndexScoresIdeal.τ).loc Cert.IndexScoresIdeal.main_arg3)) (m ((c.tc : Thread Cert.IndexScoresIdeal.nD Cert.IndexScoresIdeal.τ).loc Cert.IndexScoresIdeal.main_arg4)) (m ((c.tc : Thread Cert.IndexScoresIdeal.nD Cert.IndexScoresIdeal.τ).loc Cert.IndexScoresIdeal.main_arg5)) (m ((c.tc : Thread Cert.IndexScoresIdeal.nD Cert.IndexScoresIdeal.τ).loc Cert.IndexScoresIdeal.main_arg6))).2.2.2.1 = (fun _ => 1#1)
    ∧ (Cert.Pre_tame.fn (F := Ideal) (m ((c.tc : Thread Cert.IndexScoresIdeal.nD Cert.IndexScoresIdeal.τ).loc Cert.IndexScoresIdeal.main_arg0)) (m ((c.tc : Thread Cert.IndexScoresIdeal.nD Cert.IndexScoresIdeal.τ).loc Cert.IndexScoresIdeal.main_arg1)) (m ((c.tc : Thread Cert.IndexScoresIdeal.nD Cert.IndexScoresIdeal.τ).loc Cert.IndexScoresIdeal.main_arg2)) (m ((c.tc : Thread Cert.IndexScoresIdeal.nD Cert.IndexScoresIdeal.τ).loc Cert.IndexScoresIdeal.main_arg3)) (m ((c.tc : Thread Cert.IndexScoresIdeal.nD Cert.IndexScoresIdeal.τ).loc Cert.IndexScoresIdeal.main_arg4)) (m ((c.tc : Thread Cert.IndexScoresIdeal.nD Cert.IndexScoresIdeal.τ).loc Cert.IndexScoresIdeal.main_arg5)) (m ((c.tc : Thread Cert.IndexScoresIdeal.nD Cert.IndexScoresIdeal.τ).loc Cert.IndexScoresIdeal.main_arg6))).2.2.2.2 = (fun _ => 1#1)

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_PlainQueriesIdeal (m : (ℓ : Loc Cert.PlainQueriesIdeal.nD Cert.PlainQueriesIdeal.τ Cert.PlainQueriesIdeal.sig) → Buf (Elt Ideal) ℓ) : Prop :=
  True

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4)
      ∧ r.2.mem ((c.tc : Thread Cert.Scores.nD Cert.Scores.τ).loc Cert.Scores.main_arg5) = m ((c.tc : Thread Cert.Scores.nD Cert.Scores.τ).loc Cert.Scores.main_arg5)
      ∧ r.2.mem ((c.tc : Thread Cert.Scores.nD Cert.Scores.τ).loc Cert.Scores.main_arg6) = m ((c.tc : Thread Cert.Scores.nD Cert.Scores.τ).loc Cert.Scores.main_arg6))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
      ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
      ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6))
      ∧ r.2.sem = fun _ => 0)

def quiescent_ScoresIdeal_pre_tame [hScoresIdeal : Cert.ScoresIdeal.Facts] [hPre_tame : Cert.Pre_tame.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_tame m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
      ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
      ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6))
      ∧ r.2.sem = fun _ => 0)

def quiescent_IndexScoresIdeal [hIndexScoresIdeal : Cert.IndexScoresIdeal.Facts] : Prop :=
  ∀ (m : (ℓ : Loc Cert.IndexScoresIdeal.nD Cert.IndexScoresIdeal.τ Cert.IndexScoresIdeal.sig) → Buf (Elt Ideal) ℓ) (g : Dev Cert.IndexScoresIdeal.nD → PrngReg), Pre_IndexScoresIdeal m →
    θ_run (Cert.IndexScoresIdeal.defs (F := Ideal)) (onTc (τ := Cert.IndexScoresIdeal.τ) (Cert.IndexScoresIdeal.main (F := Ideal))) ⟨m, fun _ => 0, g⟩ (fun r => (∀ c : Dev Cert.IndexScoresIdeal.nD,
      r.2.mem ((c.tc : Thread Cert.IndexScoresIdeal.nD Cert.IndexScoresIdeal.τ).loc Cert.IndexScoresIdeal.main_arg0) = m ((c.tc : Thread Cert.IndexScoresIdeal.nD Cert.IndexScoresIdeal.τ).loc Cert.IndexScoresIdeal.main_arg0)
      ∧ r.2.mem ((c.tc : Thread Cert.IndexScoresIdeal.nD Cert.IndexScoresIdeal.τ).loc Cert.IndexScoresIdeal.main_arg1) = m ((c.tc : Thread Cert.IndexScoresIdeal.nD Cert.IndexScoresIdeal.τ).loc Cert.IndexScoresIdeal.main_arg1)
      ∧ r.2.mem ((c.tc : Thread Cert.IndexScoresIdeal.nD Cert.IndexScoresIdeal.τ).loc Cert.IndexScoresIdeal.main_arg2) = m ((c.tc : Thread Cert.IndexScoresIdeal.nD Cert.IndexScoresIdeal.τ).loc Cert.IndexScoresIdeal.main_arg2)
      ∧ r.2.mem ((c.tc : Thread Cert.IndexScoresIdeal.nD Cert.IndexScoresIdeal.τ).loc Cert.IndexScoresIdeal.main_arg3) = m ((c.tc : Thread Cert.IndexScoresIdeal.nD Cert.IndexScoresIdeal.τ).loc Cert.IndexScoresIdeal.main_arg3)
      ∧ r.2.mem ((c.tc : Thread Cert.IndexScoresIdeal.nD Cert.IndexScoresIdeal.τ).loc Cert.IndexScoresIdeal.main_arg4) = m ((c.tc : Thread Cert.IndexScoresIdeal.nD Cert.IndexScoresIdeal.τ).loc Cert.IndexScoresIdeal.main_arg4)
      ∧ r.2.mem ((c.tc : Thread Cert.IndexScoresIdeal.nD Cert.IndexScoresIdeal.τ).loc Cert.IndexScoresIdeal.main_arg5) = m ((c.tc : Thread Cert.IndexScoresIdeal.nD Cert.IndexScoresIdeal.τ).loc Cert.IndexScoresIdeal.main_arg5)
      ∧ r.2.mem ((c.tc : Thread Cert.IndexScoresIdeal.nD Cert.IndexScoresIdeal.τ).loc Cert.IndexScoresIdeal.main_arg6) = m ((c.tc : Thread Cert.IndexScoresIdeal.nD Cert.IndexScoresIdeal.τ).loc Cert.IndexScoresIdeal.main_arg6))
      ∧ r.2.sem = fun _ => 0)

def quiescent_IndexScoresIdeal_pre_tame [hIndexScoresIdeal : Cert.IndexScoresIdeal.Facts] [hPre_tame : Cert.Pre_tame.Facts] : Prop :=
  ∀ (m : (ℓ : Loc Cert.IndexScoresIdeal.nD Cert.IndexScoresIdeal.τ Cert.IndexScoresIdeal.sig) → Buf (Elt Ideal) ℓ) (g : Dev Cert.IndexScoresIdeal.nD → PrngReg), Pre_IndexScoresIdeal_tame m →
    θ_run (Cert.IndexScoresIdeal.defs (F := Ideal)) (onTc (τ := Cert.IndexScoresIdeal.τ) (Cert.IndexScoresIdeal.main (F := Ideal))) ⟨m, fun _ => 0, g⟩ (fun r => (∀ c : Dev Cert.IndexScoresIdeal.nD,
      r.2.mem ((c.tc : Thread Cert.IndexScoresIdeal.nD Cert.IndexScoresIdeal.τ).loc Cert.IndexScoresIdeal.main_arg0) = m ((c.tc : Thread Cert.IndexScoresIdeal.nD Cert.IndexScoresIdeal.τ).loc Cert.IndexScoresIdeal.main_arg0)
      ∧ r.2.mem ((c.tc : Thread Cert.IndexScoresIdeal.nD Cert.IndexScoresIdeal.τ).loc Cert.IndexScoresIdeal.main_arg1) = m ((c.tc : Thread Cert.IndexScoresIdeal.nD Cert.IndexScoresIdeal.τ).loc Cert.IndexScoresIdeal.main_arg1)
      ∧ r.2.mem ((c.tc : Thread Cert.IndexScoresIdeal.nD Cert.IndexScoresIdeal.τ).loc Cert.IndexScoresIdeal.main_arg2) = m ((c.tc : Thread Cert.IndexScoresIdeal.nD Cert.IndexScoresIdeal.τ).loc Cert.IndexScoresIdeal.main_arg2)
      ∧ r.2.mem ((c.tc : Thread Cert.IndexScoresIdeal.nD Cert.IndexScoresIdeal.τ).loc Cert.IndexScoresIdeal.main_arg3) = m ((c.tc : Thread Cert.IndexScoresIdeal.nD Cert.IndexScoresIdeal.τ).loc Cert.IndexScoresIdeal.main_arg3)
      ∧ r.2.mem ((c.tc : Thread Cert.IndexScoresIdeal.nD Cert.IndexScoresIdeal.τ).loc Cert.IndexScoresIdeal.main_arg4) = m ((c.tc : Thread Cert.IndexScoresIdeal.nD Cert.IndexScoresIdeal.τ).loc Cert.IndexScoresIdeal.main_arg4)
      ∧ r.2.mem ((c.tc : Thread Cert.IndexScoresIdeal.nD Cert.IndexScoresIdeal.τ).loc Cert.IndexScoresIdeal.main_arg5) = m ((c.tc : Thread Cert.IndexScoresIdeal.nD Cert.IndexScoresIdeal.τ).loc Cert.IndexScoresIdeal.main_arg5)
      ∧ r.2.mem ((c.tc : Thread Cert.IndexScoresIdeal.nD Cert.IndexScoresIdeal.τ).loc Cert.IndexScoresIdeal.main_arg6) = m ((c.tc : Thread Cert.IndexScoresIdeal.nD Cert.IndexScoresIdeal.τ).loc Cert.IndexScoresIdeal.main_arg6))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2)
      ∧ r.2.mem ((c.tc : Thread Cert.Queries.nD Cert.Queries.τ).loc Cert.Queries.main_arg3) = m ((c.tc : Thread Cert.Queries.nD Cert.Queries.τ).loc Cert.Queries.main_arg3)
      ∧ r.2.mem ((c.tc : Thread Cert.Queries.nD Cert.Queries.τ).loc Cert.Queries.main_arg4) = m ((c.tc : Thread Cert.Queries.nD Cert.Queries.τ).loc Cert.Queries.main_arg4)
      ∧ r.2.mem ((c.tc : Thread Cert.Queries.nD Cert.Queries.τ).loc Cert.Queries.main_arg5) = m ((c.tc : Thread Cert.Queries.nD Cert.Queries.τ).loc Cert.Queries.main_arg5)
      ∧ r.2.mem ((c.tc : Thread Cert.Queries.nD Cert.Queries.τ).loc Cert.Queries.main_arg6) = m ((c.tc : Thread Cert.Queries.nD Cert.Queries.τ).loc Cert.Queries.main_arg6)
      ∧ r.2.mem ((c.tc : Thread Cert.Queries.nD Cert.Queries.τ).loc Cert.Queries.main_arg7) = m ((c.tc : Thread Cert.Queries.nD Cert.Queries.τ).loc Cert.Queries.main_arg7)
      ∧ r.2.mem ((c.tc : Thread Cert.Queries.nD Cert.Queries.τ).loc Cert.Queries.main_arg8) = m ((c.tc : Thread Cert.Queries.nD Cert.Queries.τ).loc Cert.Queries.main_arg8))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3)
      ∧ r.2.mem ((c.tc : Thread Cert.QueriesIdeal.nD Cert.QueriesIdeal.τ).loc Cert.QueriesIdeal.main_arg4) = m ((c.tc : Thread Cert.QueriesIdeal.nD Cert.QueriesIdeal.τ).loc Cert.QueriesIdeal.main_arg4)
      ∧ r.2.mem ((c.tc : Thread Cert.QueriesIdeal.nD Cert.QueriesIdeal.τ).loc Cert.QueriesIdeal.main_arg5) = m ((c.tc : Thread Cert.QueriesIdeal.nD Cert.QueriesIdeal.τ).loc Cert.QueriesIdeal.main_arg5)
      ∧ r.2.mem ((c.tc : Thread Cert.QueriesIdeal.nD Cert.QueriesIdeal.τ).loc Cert.QueriesIdeal.main_arg6) = m ((c.tc : Thread Cert.QueriesIdeal.nD Cert.QueriesIdeal.τ).loc Cert.QueriesIdeal.main_arg6)
      ∧ r.2.mem ((c.tc : Thread Cert.QueriesIdeal.nD Cert.QueriesIdeal.τ).loc Cert.QueriesIdeal.main_arg7) = m ((c.tc : Thread Cert.QueriesIdeal.nD Cert.QueriesIdeal.τ).loc Cert.QueriesIdeal.main_arg7)
      ∧ r.2.mem ((c.tc : Thread Cert.QueriesIdeal.nD Cert.QueriesIdeal.τ).loc Cert.QueriesIdeal.main_arg8) = m ((c.tc : Thread Cert.QueriesIdeal.nD Cert.QueriesIdeal.τ).loc Cert.QueriesIdeal.main_arg8))
      ∧ r.2.sem = fun _ => 0)

def quiescent_PlainQueriesIdeal [hPlainQueriesIdeal : Cert.PlainQueriesIdeal.Facts] : Prop :=
  ∀ (m : (ℓ : Loc Cert.PlainQueriesIdeal.nD Cert.PlainQueriesIdeal.τ Cert.PlainQueriesIdeal.sig) → Buf (Elt Ideal) ℓ) (g : Dev Cert.PlainQueriesIdeal.nD → PrngReg), Pre_PlainQueriesIdeal m →
    θ_run (Cert.PlainQueriesIdeal.defs (F := Ideal)) (onTc (τ := Cert.PlainQueriesIdeal.τ) (Cert.PlainQueriesIdeal.main (F := Ideal))) ⟨m, fun _ => 0, g⟩ (fun r => (∀ c : Dev Cert.PlainQueriesIdeal.nD,
      r.2.mem ((c.tc : Thread Cert.PlainQueriesIdeal.nD Cert.PlainQueriesIdeal.τ).loc Cert.PlainQueriesIdeal.main_arg0) = m ((c.tc : Thread Cert.PlainQueriesIdeal.nD Cert.PlainQueriesIdeal.τ).loc Cert.PlainQueriesIdeal.main_arg0)
      ∧ r.2.mem ((c.tc : Thread Cert.PlainQueriesIdeal.nD Cert.PlainQueriesIdeal.τ).loc Cert.PlainQueriesIdeal.main_arg1) = m ((c.tc : Thread Cert.PlainQueriesIdeal.nD Cert.PlainQueriesIdeal.τ).loc Cert.PlainQueriesIdeal.main_arg1)
      ∧ r.2.mem ((c.tc : Thread Cert.PlainQueriesIdeal.nD Cert.PlainQueriesIdeal.τ).loc Cert.PlainQueriesIdeal.main_arg2) = m ((c.tc : Thread Cert.PlainQueriesIdeal.nD Cert.PlainQueriesIdeal.τ).loc Cert.PlainQueriesIdeal.main_arg2)
      ∧ r.2.mem ((c.tc : Thread Cert.PlainQueriesIdeal.nD Cert.PlainQueriesIdeal.τ).loc Cert.PlainQueriesIdeal.main_arg3) = m ((c.tc : Thread Cert.PlainQueriesIdeal.nD Cert.PlainQueriesIdeal.τ).loc Cert.PlainQueriesIdeal.main_arg3)
      ∧ r.2.mem ((c.tc : Thread Cert.PlainQueriesIdeal.nD Cert.PlainQueriesIdeal.τ).loc Cert.PlainQueriesIdeal.main_arg4) = m ((c.tc : Thread Cert.PlainQueriesIdeal.nD Cert.PlainQueriesIdeal.τ).loc Cert.PlainQueriesIdeal.main_arg4)
      ∧ r.2.mem ((c.tc : Thread Cert.PlainQueriesIdeal.nD Cert.PlainQueriesIdeal.τ).loc Cert.PlainQueriesIdeal.main_arg5) = m ((c.tc : Thread Cert.PlainQueriesIdeal.nD Cert.PlainQueriesIdeal.τ).loc Cert.PlainQueriesIdeal.main_arg5)
      ∧ r.2.mem ((c.tc : Thread Cert.PlainQueriesIdeal.nD Cert.PlainQueriesIdeal.τ).loc Cert.PlainQueriesIdeal.main_arg6) = m ((c.tc : Thread Cert.PlainQueriesIdeal.nD Cert.PlainQueriesIdeal.τ).loc Cert.PlainQueriesIdeal.main_arg6)
      ∧ r.2.mem ((c.tc : Thread Cert.PlainQueriesIdeal.nD Cert.PlainQueriesIdeal.τ).loc Cert.PlainQueriesIdeal.main_arg7) = m ((c.tc : Thread Cert.PlainQueriesIdeal.nD Cert.PlainQueriesIdeal.τ).loc Cert.PlainQueriesIdeal.main_arg7)
      ∧ r.2.mem ((c.tc : Thread Cert.PlainQueriesIdeal.nD Cert.PlainQueriesIdeal.τ).loc Cert.PlainQueriesIdeal.main_arg8) = m ((c.tc : Thread Cert.PlainQueriesIdeal.nD Cert.PlainQueriesIdeal.τ).loc Cert.PlainQueriesIdeal.main_arg8))
      ∧ r.2.sem = fun _ => 0)

def preserves_Scores_ScoresIdeal : Prop :=
  True

def algebraic_ScoresIdeal_IndexScoresIdeal_pre_tame [hScoresIdeal : Cert.ScoresIdeal.Facts] [hIndexScoresIdeal : Cert.IndexScoresIdeal.Facts] [hPre_tame : Cert.Pre_tame.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.IndexScoresIdeal.nD Cert.IndexScoresIdeal.τ Cert.IndexScoresIdeal.sig) → Buf (Elt Ideal) ℓ) (g' : Dev Cert.IndexScoresIdeal.nD → PrngReg), Pre_ScoresIdeal_tame m →
    (∀ c : Dev Cert.ScoresIdeal.nD,
      m' ((c.tc : Thread Cert.IndexScoresIdeal.nD Cert.IndexScoresIdeal.τ).loc Cert.IndexScoresIdeal.main_arg0) = m ((c.tc : Thread Cert.ScoresIdeal.nD Cert.ScoresIdeal.τ).loc Cert.ScoresIdeal.main_arg0)
      ∧ m' ((c.tc : Thread Cert.IndexScoresIdeal.nD Cert.IndexScoresIdeal.τ).loc Cert.IndexScoresIdeal.main_arg1) = m ((c.tc : Thread Cert.ScoresIdeal.nD Cert.ScoresIdeal.τ).loc Cert.ScoresIdeal.main_arg1)
      ∧ m' ((c.tc : Thread Cert.IndexScoresIdeal.nD Cert.IndexScoresIdeal.τ).loc Cert.IndexScoresIdeal.main_arg2) = m ((c.tc : Thread Cert.ScoresIdeal.nD Cert.ScoresIdeal.τ).loc Cert.ScoresIdeal.main_arg2)
      ∧ m' ((c.tc : Thread Cert.IndexScoresIdeal.nD Cert.IndexScoresIdeal.τ).loc Cert.IndexScoresIdeal.main_arg3) = m ((c.tc : Thread Cert.ScoresIdeal.nD Cert.ScoresIdeal.τ).loc Cert.ScoresIdeal.main_arg3)
      ∧ m' ((c.tc : Thread Cert.IndexScoresIdeal.nD Cert.IndexScoresIdeal.τ).loc Cert.IndexScoresIdeal.main_arg4) = m ((c.tc : Thread Cert.ScoresIdeal.nD Cert.ScoresIdeal.τ).loc Cert.ScoresIdeal.main_arg4)
      ∧ m' ((c.tc : Thread Cert.IndexScoresIdeal.nD Cert.IndexScoresIdeal.τ).loc Cert.IndexScoresIdeal.main_arg5) = m ((c.tc : Thread Cert.ScoresIdeal.nD Cert.ScoresIdeal.τ).loc Cert.ScoresIdeal.main_arg5)
      ∧ m' ((c.tc : Thread Cert.IndexScoresIdeal.nD Cert.IndexScoresIdeal.τ).loc Cert.IndexScoresIdeal.main_arg6) = m ((c.tc : Thread Cert.ScoresIdeal.nD Cert.ScoresIdeal.τ).loc Cert.ScoresIdeal.main_arg6)) →
    ∃ (v0 : (c : Dev Cert.ScoresIdeal.nD) → Buf (Elt Ideal) ((c.tc : Thread Cert.ScoresIdeal.nD Cert.ScoresIdeal.τ).loc Cert.ScoresIdeal.main_v4)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v4) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
          ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
          ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6))
      ∧ θ_run (Cert.IndexScoresIdeal.defs (F := Ideal)) (onTc (τ := Cert.IndexScoresIdeal.τ) (Cert.IndexScoresIdeal.main (F := Ideal))) ⟨m', fun _ => 0, g'⟩ (fun r => ∀ c : Dev Cert.IndexScoresIdeal.nD,
          r.2.mem ((c.tc : Thread Cert.IndexScoresIdeal.nD Cert.IndexScoresIdeal.τ).loc Cert.IndexScoresIdeal.main_v23) = v0 c
          ∧ r.2.mem ((c.tc : Thread Cert.IndexScoresIdeal.nD Cert.IndexScoresIdeal.τ).loc Cert.IndexScoresIdeal.main_arg0) = m' ((c.tc : Thread Cert.IndexScoresIdeal.nD Cert.IndexScoresIdeal.τ).loc Cert.IndexScoresIdeal.main_arg0)
          ∧ r.2.mem ((c.tc : Thread Cert.IndexScoresIdeal.nD Cert.IndexScoresIdeal.τ).loc Cert.IndexScoresIdeal.main_arg1) = m' ((c.tc : Thread Cert.IndexScoresIdeal.nD Cert.IndexScoresIdeal.τ).loc Cert.IndexScoresIdeal.main_arg1)
          ∧ r.2.mem ((c.tc : Thread Cert.IndexScoresIdeal.nD Cert.IndexScoresIdeal.τ).loc Cert.IndexScoresIdeal.main_arg2) = m' ((c.tc : Thread Cert.IndexScoresIdeal.nD Cert.IndexScoresIdeal.τ).loc Cert.IndexScoresIdeal.main_arg2)
          ∧ r.2.mem ((c.tc : Thread Cert.IndexScoresIdeal.nD Cert.IndexScoresIdeal.τ).loc Cert.IndexScoresIdeal.main_arg3) = m' ((c.tc : Thread Cert.IndexScoresIdeal.nD Cert.IndexScoresIdeal.τ).loc Cert.IndexScoresIdeal.main_arg3)
          ∧ r.2.mem ((c.tc : Thread Cert.IndexScoresIdeal.nD Cert.IndexScoresIdeal.τ).loc Cert.IndexScoresIdeal.main_arg4) = m' ((c.tc : Thread Cert.IndexScoresIdeal.nD Cert.IndexScoresIdeal.τ).loc Cert.IndexScoresIdeal.main_arg4)
          ∧ r.2.mem ((c.tc : Thread Cert.IndexScoresIdeal.nD Cert.IndexScoresIdeal.τ).loc Cert.IndexScoresIdeal.main_arg5) = m' ((c.tc : Thread Cert.IndexScoresIdeal.nD Cert.IndexScoresIdeal.τ).loc Cert.IndexScoresIdeal.main_arg5)
          ∧ r.2.mem ((c.tc : Thread Cert.IndexScoresIdeal.nD Cert.IndexScoresIdeal.τ).loc Cert.IndexScoresIdeal.main_arg6) = m' ((c.tc : Thread Cert.IndexScoresIdeal.nD Cert.IndexScoresIdeal.τ).loc Cert.IndexScoresIdeal.main_arg6))

def preserves_Queries_QueriesIdeal : Prop :=
  True

def algebraic_QueriesIdeal_PlainQueriesIdeal [hQueriesIdeal : Cert.QueriesIdeal.Facts] [hPlainQueriesIdeal : Cert.PlainQueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.PlainQueriesIdeal.nD Cert.PlainQueriesIdeal.τ Cert.PlainQueriesIdeal.sig) → Buf (Elt Ideal) ℓ) (g' : Dev Cert.PlainQueriesIdeal.nD → PrngReg), Pre_QueriesIdeal m →
    (∀ c : Dev Cert.QueriesIdeal.nD,
      m' ((c.tc : Thread Cert.PlainQueriesIdeal.nD Cert.PlainQueriesIdeal.τ).loc Cert.PlainQueriesIdeal.main_arg0) = m ((c.tc : Thread Cert.QueriesIdeal.nD Cert.QueriesIdeal.τ).loc Cert.QueriesIdeal.main_arg0)
      ∧ m' ((c.tc : Thread Cert.PlainQueriesIdeal.nD Cert.PlainQueriesIdeal.τ).loc Cert.PlainQueriesIdeal.main_arg1) = m ((c.tc : Thread Cert.QueriesIdeal.nD Cert.QueriesIdeal.τ).loc Cert.QueriesIdeal.main_arg1)
      ∧ m' ((c.tc : Thread Cert.PlainQueriesIdeal.nD Cert.PlainQueriesIdeal.τ).loc Cert.PlainQueriesIdeal.main_arg2) = m ((c.tc : Thread Cert.QueriesIdeal.nD Cert.QueriesIdeal.τ).loc Cert.QueriesIdeal.main_arg2)
      ∧ m' ((c.tc : Thread Cert.PlainQueriesIdeal.nD Cert.PlainQueriesIdeal.τ).loc Cert.PlainQueriesIdeal.main_arg3) = m ((c.tc : Thread Cert.QueriesIdeal.nD Cert.QueriesIdeal.τ).loc Cert.QueriesIdeal.main_arg3)
      ∧ m' ((c.tc : Thread Cert.PlainQueriesIdeal.nD Cert.PlainQueriesIdeal.τ).loc Cert.PlainQueriesIdeal.main_arg4) = m ((c.tc : Thread Cert.QueriesIdeal.nD Cert.QueriesIdeal.τ).loc Cert.QueriesIdeal.main_arg4)
      ∧ m' ((c.tc : Thread Cert.PlainQueriesIdeal.nD Cert.PlainQueriesIdeal.τ).loc Cert.PlainQueriesIdeal.main_arg5) = m ((c.tc : Thread Cert.QueriesIdeal.nD Cert.QueriesIdeal.τ).loc Cert.QueriesIdeal.main_arg5)
      ∧ m' ((c.tc : Thread Cert.PlainQueriesIdeal.nD Cert.PlainQueriesIdeal.τ).loc Cert.PlainQueriesIdeal.main_arg6) = m ((c.tc : Thread Cert.QueriesIdeal.nD Cert.QueriesIdeal.τ).loc Cert.QueriesIdeal.main_arg6)
      ∧ m' ((c.tc : Thread Cert.PlainQueriesIdeal.nD Cert.PlainQueriesIdeal.τ).loc Cert.PlainQueriesIdeal.main_arg7) = m ((c.tc : Thread Cert.QueriesIdeal.nD Cert.QueriesIdeal.τ).loc Cert.QueriesIdeal.main_arg7)
      ∧ m' ((c.tc : Thread Cert.PlainQueriesIdeal.nD Cert.PlainQueriesIdeal.τ).loc Cert.PlainQueriesIdeal.main_arg8) = m ((c.tc : Thread Cert.QueriesIdeal.nD Cert.QueriesIdeal.τ).loc Cert.QueriesIdeal.main_arg8)) →
    ∃ (v0 : (c : Dev Cert.QueriesIdeal.nD) → Buf (Elt Ideal) ((c.tc : Thread Cert.QueriesIdeal.nD Cert.QueriesIdeal.τ).loc Cert.QueriesIdeal.main_v21_0)) (v1 : (c : Dev Cert.QueriesIdeal.nD) → Buf (Elt Ideal) ((c.tc : Thread Cert.QueriesIdeal.nD Cert.QueriesIdeal.τ).loc Cert.QueriesIdeal.main_v21_1)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v21_0) = v0 c
          ∧ r.2.mem ((c.tc : Thread Cert.QueriesIdeal.nD Cert.QueriesIdeal.τ).loc Cert.QueriesIdeal.main_v21_1) = v1 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
          ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3)
          ∧ r.2.mem ((c.tc : Thread Cert.QueriesIdeal.nD Cert.QueriesIdeal.τ).loc Cert.QueriesIdeal.main_arg4) = m ((c.tc : Thread Cert.QueriesIdeal.nD Cert.QueriesIdeal.τ).loc Cert.QueriesIdeal.main_arg4)
          ∧ r.2.mem ((c.tc : Thread Cert.QueriesIdeal.nD Cert.QueriesIdeal.τ).loc Cert.QueriesIdeal.main_arg5) = m ((c.tc : Thread Cert.QueriesIdeal.nD Cert.QueriesIdeal.τ).loc Cert.QueriesIdeal.main_arg5)
          ∧ r.2.mem ((c.tc : Thread Cert.QueriesIdeal.nD Cert.QueriesIdeal.τ).loc Cert.QueriesIdeal.main_arg6) = m ((c.tc : Thread Cert.QueriesIdeal.nD Cert.QueriesIdeal.τ).loc Cert.QueriesIdeal.main_arg6)
          ∧ r.2.mem ((c.tc : Thread Cert.QueriesIdeal.nD Cert.QueriesIdeal.τ).loc Cert.QueriesIdeal.main_arg7) = m ((c.tc : Thread Cert.QueriesIdeal.nD Cert.QueriesIdeal.τ).loc Cert.QueriesIdeal.main_arg7)
          ∧ r.2.mem ((c.tc : Thread Cert.QueriesIdeal.nD Cert.QueriesIdeal.τ).loc Cert.QueriesIdeal.main_arg8) = m ((c.tc : Thread Cert.QueriesIdeal.nD Cert.QueriesIdeal.τ).loc Cert.QueriesIdeal.main_arg8))
      ∧ θ_run (Cert.PlainQueriesIdeal.defs (F := Ideal)) (onTc (τ := Cert.PlainQueriesIdeal.τ) (Cert.PlainQueriesIdeal.main (F := Ideal))) ⟨m', fun _ => 0, g'⟩ (fun r => ∀ c : Dev Cert.PlainQueriesIdeal.nD,
          r.2.mem ((c.tc : Thread Cert.PlainQueriesIdeal.nD Cert.PlainQueriesIdeal.τ).loc Cert.PlainQueriesIdeal.main_v0_0) = v0 c
          ∧ r.2.mem ((c.tc : Thread Cert.PlainQueriesIdeal.nD Cert.PlainQueriesIdeal.τ).loc Cert.PlainQueriesIdeal.main_v0_1) = v1 c
          ∧ r.2.mem ((c.tc : Thread Cert.PlainQueriesIdeal.nD Cert.PlainQueriesIdeal.τ).loc Cert.PlainQueriesIdeal.main_arg0) = m' ((c.tc : Thread Cert.PlainQueriesIdeal.nD Cert.PlainQueriesIdeal.τ).loc Cert.PlainQueriesIdeal.main_arg0)
          ∧ r.2.mem ((c.tc : Thread Cert.PlainQueriesIdeal.nD Cert.PlainQueriesIdeal.τ).loc Cert.PlainQueriesIdeal.main_arg1) = m' ((c.tc : Thread Cert.PlainQueriesIdeal.nD Cert.PlainQueriesIdeal.τ).loc Cert.PlainQueriesIdeal.main_arg1)
          ∧ r.2.mem ((c.tc : Thread Cert.PlainQueriesIdeal.nD Cert.PlainQueriesIdeal.τ).loc Cert.PlainQueriesIdeal.main_arg2) = m' ((c.tc : Thread Cert.PlainQueriesIdeal.nD Cert.PlainQueriesIdeal.τ).loc Cert.PlainQueriesIdeal.main_arg2)
          ∧ r.2.mem ((c.tc : Thread Cert.PlainQueriesIdeal.nD Cert.PlainQueriesIdeal.τ).loc Cert.PlainQueriesIdeal.main_arg3) = m' ((c.tc : Thread Cert.PlainQueriesIdeal.nD Cert.PlainQueriesIdeal.τ).loc Cert.PlainQueriesIdeal.main_arg3)
          ∧ r.2.mem ((c.tc : Thread Cert.PlainQueriesIdeal.nD Cert.PlainQueriesIdeal.τ).loc Cert.PlainQueriesIdeal.main_arg4) = m' ((c.tc : Thread Cert.PlainQueriesIdeal.nD Cert.PlainQueriesIdeal.τ).loc Cert.PlainQueriesIdeal.main_arg4)
          ∧ r.2.mem ((c.tc : Thread Cert.PlainQueriesIdeal.nD Cert.PlainQueriesIdeal.τ).loc Cert.PlainQueriesIdeal.main_arg5) = m' ((c.tc : Thread Cert.PlainQueriesIdeal.nD Cert.PlainQueriesIdeal.τ).loc Cert.PlainQueriesIdeal.main_arg5)
          ∧ r.2.mem ((c.tc : Thread Cert.PlainQueriesIdeal.nD Cert.PlainQueriesIdeal.τ).loc Cert.PlainQueriesIdeal.main_arg6) = m' ((c.tc : Thread Cert.PlainQueriesIdeal.nD Cert.PlainQueriesIdeal.τ).loc Cert.PlainQueriesIdeal.main_arg6)
          ∧ r.2.mem ((c.tc : Thread Cert.PlainQueriesIdeal.nD Cert.PlainQueriesIdeal.τ).loc Cert.PlainQueriesIdeal.main_arg7) = m' ((c.tc : Thread Cert.PlainQueriesIdeal.nD Cert.PlainQueriesIdeal.τ).loc Cert.PlainQueriesIdeal.main_arg7)
          ∧ r.2.mem ((c.tc : Thread Cert.PlainQueriesIdeal.nD Cert.PlainQueriesIdeal.τ).loc Cert.PlainQueriesIdeal.main_arg8) = m' ((c.tc : Thread Cert.PlainQueriesIdeal.nD Cert.PlainQueriesIdeal.τ).loc Cert.PlainQueriesIdeal.main_arg8))

def Claim : Prop :=
  ∃ (hScores : Cert.Scores.Facts) (hScoresIdeal : Cert.ScoresIdeal.Facts) (hIndexScoresIdeal : Cert.IndexScoresIdeal.Facts) (hQueries : Cert.Queries.Facts) (hQueriesIdeal : Cert.QueriesIdeal.Facts) (hPlainQueriesIdeal : Cert.PlainQueriesIdeal.Facts) (hPre_tame : Cert.Pre_tame.Facts),
    quiescent_Scores (hScores := hScores)
    ∧ quiescent_ScoresIdeal (hScoresIdeal := hScoresIdeal)
    ∧ quiescent_ScoresIdeal_pre_tame (hScoresIdeal := hScoresIdeal) (hPre_tame := hPre_tame)
    ∧ quiescent_IndexScoresIdeal (hIndexScoresIdeal := hIndexScoresIdeal)
    ∧ quiescent_IndexScoresIdeal_pre_tame (hIndexScoresIdeal := hIndexScoresIdeal) (hPre_tame := hPre_tame)
    ∧ quiescent_Queries (hQueries := hQueries)
    ∧ quiescent_QueriesIdeal (hQueriesIdeal := hQueriesIdeal)
    ∧ quiescent_PlainQueriesIdeal (hPlainQueriesIdeal := hPlainQueriesIdeal)
    ∧ preserves_Scores_ScoresIdeal
    ∧ algebraic_ScoresIdeal_IndexScoresIdeal_pre_tame (hScoresIdeal := hScoresIdeal) (hIndexScoresIdeal := hIndexScoresIdeal) (hPre_tame := hPre_tame)
    ∧ preserves_Queries_QueriesIdeal
    ∧ algebraic_QueriesIdeal_PlainQueriesIdeal (hQueriesIdeal := hQueriesIdeal) (hPlainQueriesIdeal := hPlainQueriesIdeal)
-- ==== Pre_tame.lean ====
abbrev S10 : Shape := ⟨1, ![10]⟩
abbrev S2112x5120 : Shape := ⟨2, ![2112, 5120]⟩
abbrev S10x64x128 : Shape := ⟨3, ![10, 64, 128]⟩
abbrev S10x64 : Shape := ⟨2, ![10, 64]⟩
abbrev S10x1x128 : Shape := ⟨3, ![10, 1, 128]⟩
abbrev S64x5120 : Shape := ⟨2, ![64, 5120]⟩
abbrev S64x10x4x2x64 : Shape := ⟨5, ![64, 10, 4, 2, 64]⟩
abbrev S_ : Shape := ⟨0, ![]⟩
abbrev S1x10x1x1x1 : Shape := ⟨5, ![1, 10, 1, 1, 1]⟩

class Facts : Prop where
  slices_S2112x5120_S64x5120_2048_0 : S2112x5120.Slices ![2048, 0] S64x5120
  shapeCasts_S64x5120_S64x10x4x2x64 : S64x5120.ShapeCasts S64x10x4x2x64
  bcast_S_S64x10x4x2x64 : S_.BroadcastsInDim S64x10x4x2x64 (![] : Fin 0 → Fin S64x10x4x2x64.rank)
  bcast_S10_S1x10x1x1x1_1 : S10.BroadcastsInDim S1x10x1x1x1 (![1] : Fin 1 → Fin S1x10x1x1x1.rank)
  bcast_S1x10x1x1x1_S64x10x4x2x64_0_1_2_3_4 : S1x10x1x1x1.BroadcastsInDim S64x10x4x2x64 (![0, 1, 2, 3, 4] : Fin 5 → Fin S64x10x4x2x64.rank)
  bcast_S_S10 : S_.BroadcastsInDim S10 (![] : Fin 0 → Fin S10.rank)
  bcast_S_S10x64 : S_.BroadcastsInDim S10x64 (![] : Fin 0 → Fin S10x64.rank)

variable [Facts]

def fn_part1 {F : FTy → Type} [FloatOps F] (main_arg0 : IVec S10 32) (main_arg3 : FVec F S10x64 .f32) (main_arg6 : FVec F S10 .f32) (main_v2 : FVec F S64x10x4x2x64 .f32) (main_v19 : IVec S64x10x4x2x64 1) (main_c_2 : IVec S_ 32) : IVec S10 1 × IVec S10x64 1 × IVec S64x10x4x2x64 1 × IVec S10 1 × IVec S10 1 :=
  let main_v20 : IVec S10 32 := broadcastInDim S10 ![] bcast_S_S10 main_c_2
  let main_v21 : IVec S10 1 := cmpi .sle main_arg0 main_v20
  let main_cst : FVec F S_ .f32 := constant S_ .f32 0x00000000#32
  let main_v22 : FVec F S10x64 .f32 := broadcastInDim S10x64 ![] bcast_S_S10x64 main_cst
  let main_v23 : IVec S10x64 1 := cmpf .oge main_arg3 main_v22
  let main_cst_3 : FVec F S_ .f32 := constant S_ .f32 0x00000000#32
  let main_v24 : FVec F S64x10x4x2x64 .f32 := broadcastInDim S64x10x4x2x64 ![] bcast_S_S64x10x4x2x64 main_cst_3
  let main_v25 : IVec S64x10x4x2x64 1 := cmpf .oge main_v2 main_v24
  let main_cst_4 : FVec F S_ .f32 := constant S_ .f32 0x7F800000#32
  let main_v26 : FVec F S64x10x4x2x64 .f32 := broadcastInDim S64x10x4x2x64 ![] bcast_S_S64x10x4x2x64 main_cst_4
  let main_v27 : IVec S64x10x4x2x64 1 := cmpf .olt main_v2 main_v26
  let main_v28 : IVec S64x10x4x2x64 1 := andi main_v25 main_v27
  let main_v29 : IVec S64x10x4x2x64 1 := ori main_v19 main_v28
  let main_cst_5 : FVec F S_ .f32 := constant S_ .f32 0x00000000#32
  let main_v30 : FVec F S10 .f32 := broadcastInDim S10 ![] bcast_S_S10 main_cst_5
  let main_v31 : IVec S10 1 := cmpf .oge main_arg6 main_v30
  let main_cst_6 : FVec F S_ .f32 := constant S_ .f32 0x7F800000#32
  let main_v32 : FVec F S10 .f32 := broadcastInDim S10 ![] bcast_S_S10 main_cst_6
  let main_v33 : IVec S10 1 := cmpf .olt main_arg6 main_v32
  (main_v21, main_v23, main_v29, main_v31, main_v33)

def fn {F : FTy → Type} [FloatOps F] (main_arg0 : IVec S10 32) (main_arg1 : IVec S2112x5120 32) (main_arg2 : FVec F S10x64x128 .fp8e4m3) (main_arg3 : FVec F S10x64 .f32) (main_arg4 : FVec F S10x64 .f32) (main_arg5 : FVec F S10x1x128 .fp8e4m3) (main_arg6 : FVec F S10 .f32) : IVec S10 1 × IVec S10x64 1 × IVec S64x10x4x2x64 1 × IVec S10 1 × IVec S10 1 :=
  let main_v0 : IVec S64x5120 32 := (extractStridedSlice S64x5120 ![2048, 0] · slices_S2112x5120_S64x5120_2048_0) main_arg1
  let main_v1 : IVec S64x10x4x2x64 32 := shapeCast S64x10x4x2x64 main_v0 shapeCasts_S64x5120_S64x10x4x2x64
  let main_v2 : FVec F S64x10x4x2x64 .f32 := bitcastToFloat .f32 main_v1
  let main_v3 : IVec S64x10x4x2x64 32 := iotaInDim S64x10x4x2x64 32 0
  let main_v4 : IVec S64x10x4x2x64 32 := iotaInDim S64x10x4x2x64 32 1
  let main_v5 : IVec S64x10x4x2x64 32 := iotaInDim S64x10x4x2x64 32 2
  let main_v6 : IVec S64x10x4x2x64 32 := iotaInDim S64x10x4x2x64 32 3
  let main_v7 : IVec S64x10x4x2x64 32 := iotaInDim S64x10x4x2x64 32 4
  let main_c : IVec S_ 32 := constantI S_ 32 8192#32
  let main_v8 : IVec S64x10x4x2x64 32 := broadcastInDim S64x10x4x2x64 ![] bcast_S_S64x10x4x2x64 main_c
  let main_v9 : IVec S64x10x4x2x64 32 := muli main_v5 main_v8
  let main_c_0 : IVec S_ 32 := constantI S_ 32 128#32
  let main_v10 : IVec S64x10x4x2x64 32 := broadcastInDim S64x10x4x2x64 ![] bcast_S_S64x10x4x2x64 main_c_0
  let main_v11 : IVec S64x10x4x2x64 32 := muli main_v7 main_v10
  let main_v12 : IVec S64x10x4x2x64 32 := addi main_v9 main_v11
  let main_c_1 : IVec S_ 32 := constantI S_ 32 64#32
  let main_v13 : IVec S64x10x4x2x64 32 := broadcastInDim S64x10x4x2x64 ![] bcast_S_S64x10x4x2x64 main_c_1
  let main_v14 : IVec S64x10x4x2x64 32 := muli main_v6 main_v13
  let main_v15 : IVec S64x10x4x2x64 32 := addi main_v12 main_v14
  let main_v16 : IVec S64x10x4x2x64 32 := addi main_v15 main_v3
  let main_v17 : IVec S1x10x1x1x1 32 := broadcastInDim S1x10x1x1x1 ![1] bcast_S10_S1x10x1x1x1_1 main_arg0
  let main_v18 : IVec S64x10x4x2x64 32 := broadcastInDim S64x10x4x2x64 ![0, 1, 2, 3, 4] bcast_S1x10x1x1x1_S64x10x4x2x64_0_1_2_3_4 main_v17
  let main_v19 : IVec S64x10x4x2x64 1 := cmpi .sge main_v16 main_v18
  let main_c_2 : IVec S_ 32 := constantI S_ 32 2147475456#32
  fn_part1 (F := F) main_arg0 main_arg3 main_arg6 main_v2 main_v19 main_c_2
-- ==== Scores.lean ====
abbrev S10 : Shape := ⟨1, ![10]⟩
abbrev S2112x5120 : Shape := ⟨2, ![2112, 5120]⟩
abbrev S10x64x128 : Shape := ⟨3, ![10, 64, 128]⟩
abbrev S10x64 : Shape := ⟨2, ![10, 64]⟩
abbrev S10x1x128 : Shape := ⟨3, ![10, 1, 128]⟩
abbrev S64x10 : Shape := ⟨2, ![64, 10]⟩
abbrev S_ : Shape := ⟨0, ![]⟩
abbrev S64x118 : Shape := ⟨2, ![64, 118]⟩
abbrev S64x128 : Shape := ⟨2, ![64, 128]⟩
abbrev S10x256x128 : Shape := ⟨3, ![10, 256, 128]⟩
abbrev S2112x128 : Shape := ⟨2, ![2112, 128]⟩
abbrev S1 : Shape := ⟨1, ![1]⟩
abbrev S1x64x128 : Shape := ⟨3, ![1, 64, 128]⟩
abbrev S1x1x128 : Shape := ⟨3, ![1, 1, 128]⟩
abbrev S64 : Shape := ⟨1, ![64]⟩
abbrev S64x1 : Shape := ⟨2, ![64, 1]⟩
abbrev S32x128 : Shape := ⟨2, ![32, 128]⟩
abbrev S128x128 : Shape := ⟨2, ![128, 128]⟩
abbrev S128x256 : Shape := ⟨2, ![128, 256]⟩
abbrev S64x256 : Shape := ⟨2, ![64, 256]⟩
abbrev S128 : Shape := ⟨1, ![128]⟩
abbrev S1x128 : Shape := ⟨2, ![1, 128]⟩
abbrev S64x64 : Shape := ⟨2, ![64, 64]⟩
abbrev S1x1 : Shape := ⟨2, ![1, 1]⟩

abbrev nBuf : Space → Nat
  | .hbm => 12
  | .vmem => 9
  | .smem => 2
  | _ => 0

abbrev bufTy : (tb : Table) → Fin (tcTables nBuf tb) → BufTy
  | .hbm, ⟨0, _⟩ => ⟨S2112x5120, .i32⟩
  | .hbm, ⟨1, _⟩ => ⟨S10x64x128, .fp8e4m3⟩
  | .hbm, ⟨2, _⟩ => ⟨S10x64, .f32⟩
  | .hbm, ⟨3, _⟩ => ⟨S10x64, .f32⟩
  | .hbm, ⟨4, _⟩ => ⟨S10x1x128, .fp8e4m3⟩
  | .hbm, ⟨5, _⟩ => ⟨S10, .f32⟩
  | .hbm, ⟨6, _⟩ => ⟨S10x64, .f32⟩
  | .hbm, ⟨7, _⟩ => ⟨S64x10, .f32⟩
  | .hbm, ⟨8, _⟩ => ⟨S_, .f32⟩
  | .hbm, ⟨9, _⟩ => ⟨S64x118, .f32⟩
  | .hbm, ⟨10, _⟩ => ⟨S64x128, .f32⟩
  | .hbm, ⟨11, _⟩ => ⟨S10x256x128, .f32⟩
  | .local _ .vmem, ⟨0, _⟩ => ⟨S2112x128, .i32⟩
  | .local _ .vmem, ⟨1, _⟩ => ⟨S2112x128, .i32⟩
  | .local _ .vmem, ⟨2, _⟩ => ⟨S1x64x128, .fp8e4m3⟩
  | .local _ .vmem, ⟨3, _⟩ => ⟨S1x64x128, .fp8e4m3⟩
  | .local _ .vmem, ⟨4, _⟩ => ⟨S64x128, .f32⟩
  | .local _ .vmem, ⟨5, _⟩ => ⟨S1x1x128, .fp8e4m3⟩
  | .local _ .vmem, ⟨6, _⟩ => ⟨S1x1x128, .fp8e4m3⟩
  | .local _ .vmem, ⟨7, _⟩ => ⟨S1x64x128, .f32⟩
  | .local _ .vmem, ⟨8, _⟩ => ⟨S1x64x128, .f32⟩
  | .local _ .smem, ⟨0, _⟩ => ⟨S10, .i32⟩
  | .local _ .smem, ⟨1, _⟩ => ⟨S10, .f32⟩
  | _, _ => ⟨S2112x5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![10, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v621 : Index := Scalar.indexCast arg0
  ![v621.toNat]
def k0_cond1 (i : grid0.Coords) (v1 : BitVec 32) : BitVec 1 :=
  let arg1 : BitVec 32 := BitVec.ofNat 32 (i 1).val
  let c8192_i32 : BitVec 32 := 8192#32
  let v2 : BitVec 32 := Scalar.muli arg1 c8192_i32
  let v3 : BitVec 1 := Scalar.cmpi .sgt v2 v1
  let v4 : BitVec 32 := Scalar.extui v3
  let c0_i32 : BitVec 32 := 0#32
  let v5 : BitVec 1 := Scalar.cmpi .ne v4 c0_i32
  v5

def k0_cond2 (i : grid0.Coords) (v1 : BitVec 32) : BitVec 1 :=
  let arg1 : BitVec 32 := BitVec.ofNat 32 (i 1).val
  let c8192_i32 : BitVec 32 := 8192#32
  let v2 : BitVec 32 := Scalar.muli arg1 c8192_i32
  let v6 : BitVec 1 := Scalar.cmpi .sle v2 v1
  let v7 : BitVec 32 := Scalar.extui v6
  let c0_i32_0 : BitVec 32 := 0#32
  let v8 : BitVec 1 := Scalar.cmpi .ne v7 c0_i32_0
  v8

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c8192_i32 : BitVec 32 := 8192#32
  let v2 : BitVec 32 := Scalar.addi v1 c8192_i32
  let c1_i32 : BitVec 32 := 1#32
  let v3 : BitVec 32 := Scalar.subi v2 c1_i32
  let c8192_i32_0 : BitVec 32 := 8192#32
  let v4 : BitVec 32 := Scalar.divsi v3 c8192_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8192_i32_0 c0_i32_2
  let v11 : BitVec 32 := Scalar.extui v10
  let c0_i32_3 : BitVec 32 := 0#32
  let v12 : BitVec 1 := Scalar.cmpi .slt c8192_i32_0 c0_i32_3
  let v13 : BitVec 32 := Scalar.extui v12
  let v14 : BitVec 32 := Scalar.subi v11 v13
  let v15 : BitVec 1 := Scalar.cmpi .ne v9 v14
  let v16 : BitVec 32 := Scalar.remsi v3 c8192_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c4_i32 : BitVec 32 := 4#32
  let v22 : BitVec 32 := Scalar.muli arg0 c4_i32
  let c0_i32_7 : BitVec 32 := 0#32
  let v23 : BitVec 32 := Scalar.maxsi v21 c0_i32_7
  let v24 : BitVec 32 := Scalar.minsi arg1 v23
  let v25 : BitVec 32 := Scalar.addi v22 v24
  let c0_i32_8 : BitVec 32 := 0#32
  let c0_i32_9 : BitVec 32 := 0#32
  ![c0_i32_8.toNat, v25.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2112x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== IndexScoresIdeal.lean ====
abbrev S10 : Shape := ⟨1, ![10]⟩
abbrev S2112x5120 : Shape := ⟨2, ![2112, 5120]⟩
abbrev S10x64x128 : Shape := ⟨3, ![10, 64, 128]⟩
abbrev S10x64 : Shape := ⟨2, ![10, 64]⟩
abbrev S10x1x128 : Shape := ⟨3, ![10, 1, 128]⟩
abbrev S2112x10x4x2x64 : Shape := ⟨5, ![2112, 10, 4, 2, 64]⟩
abbrev S10x4x64x2x2112 : Shape := ⟨5, ![10, 4, 64, 2, 2112]⟩
abbrev S10x512x2112 : Shape := ⟨3, ![10, 512, 2112]⟩
abbrev S10x512x2048 : Shape := ⟨3, ![10, 512, 2048]⟩
abbrev S10x32768x32 : Shape := ⟨3, ![10, 32768, 32]⟩
abbrev S10x32768x32x1 : Shape := ⟨4, ![10, 32768, 32, 1]⟩
abbrev S4 : Shape := ⟨1, ![4]⟩
abbrev S_ : Shape := ⟨0, ![]⟩
abbrev S1x1x1x4 : Shape := ⟨4, ![1, 1, 1, 4]⟩
abbrev S10x32768x32x4 : Shape := ⟨4, ![10, 32768, 32, 4]⟩
abbrev S10x32768x128 : Shape := ⟨3, ![10, 32768, 128]⟩
abbrev S10x512x64 : Shape := ⟨3, ![10, 512, 64]⟩
abbrev S10x32768 : Shape := ⟨2, ![10, 32768]⟩
abbrev S10x1 : Shape := ⟨2, ![10, 1]⟩
abbrev S10x256x128 : Shape := ⟨3, ![10, 256, 128]⟩
abbrev S10x64x32768 : Shape := ⟨3, ![10, 64, 32768]⟩
abbrev S10x64x1 : Shape := ⟨3, ![10, 64, 1]⟩
abbrev S10x1x32768 : Shape := ⟨3, ![10, 1, 32768]⟩
abbrev S10x1x1 : Shape := ⟨3, ![10, 1, 1]⟩

abbrev nBuf : Space → Nat
  | .hbm => 33
  | .vmem => 9
  | .smem => 0
  | _ => 0

abbrev bufTy : (tb : Table) → Fin (tcTables nBuf tb) → BufTy
  | .hbm, ⟨0, _⟩ => ⟨S10, .i32⟩
  | .hbm, ⟨1, _⟩ => ⟨S2112x5120, .i32⟩
  | .hbm, ⟨2, _⟩ => ⟨S10x64x128, .fp8e4m3⟩
  | .hbm, ⟨3, _⟩ => ⟨S10x64, .f32⟩
  | .hbm, ⟨4, _⟩ => ⟨S10x64, .f32⟩
  | .hbm, ⟨5, _⟩ => ⟨S10x1x128, .fp8e4m3⟩
  | .hbm, ⟨6, _⟩ => ⟨S10, .f32⟩
  | .hbm, ⟨7, _⟩ => ⟨S2112x10x4x2x64, .i32⟩
  | .hbm, ⟨8, _⟩ => ⟨S10x4x64x2x2112, .i32⟩
  | .hbm, ⟨9, _⟩ => ⟨S10x512x2112, .i32⟩
  | .hbm, ⟨10, _⟩ => ⟨S10x512x2048, .i32⟩
  | .hbm, ⟨11, _⟩ => ⟨S10x32768x32, .i32⟩
  | .hbm, ⟨12, _⟩ => ⟨S10x32768x32, .i32⟩
  | .hbm, ⟨13, _⟩ => ⟨S10x32768x32x1, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S1x1x1x4, .i32⟩
  | .hbm, ⟨19, _⟩ => ⟨S10x32768x32x4, .i32⟩
  | .hbm, ⟨20, _⟩ => ⟨S10x32768x32x4, .i32⟩
  | .hbm, ⟨21, _⟩ => ⟨S10x32768x32x4, .i32⟩
  | .hbm, ⟨22, _⟩ => ⟨S_, .i32⟩
  | .hbm, ⟨23, _⟩ => ⟨S10x32768x32x4, .i32⟩
  | .hbm, ⟨24, _⟩ => ⟨S10x32768x32x4, .i32⟩
  | .hbm, ⟨25, _⟩ => ⟨S10x32768x32x4, .i8⟩
  | .hbm, ⟨26, _⟩ => ⟨S10x32768x128, .i8⟩
  | .hbm, ⟨27, _⟩ => ⟨S10x512x64, .i32⟩
  | .hbm, ⟨28, _⟩ => ⟨S10x512x64, .f32⟩
  | .hbm, ⟨29, _⟩ => ⟨S10x32768, .f32⟩
  | .hbm, ⟨30, _⟩ => ⟨S10x1, .f32⟩
  | .hbm, ⟨31, _⟩ => ⟨S10x1, .i32⟩
  | .hbm, ⟨32, _⟩ => ⟨S10x256x128, .f32⟩
  | .local _ .vmem, ⟨0, _⟩ => ⟨S10x32768x128, .i8⟩
  | .local _ .vmem, ⟨1, _⟩ => ⟨S10x32768, .f32⟩
  | .local _ .vmem, ⟨2, _⟩ => ⟨S10x64x128, .fp8e4m3⟩
  | .local _ .vmem, ⟨3, _⟩ => ⟨S10x64, .f32⟩
  | .local _ .vmem, ⟨4, _⟩ => ⟨S10x64, .f32⟩
  | .local _ .vmem, ⟨5, _⟩ => ⟨S10x1x128, .fp8e4m3⟩
  | .local _ .vmem, ⟨6, _⟩ => ⟨S10x1, .f32⟩
  | .local _ .vmem, ⟨7, _⟩ => ⟨S10x1, .i32⟩
  | .local _ .vmem, ⟨8, _⟩ => ⟨S10x256x128, .f32⟩
  | _, _ => ⟨S10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S10x32768x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x64x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x1x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Queries.lean ====
abbrev S16x1536 : Shape := ⟨2, ![16, 1536]⟩
abbrev S10x32 : Shape := ⟨2, ![10, 32]⟩
abbrev S16x128 : Shape := ⟨2, ![16, 128]⟩
abbrev S12x64 : Shape := ⟨2, ![12, 64]⟩
abbrev S12x48 : Shape := ⟨2, ![12, 48]⟩
abbrev S1536x8192 : Shape := ⟨2, ![1536, 8192]⟩
abbrev S1536x6144 : Shape := ⟨2, ![1536, 6144]⟩
abbrev S32x128x512 : Shape := ⟨3, ![32, 128, 512]⟩
abbrev S_ : Shape := ⟨0, ![]⟩
abbrev S10x64 : Shape := ⟨2, ![10, 64]⟩
abbrev S10x32x2 : Shape := ⟨3, ![10, 32, 2]⟩
abbrev S10x128 : Shape := ⟨2, ![10, 128]⟩
abbrev S10x32x1 : Shape := ⟨3, ![10, 32, 1]⟩
abbrev S1x10x128 : Shape := ⟨3, ![1, 10, 128]⟩
abbrev S4x10x128 : Shape := ⟨3, ![4, 10, 128]⟩
abbrev S4x16x128 : Shape := ⟨3, ![4, 16, 128]⟩
abbrev S10x64x128 : Shape := ⟨3, ![10, 64, 128]⟩
abbrev S64x128 : Shape := ⟨2, ![64, 128]⟩
abbrev S10x32x512 : Shape := ⟨3, ![10, 32, 512]⟩
abbrev S10x32x64 : Shape := ⟨3, ![10, 32, 64]⟩
abbrev S1536x1024 : Shape := ⟨2, ![1536, 1024]⟩
abbrev S1536x768 : Shape := ⟨2, ![1536, 768]⟩
abbrev S4x128x512 : Shape := ⟨3, ![4, 128, 512]⟩
abbrev S1024x128 : Shape := ⟨2, ![1024, 128]⟩
abbrev S4x512x128 : Shape := ⟨3, ![4, 512, 128]⟩
abbrev S512x128 : Shape := ⟨2, ![512, 128]⟩
abbrev S1x1 : Shape := ⟨2, ![1, 1]⟩
abbrev S1536x256 : Shape := ⟨2, ![1536, 256]⟩
abbrev S32x1536 : Shape := ⟨2, ![32, 1536]⟩
abbrev S32x256 : Shape := ⟨2, ![32, 256]⟩
abbrev S16x256 : Shape := ⟨2, ![16, 256]⟩
abbrev S16x768 : Shape := ⟨2, ![16, 768]⟩
abbrev S1x16x128 : Shape := ⟨3, ![1, 16, 128]⟩
abbrev S16x64 : Shape := ⟨2, ![16, 64]⟩
abbrev S16x192 : Shape := ⟨2, ![16, 192]⟩
abbrev S1x128x512 : Shape := ⟨3, ![1, 128, 512]⟩
abbrev S128x512 : Shape := ⟨2, ![128, 512]⟩
abbrev S16x512 : Shape := ⟨2, ![16, 512]⟩
abbrev S128x128 : Shape := ⟨2, ![128, 128]⟩
abbrev S1x1x128 : Shape := ⟨3, ![1, 1, 128]⟩
abbrev S1x128 : Shape := ⟨2, ![1, 128]⟩
abbrev S64 : Shape := ⟨1, ![64]⟩
abbrev S64x1 : Shape := ⟨2, ![64, 1]⟩
abbrev S1x64x128 : Shape := ⟨3, ![1, 64, 128]⟩
abbrev S1x32x128 : Shape := ⟨3, ![1, 32, 128]⟩
abbrev S32x128 : Shape := ⟨2, ![32, 128]⟩
abbrev S32x64 : Shape := ⟨2, ![32, 64]⟩
abbrev S1x32x64 : Shape := ⟨3, ![1, 32, 64]⟩
abbrev S112x128 : Shape := ⟨2, ![112, 128]⟩

abbrev nBuf : Space → Nat
  | .hbm => 39
  | .vmem => 17
  | .smem => 2
  | _ => 0

abbrev bufTy : (tb : Table) → Fin (tcTables nBuf tb) → BufTy
  | .hbm, ⟨0, _⟩ => ⟨S16x1536, .bf16⟩
  | .hbm, ⟨1, _⟩ => ⟨S10x32, .f32⟩
  | .hbm, ⟨2, _⟩ => ⟨S10x32, .f32⟩
  | .hbm, ⟨3, _⟩ => ⟨S16x128, .f32⟩
  | .hbm, ⟨4, _⟩ => ⟨S12x64, .f32⟩
  | .hbm, ⟨5, _⟩ => ⟨S12x48, .f32⟩
  | .hbm, ⟨6, _⟩ => ⟨S1536x8192, .fp8e4m3⟩
  | .hbm, ⟨7, _⟩ => ⟨S1536x6144, .fp8e4m3⟩
  | .hbm, ⟨8, _⟩ => ⟨S32x128x512, .bf16⟩
  | .hbm, ⟨9, _⟩ => ⟨S_, .f32⟩
  | .hbm, ⟨10, _⟩ => ⟨S10x64, .f32⟩
  | .hbm, ⟨11, _⟩ => ⟨S10x32x2, .f32⟩
  | .hbm, ⟨12, _⟩ => ⟨S10x64, .f32⟩
  | .hbm, ⟨13, _⟩ => ⟨S10x128, .f32⟩
  | .hbm, ⟨14, _⟩ => ⟨S10x32, .f32⟩
  | .hbm, ⟨15, _⟩ => ⟨S10x32x1, .f32⟩
  | .hbm, ⟨16, _⟩ => ⟨S10x32x1, .f32⟩
  | .hbm, ⟨17, _⟩ => ⟨S10x32x2, .f32⟩
  | .hbm, ⟨18, _⟩ => ⟨S10x64, .f32⟩
  | .hbm, ⟨19, _⟩ => ⟨S10x128, .f32⟩
  | .hbm, ⟨20, _⟩ => ⟨S_, .f32⟩
  | .hbm, ⟨21, _⟩ => ⟨S10x64, .f32⟩
  | .hbm, ⟨22, _⟩ => ⟨S10x64, .f32⟩
  | .hbm, ⟨23, _⟩ => ⟨S10x128, .f32⟩
  | .hbm, ⟨24, _⟩ => ⟨S10x32, .f32⟩
  | .hbm, ⟨25, _⟩ => ⟨S10x128, .f32⟩
  | .hbm, ⟨26, _⟩ => ⟨S1x10x128, .f32⟩
  | .hbm, ⟨27, _⟩ => ⟨S1x10x128, .f32⟩
  | .hbm, ⟨28, _⟩ => ⟨S1x10x128, .f32⟩
  | .hbm, ⟨29, _⟩ => ⟨S1x10x128, .f32⟩
  | .hbm, ⟨30, _⟩ => ⟨S4x10x128, .f32⟩
  | .hbm, ⟨31, _⟩ => ⟨S_, .i32⟩
  | .hbm, ⟨32, _⟩ => ⟨S_, .f32⟩
  | .hbm, ⟨33, _⟩ => ⟨S4x16x128, .f32⟩
  | .hbm, ⟨34, _⟩ => ⟨S10x64x128, .fp8e4m3⟩
  | .hbm, ⟨35, _⟩ => ⟨S10x64, .f32⟩
  | .hbm, ⟨36, _⟩ => ⟨S64x128, .f32⟩
  | .hbm, ⟨37, _⟩ => ⟨S10x32x512, .bf16⟩
  | .hbm, ⟨38, _⟩ => ⟨S10x32x64, .bf16⟩
  | .local _ .vmem, ⟨0, _⟩ => ⟨S16x1536, .bf16⟩
  | .local _ .vmem, ⟨1, _⟩ => ⟨S4x16x128, .f32⟩
  | .local _ .vmem, ⟨2, _⟩ => ⟨S16x128, .f32⟩
  | .local _ .vmem, ⟨3, _⟩ => ⟨S1536x1024, .fp8e4m3⟩
  | .local _ .vmem, ⟨4, _⟩ => ⟨S1536x1024, .fp8e4m3⟩
  | .local _ .vmem, ⟨5, _⟩ => ⟨S1536x768, .fp8e4m3⟩
  | .local _ .vmem, ⟨6, _⟩ => ⟨S1536x768, .fp8e4m3⟩
  | .local _ .vmem, ⟨7, _⟩ => ⟨S4x128x512, .bf16⟩
  | .local _ .vmem, ⟨8, _⟩ => ⟨S4x128x512, .bf16⟩
  | .local _ .vmem, ⟨9, _⟩ => ⟨S10x64x128, .fp8e4m3⟩
  | .local _ .vmem, ⟨10, _⟩ => ⟨S10x64, .f32⟩
  | .local _ .vmem, ⟨11, _⟩ => ⟨S64x128, .f32⟩
  | .local _ .vmem, ⟨12, _⟩ => ⟨S10x32x512, .bf16⟩
  | .local _ .vmem, ⟨13, _⟩ => ⟨S10x32x64, .bf16⟩
  | .local _ .vmem, ⟨14, _⟩ => ⟨S1024x128, .f32⟩
  | .local _ .vmem, ⟨15, _⟩ => ⟨S4x512x128, .f32⟩
  | .local _ .vmem, ⟨16, _⟩ => ⟨S512x128, .f32⟩
  | .local _ .smem, ⟨0, _⟩ => ⟨S12x64, .f32⟩
  | .local _ .smem, ⟨1, _⟩ => ⟨S12x48, .f32⟩
  | _, _ => ⟨S16x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let c0_12 : Index := 0#32
  let arg0 : BitVec 32 := BitVec.ofNat 32 (i 0).val
  let c8_i32 : BitVec 32 := 8#32
  let v12 : BitVec 32 := Scalar.muli arg0 c8_i32
  let v13 : BitVec 32 := Scalar.addi v12 c0_i32
  let v14 : Index := Scalar.indexCast v13
  ![0, v14.toNat]
def k0_off2 (i : grid0.Coords) (c0_i32 : BitVec 32) : Fin 2 → Nat :=
  let c1 : Index := 1#32
  let arg0 : BitVec 32 := BitVec.ofNat 32 (i 0).val
  let c8_i32 : BitVec 32 := 8#32
  let v12 : BitVec 32 := Scalar.muli arg0 c8_i32
  let v13 : BitVec 32 := Scalar.addi v12 c0_i32
  let v16 : Index := Scalar.indexCast v13
  ![1, v16.toNat]
def k0_off3 (i : grid0.Coords) (c0_i32 : BitVec 32) : Fin 2 → Nat :=
  let c2 : Index := 2#32
  let arg0 : BitVec 32 := BitVec.ofNat 32 (i 0).val
  let c8_i32 : BitVec 32 := 8#32
  let v12 : BitVec 32 := Scalar.muli arg0 c8_i32
  let v13 : BitVec 32 := Scalar.addi v12 c0_i32
  let v18 : Index := Scalar.indexCast v13
  ![2, v18.toNat]
def k0_off4 (i : grid0.Coords) (c0_i32 : BitVec 32) : Fin 2 → Nat :=
  let c3 : Index := 3#32
  let arg0 : BitVec 32 := BitVec.ofNat 32 (i 0).val
  let c8_i32 : BitVec 32 := 8#32
  let v12 : BitVec 32 := Scalar.muli arg0 c8_i32
  let v13 : BitVec 32 := Scalar.addi v12 c0_i32
  let v20 : Index := Scalar.indexCast v13
  ![3, v20.toNat]
def k0_off5 (i : grid0.Coords) (c0_i32 : BitVec 32) : Fin 2 → Nat :=
  let c4 : Index := 4#32
  let arg0 : BitVec 32 := BitVec.ofNat 32 (i 0).val
  let c8_i32 : BitVec 32 := 8#32
  let v12 : BitVec 32 := Scalar.muli arg0 c8_i32
  let v13 : BitVec 32 := Scalar.addi v12 c0_i32
  let v22 : Index := Scalar.indexCast v13
  ![4, v22.toNat]
def k0_off6 (i : grid0.Coords) (c0_i32 : BitVec 32) : Fin 2 → Nat :=
  let c5 : Index := 5#32
  let arg0 : BitVec 32 := BitVec.ofNat 32 (i 0).val
  let c8_i32 : BitVec 32 := 8#32
  let v12 : BitVec 32 := Scalar.muli arg0 c8_i32
  let v13 : BitVec 32 := Scalar.addi v12 c0_i32
  let v24 : Index := Scalar.indexCast v13
  ![5, v24.toNat]
def k0_off7 (i : grid0.Coords) (c0_i32 : BitVec 32) : Fin 2 → Nat :=
  let c6 : Index := 6#32
  let arg0 : BitVec 32 := BitVec.ofNat 32 (i 0).val
  let c8_i32 : BitVec 32 := 8#32
  let v12 : BitVec 32 := Scalar.muli arg0 c8_i32
  let v13 : BitVec 32 := Scalar.addi v12 c0_i32
  let v26 : Index := Scalar.indexCast v13
  ![6, v26.toNat]
def k0_off8 (i : grid0.Coords) (c0_i32 : BitVec 32) : Fin 2 → Nat :=
  let c7 : Index := 7#32
  let arg0 : BitVec 32 := BitVec.ofNat 32 (i 0).val
  let c8_i32 : BitVec 32 := 8#32
  let v12 : BitVec 32 := Scalar.muli arg0 c8_i32
  let v13 : BitVec 32 := Scalar.addi v12 c0_i32
  let v28 : Index := Scalar.indexCast v13
  ![7, v28.toNat]
def k0_off9 (i : grid0.Coords) (c0_i32 : BitVec 32) : Fin 2 → Nat :=
  let c8 : Index := 8#32
  let arg0 : BitVec 32 := BitVec.ofNat 32 (i 0).val
  let c8_i32 : BitVec 32 := 8#32
  let v12 : BitVec 32 := Scalar.muli arg0 c8_i32
  let v13 : BitVec 32 := Scalar.addi v12 c0_i32
  let v30 : Index := Scalar.indexCast v13
  ![8, v30.toNat]
def k0_off10 (i : grid0.Coords) (c0_i32 : BitVec 32) : Fin 2 → Nat :=
  let c9 : Index := 9#32
  let arg0 : BitVec 32 := BitVec.ofNat 32 (i 0).val
  let c8_i32 : BitVec 32 := 8#32
  let v12 : BitVec 32 := Scalar.muli arg0 c8_i32
  let v13 : BitVec 32 := Scalar.addi v12 c0_i32
  let v32 : Index := Scalar.indexCast v13
  ![9, v32.toNat]
def k0_off11 (i : grid0.Coords) (c0_i32 : BitVec 32) : Fin 2 → Nat :=
  let c10 : Index := 10#32
  let arg0 : BitVec 32 := BitVec.ofNat 32 (i 0).val
  let c8_i32 : BitVec 32 := 8#32
  let v12 : BitVec 32 := Scalar.muli arg0 c8_i32
  let v13 : BitVec 32 := Scalar.addi v12 c0_i32
  let v34 : Index := Scalar.indexCast v13
  ![10, v34.toNat]
def k0_off12 (i : grid0.Coords) (c0_i32 : BitVec 32) : Fin 2 → Nat :=
  let c11 : Index := 11#32
  let arg0 : BitVec 32 := BitVec.ofNat 32 (i 0).val
  let c8_i32 : BitVec 32 := 8#32
  let v12 : BitVec 32 := Scalar.muli arg0 c8_i32
  let v13 : BitVec 32 := Scalar.addi v12 c0_i32
  let v36 : Index := Scalar.indexCast v13
  ![11, v36.toNat]
def k0_off13 (i : grid0.Coords) (c0_i32 : BitVec 32) : Fin 2 → Nat :=
  let c0_13 : Index := 0#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v39 : Index := Scalar.indexCast v38
  ![0, v39.toNat]
def k0_off14 (i : grid0.Coords) (c0_i32 : BitVec 32) : Fin 2 → Nat :=
  let c1_14 : Index := 1#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v41 : Index := Scalar.indexCast v38
  ![1, v41.toNat]
def k0_off15 (i : grid0.Coords) (c0_i32 : BitVec 32) : Fin 2 → Nat :=
  let c2_15 : Index := 2#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v43 : Index := Scalar.indexCast v38
  ![2, v43.toNat]
def k0_off16 (i : grid0.Coords) (c0_i32 : BitVec 32) : Fin 2 → Nat :=
  let c3_16 : Index := 3#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v45 : Index := Scalar.indexCast v38
  ![3, v45.toNat]
def k0_off17 (i : grid0.Coords) (c0_i32 : BitVec 32) : Fin 2 → Nat :=
  let c4_17 : Index := 4#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v47 : Index := Scalar.indexCast v38
  ![4, v47.toNat]
def k0_off18 (i : grid0.Coords) (c0_i32 : BitVec 32) : Fin 2 → Nat :=
  let c5_18 : Index := 5#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v49 : Index := Scalar.indexCast v38
  ![5, v49.toNat]
def k0_off19 (i : grid0.Coords) (c0_i32 : BitVec 32) : Fin 2 → Nat :=
  let c6_19 : Index := 6#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v51 : Index := Scalar.indexCast v38
  ![6, v51.toNat]
def k0_off20 (i : grid0.Coords) (c0_i32 : BitVec 32) : Fin 2 → Nat :=
  let c7_20 : Index := 7#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v53 : Index := Scalar.indexCast v38
  ![7, v53.toNat]
def k0_off21 (i : grid0.Coords) (c0_i32 : BitVec 32) : Fin 2 → Nat :=
  let c8_21 : Index := 8#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v55 : Index := Scalar.indexCast v38
  ![8, v55.toNat]
def k0_off22 (i : grid0.Coords) (c0_i32 : BitVec 32) : Fin 2 → Nat :=
  let c9_22 : Index := 9#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v57 : Index := Scalar.indexCast v38
  ![9, v57.toNat]
def k0_off23 (i : grid0.Coords) (c0_i32 : BitVec 32) : Fin 2 → Nat :=
  let c10_23 : Index := 10#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v59 : Index := Scalar.indexCast v38
  ![10, v59.toNat]
def k0_off24 (i : grid0.Coords) (c0_i32 : BitVec 32) : Fin 2 → Nat :=
  let c11_24 : Index := 11#32
  let arg0 : BitVec 32 := BitVec.ofNat 32 (i 0).val
  let c8_i32 : BitVec 32 := 8#32
  let v12 : BitVec 32 := Scalar.muli arg0 c8_i32
  let v13 : BitVec 32 := Scalar.addi v12 c0_i32
  let c1_i32 : BitVec 32 := 1#32
  let v38 : BitVec 32 := Scalar.addi v13 c1_i32
  let v61 : Index := Scalar.indexCast v38
  ![11, v61.toNat]
def k0_off25 (i : grid0.Coords) (c0_i32 : BitVec 32) (c0_i32_27 : BitVec 32) : Fin 2 → Nat :=
  let arg0 : BitVec 32 := BitVec.ofNat 32 (i 0).val
  let c8_i32 : BitVec 32 := 8#32
  let v12 : BitVec 32 := Scalar.muli arg0 c8_i32
  let v13 : BitVec 32 := Scalar.addi v12 c0_i32
  let v144 : BitVec 32 := Scalar.addi v13 c0_i32_27
  let v145 : Index := Scalar.indexCast v144
  let c0_28 : Index := 0#32
  ![v145.toNat, 0]
def k0_off26 (i : grid0.Coords) (c0_i32_131 : BitVec 32) : Fin 2 → Nat :=
  let c0_132 : Index := 0#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v586 : Index := Scalar.indexCast v585
  ![0, v586.toNat]
def k0_off27 (i : grid0.Coords) (c0_i32_131 : BitVec 32) : Fin 2 → Nat :=
  let c1_133 : Index := 1#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v588 : Index := Scalar.indexCast v585
  ![1, v588.toNat]
def k0_off28 (i : grid0.Coords) (c0_i32_131 : BitVec 32) : Fin 2 → Nat :=
  let c2_134 : Index := 2#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v590 : Index := Scalar.indexCast v585
  ![2, v590.toNat]
def k0_off29 (i : grid0.Coords) (c0_i32_131 : BitVec 32) : Fin 2 → Nat :=
  let c3_135 : Index := 3#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v592 : Index := Scalar.indexCast v585
  ![3, v592.toNat]
def k0_off30 (i : grid0.Coords) (c0_i32_131 : BitVec 32) : Fin 2 → Nat :=
  let c4_136 : Index := 4#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v594 : Index := Scalar.indexCast v585
  ![4, v594.toNat]
def k0_off31 (i : grid0.Coords) (c0_i32_131 : BitVec 32) : Fin 2 → Nat :=
  let c5_137 : Index := 5#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v596 : Index := Scalar.indexCast v585
  ![5, v596.toNat]
def k0_off32 (i : grid0.Coords) (c0_i32_131 : BitVec 32) : Fin 2 → Nat :=
  let c6_138 : Index := 6#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v598 : Index := Scalar.indexCast v585
  ![6, v598.toNat]
def k0_off33 (i : grid0.Coords) (c0_i32_131 : BitVec 32) : Fin 2 → Nat :=
  let c7_139 : Index := 7#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v600 : Index := Scalar.indexCast v585
  ![7, v600.toNat]
def k0_off34 (i : grid0.Coords) (c0_i32_131 : BitVec 32) : Fin 2 → Nat :=
  let c8_140 : Index := 8#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v602 : Index := Scalar.indexCast v585
  ![8, v602.toNat]
def k0_off35 (i : grid0.Coords) (c0_i32_131 : BitVec 32) : Fin 2 → Nat :=
  let c9_141 : Index := 9#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v604 : Index := Scalar.indexCast v585
  ![9, v604.toNat]
def k0_off36 (i : grid0.Coords) (c0_i32_131 : BitVec 32) : Fin 2 → Nat :=
  let c10_142 : Index := 10#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v606 : Index := Scalar.indexCast v585
  ![10, v606.toNat]
def k0_off37 (i : grid0.Coords) (c0_i32_131 : BitVec 32) : Fin 2 → Nat :=
  let c11_143 : Index := 11#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let v608 : Index := Scalar.indexCast v585
  ![11, v608.toNat]
def k0_off38 (i : grid0.Coords) (c0_i32_131 : BitVec 32) : Fin 2 → Nat :=
  let c0_145 : Index := 0#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v611 : Index := Scalar.indexCast v610
  ![0, v611.toNat]
def k0_off39 (i : grid0.Coords) (c0_i32_131 : BitVec 32) : Fin 2 → Nat :=
  let c1_146 : Index := 1#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v613 : Index := Scalar.indexCast v610
  ![1, v613.toNat]
def k0_off40 (i : grid0.Coords) (c0_i32_131 : BitVec 32) : Fin 2 → Nat :=
  let c2_147 : Index := 2#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v615 : Index := Scalar.indexCast v610
  ![2, v615.toNat]
def k0_off41 (i : grid0.Coords) (c0_i32_131 : BitVec 32) : Fin 2 → Nat :=
  let c3_148 : Index := 3#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v617 : Index := Scalar.indexCast v610
  ![3, v617.toNat]
def k0_off42 (i : grid0.Coords) (c0_i32_131 : BitVec 32) : Fin 2 → Nat :=
  let c4_149 : Index := 4#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v619 : Index := Scalar.indexCast v610
  ![4, v619.toNat]
def k0_off43 (i : grid0.Coords) (c0_i32_131 : BitVec 32) : Fin 2 → Nat :=
  let c5_150 : Index := 5#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v621 : Index := Scalar.indexCast v610
  ![5, v621.toNat]
def k0_off44 (i : grid0.Coords) (c0_i32_131 : BitVec 32) : Fin 2 → Nat :=
  let c6_151 : Index := 6#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v623 : Index := Scalar.indexCast v610
  ![6, v623.toNat]
def k0_off45 (i : grid0.Coords) (c0_i32_131 : BitVec 32) : Fin 2 → Nat :=
  let c7_152 : Index := 7#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v625 : Index := Scalar.indexCast v610
  ![7, v625.toNat]
def k0_off46 (i : grid0.Coords) (c0_i32_131 : BitVec 32) : Fin 2 → Nat :=
  let c8_153 : Index := 8#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v627 : Index := Scalar.indexCast v610
  ![8, v627.toNat]
def k0_off47 (i : grid0.Coords) (c0_i32_131 : BitVec 32) : Fin 2 → Nat :=
  let c9_154 : Index := 9#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v629 : Index := Scalar.indexCast v610
  ![9, v629.toNat]
def k0_off48 (i : grid0.Coords) (c0_i32_131 : BitVec 32) : Fin 2 → Nat :=
  let c10_155 : Index := 10#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v631 : Index := Scalar.indexCast v610
  ![10, v631.toNat]
def k0_off49 (i : grid0.Coords) (c0_i32_131 : BitVec 32) : Fin 2 → Nat :=
  let c11_156 : Index := 11#32
  let arg0 : BitVec 32 := BitVec.ofNat 32 (i 0).val
  let c6_i32_130 : BitVec 32 := 6#32
  let v584 : BitVec 32 := Scalar.muli arg0 c6_i32_130
  let v585 : BitVec 32 := Scalar.addi v584 c0_i32_131
  let c1_i32_144 : BitVec 32 := 1#32
  let v610 : BitVec 32 := Scalar.addi v585 c1_i32_144
  let v633 : Index := Scalar.indexCast v610
  ![11, v633.toNat]
def k0_off50 (i : grid0.Coords) (c0_i32_228 : BitVec 32) : Fin 3 → Nat :=
  let c0_233 : Index := 0#32
  let arg0 : BitVec 32 := BitVec.ofNat 32 (i 0).val
  let c4_i32_227 : BitVec 32 := 4#32
  let v983 : BitVec 32 := Scalar.muli arg0 c4_i32_227
  let v984 : BitVec 32 := Scalar.addi v983 c0_i32_228
  let v992 : Index := Scalar.indexCast v984
  let c0_234 : Index := 0#32
  ![0, v992.toNat, 0]
def k0_off51 (i : grid0.Coords) (c0_i32_228 : BitVec 32) : Fin 3 → Nat :=
  let c1_235 : Index := 1#32
  let arg0 : BitVec 32 := BitVec.ofNat 32 (i 0).val
  let c4_i32_227 : BitVec 32 := 4#32
  let v983 : BitVec 32 := Scalar.muli arg0 c4_i32_227
  let v984 : BitVec 32 := Scalar.addi v983 c0_i32_228
  let v997 : Index := Scalar.indexCast v984
  let c0_236 : Index := 0#32
  ![1, v997.toNat, 0]
def k0_off52 (i : grid0.Coords) (c0_i32_228 : BitVec 32) : Fin 3 → Nat :=
  let c2_237 : Index := 2#32
  let arg0 : BitVec 32 := BitVec.ofNat 32 (i 0).val
  let c4_i32_227 : BitVec 32 := 4#32
  let v983 : BitVec 32 := Scalar.muli arg0 c4_i32_227
  let v984 : BitVec 32 := Scalar.addi v983 c0_i32_228
  let v1002 : Index := Scalar.indexCast v984
  let c0_238 : Index := 0#32
  ![2, v1002.toNat, 0]
def k0_off53 (i : grid0.Coords) (c0_i32_228 : BitVec 32) : Fin 3 → Nat :=
  let c3_239 : Index := 3#32
  let arg0 : BitVec 32 := BitVec.ofNat 32 (i 0).val
  let c4_i32_227 : BitVec 32 := 4#32
  let v983 : BitVec 32 := Scalar.muli arg0 c4_i32_227
  let v984 : BitVec 32 := Scalar.addi v983 c0_i32_228
  let v1007 : Index := Scalar.indexCast v984
  let c0_240 : Index := 0#32
  ![3, v1007.toNat, 0]
def k0_off54 (i : grid0.Coords) (c0_i32_228 : BitVec 32) : Fin 2 → Nat :=
  let arg0 : BitVec 32 := BitVec.ofNat 32 (i 0).val
  let c4_i32_227 : BitVec 32 := 4#32
  let v983 : BitVec 32 := Scalar.muli arg0 c4_i32_227
  let v984 : BitVec 32 := Scalar.addi v983 c0_i32_228
  let v1038 : Index := Scalar.indexCast v984
  let c0_249 : Index := 0#32
  ![v1038.toNat, 0]
def k0_cond1 (i : grid0.Coords) : BitVec 1 :=
  let arg0 : BitVec 32 := BitVec.ofNat 32 (i 0).val
  let c7_i32 : BitVec 32 := 7#32
  let v1219 : BitVec 1 := Scalar.cmpi .eq arg0 c7_i32
  let v1220 : BitVec 32 := Scalar.extui v1219
  let c0_i32_321 : BitVec 32 := 0#32
  let v1221 : BitVec 1 := Scalar.cmpi .ne v1220 c0_i32_321
  v1221

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S12x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x768 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S10x64x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x32x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10x32x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PlainQueriesIdeal.lean ====
abbrev S16x1536 : Shape := ⟨2, ![16, 1536]⟩
abbrev S10x32 : Shape := ⟨2, ![10, 32]⟩
abbrev S16x128 : Shape := ⟨2, ![16, 128]⟩
abbrev S12x64 : Shape := ⟨2, ![12, 64]⟩
abbrev S12x48 : Shape := ⟨2, ![12, 48]⟩
abbrev S1536x8192 : Shape := ⟨2, ![1536, 8192]⟩
abbrev S1536x6144 : Shape := ⟨2, ![1536, 6144]⟩
abbrev S32x128x512 : Shape := ⟨3, ![32, 128, 512]⟩
abbrev S10x64x128 : Shape := ⟨3, ![10, 64, 128]⟩
abbrev S10x64 : Shape := ⟨2, ![10, 64]⟩
abbrev S10x1x32 : Shape := ⟨3, ![10, 1, 32]⟩
abbrev S10x1536 : Shape := ⟨2, ![10, 1536]⟩
abbrev S12x1x64 : Shape := ⟨3, ![12, 1, 64]⟩
abbrev S12x128x64 : Shape := ⟨3, ![12, 128, 64]⟩
abbrev S1536x64 : Shape := ⟨2, ![1536, 64]⟩
abbrev S1536x64x1 : Shape := ⟨3, ![1536, 64, 1]⟩
abbrev S1536x64x128 : Shape := ⟨3, ![1536, 64, 128]⟩
abbrev S10x8192 : Shape := ⟨2, ![10, 8192]⟩
abbrev S10x64x32 : Shape := ⟨3, ![10, 64, 32]⟩
abbrev S10x64x64 : Shape := ⟨3, ![10, 64, 64]⟩
abbrev S128x128 : Shape := ⟨2, ![128, 128]⟩
abbrev S10x64x1 : Shape := ⟨3, ![10, 64, 1]⟩

abbrev nBuf : Space → Nat
  | .hbm => 11
  | .vmem => 7
  | .smem => 0
  | _ => 0

abbrev bufTy : (tb : Table) → Fin (tcTables nBuf tb) → BufTy
  | .hbm, ⟨0, _⟩ => ⟨S16x1536, .bf16⟩
  | .hbm, ⟨1, _⟩ => ⟨S10x32, .f32⟩
  | .hbm, ⟨2, _⟩ => ⟨S10x32, .f32⟩
  | .hbm, ⟨3, _⟩ => ⟨S16x128, .f32⟩
  | .hbm, ⟨4, _⟩ => ⟨S12x64, .f32⟩
  | .hbm, ⟨5, _⟩ => ⟨S12x48, .f32⟩
  | .hbm, ⟨6, _⟩ => ⟨S1536x8192, .fp8e4m3⟩
  | .hbm, ⟨7, _⟩ => ⟨S1536x6144, .fp8e4m3⟩
  | .hbm, ⟨8, _⟩ => ⟨S32x128x512, .bf16⟩
  | .hbm, ⟨9, _⟩ => ⟨S10x64x128, .fp8e4m3⟩
  | .hbm, ⟨10, _⟩ => ⟨S10x64, .f32⟩
  | .local _ .vmem, ⟨0, _⟩ => ⟨S16x1536, .bf16⟩
  | .local _ .vmem, ⟨1, _⟩ => ⟨S10x32, .f32⟩
  | .local _ .vmem, ⟨2, _⟩ => ⟨S10x32, .f32⟩
  | .local _ .vmem, ⟨3, _⟩ => ⟨S12x64, .f32⟩
  | .local _ .vmem, ⟨4, _⟩ => ⟨S1536x8192, .fp8e4m3⟩
  | .local _ .vmem, ⟨5, _⟩ => ⟨S10x64x128, .fp8e4m3⟩
  | .local _ .vmem, ⟨6, _⟩ => ⟨S10x64, .f32⟩
  | _, _ => ⟨S16x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x64x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.ScoresRuns.lean ====
module

public import proofs.«01_k».proof.Proof.Gen.Scores.Launch
public import proofs.«01_k».proof.Proof.Gen.Scores.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

/-!
# The index-score kernel's run: what its two cases share

The buffers when the pipeline is entered (`V`), the prefetched table of cache lengths (`tbl`), the pipeline's side
condition for it (`Ok`), the windows' blocks (`iblk`), when the score window is written back, and the staging memrefs.
-/

@[expose] public section

-- membership in a rectangle of production extents (`View.cover_of_tiled`): the elaborator's structural look
-- recurses once per coordinate of the long axes
set_option maxRecDepth 16384

noncomputable section

namespace Cert.Scores.Hand

open Cert.Scores.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S10 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for the page window, whose index map reads the
    table, a function of the table's words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## When the score window is written back -/

/-- The score window is written back at every point: its block moves with each coordinate. -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with. -/
abbrev bodyAt0 (a : (pcfg0 (F := F)).Adm) (t : Fin (cfg0 a).N) : Prog (TpuEff nD τ sig (Elt F) Λ₀ .tc) PUnit :=
  cc0_scores (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## What the body reads and writes -/

theorem k0_off1_lt (i : grid0.Coords) (a : Fin 1) : k0_off1 i a < S10.size a :=
  lt_of_lt_of_le (Nat.lt_add_of_pos_right (by revert a; decide)) (k0_off1_inb i a)

/-- The cache length the body loads at a point: the table's word at its batch row. -/
abbrev word (i : grid0.Coords) (xt : Vec F S10 .i32) : BitVec 32 := xt (fun a => ⟨k0_off1 i a, k0_off1_lt i a⟩)

/-- The rectangle of the whole score block. -/
abbrev rOut : Rect S1x64x128 := Rect.unit (s := S1x64x128) ![0, 0, 0] S1x64x128.size inb_S1x64x128_S1x64x128_0_0_0

/-- A store over the whole block covers it. -/
theorem cover_out (p : Vec F S1x64x128 .f32) (y : S1x64x128.Idx) :
    ∃ pc ∈ ([⟨rOut, p⟩] : List (View.Piece (Elt F) S1x64x128 .f32)), y ∈ pc.1.set :=
  View.cover_of_tiled [⟨rOut, p⟩] S1x64x128.size (by rfl) y

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2112x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S64x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .smem S10 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x128 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.Scores.Hand

end
-- ==== Proof.ScoresZero.lean ====
module

public import proofs.«01_k».proof.Proof.ScoresRuns

/-!
# The body past the cache length: the score block is zero
-/

@[expose] public section

-- membership in a rectangle of production extents (`View.cover_of_tiled`): the elaborator's structural look
-- recurses once per coordinate of the long axes
set_option maxRecDepth 16384

noncomputable section

namespace Cert.Scores.Hand

open Cert.Scores.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The score block of a chunk past the cache length. -/
def zeroOut : Vec F S1x64x128 .f32 := View.canon [⟨rOut, k0_pay1⟩]

set_option maxHeartbeats 1000000 in
/-- The body where the chunk starts past the cache length: it stores zeros over the score block and
    leaves everything else as it was. -/
theorem run_zero (c : Dev nD) (i : grid0.Coords) (arg3 : Memref sig .tc .vmem S2112x128 .i32) (harg3 : arg3.IsWhole) (arg4 : Memref sig .tc .vmem S1x64x128 .fp8e4m3) (harg4 : arg4.IsWhole) (arg5 : Memref sig .tc .vmem S64x128 .f32) (harg5 : arg5.IsWhole) (arg6 : Memref sig .tc .vmem S1x1x128 .fp8e4m3) (harg6 : arg6.IsWhole) (arg7 : Memref sig .tc .smem S10 .f32) (harg7 : arg7.IsWhole) (arg8 : Memref sig .tc .vmem S1x64x128 .f32) (harg8 : arg8.IsWhole)
    (x0 : Vec F S2112x128 .i32) (x1 : Vec F S1x64x128 .fp8e4m3) (x2 : Vec F S64x128 .f32) (x3 : Vec F S1x1x128 .fp8e4m3) (x4 : Vec F S10 .f32) (xt0 : TbBuf0 (F := F) c tbM0_0)
    (hc0 : k0_cond1 i (word i xt0) = 1#1) (hc1 : ¬k0_cond2 i (word i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare zeroOut ∗ tbPt0 c tbM0_0 xt0) -∗ K ⟨⟩))
          ⊢ wp frame (wpE (defs₀ (F := F)) Variants.none c none) E (cc0_scores i tbM0_0 htbM0_0 arg3 harg3 arg4 harg4 arg5 harg5 arg6 harg6 arg7 harg7 arg8 harg8) K := by
    intro E K
    simp only [cc0_scores_eq_skeleton]; unfold cc0_scores_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      exact View.read_writes_eq_canon _ _ _ (cover_out _)
    iexact HT0

end Cert.Scores.Hand

end
-- ==== Proof.ScoresMain.lean ====
module

public import proofs.«01_k».proof.Proof.ScoresZero

/-!
# The body up to the cache length: the score block is computed
-/

@[expose] public section

-- membership in a rectangle of production extents (`View.cover_of_tiled`): the elaborator's structural look
-- recurses once per coordinate of the long axes
set_option maxRecDepth 16384

noncomputable section

namespace Cert.Scores.Hand

open Cert.Scores.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The code words of slot `r` of every page of the block (a page is a column): rows `32 r, …, 32 r + 31`. -/
def pageWords (x0 : Vec F S2112x128 .i32) (r : Fin 64) : Vec F S32x128 .i32 :=
  View.ld x0 (Rect.unit (s := S2112x128) ![32 * r.val, 0] S32x128.size (fun a => by
    have := r.isLt
    match a with
    | ⟨0, _⟩ => show 32 * r.val + 32 ≤ 2112; omega
    | ⟨1, _⟩ => show 0 + 128 ≤ 128; omega))

/-- The unscaled scores of slot `r` of the block's pages, in the kernel's spelling: slots are taken two at a time, the even one
    the left half of the product and the odd one the right half. -/
def rows (x0 : Vec F S2112x128 .i32) (q : FVec F S64x128 .fp8e4m3) (w : FVec F S64x128 .f32) : Fin 64 → FVec F S1x128 .f32
  | ⟨r, h⟩ => match Nat.decEq (r % 2) 0 with
    | .isTrue _ => k0_pay28 q w (pageWords x0 ⟨r, h⟩) (pageWords x0 ⟨r / 2 * 2 + 1, by omega⟩)
    | .isFalse _ => k0_pay29 q w (pageWords x0 ⟨r / 2 * 2, by omega⟩) (pageWords x0 ⟨r, h⟩)

/-- The scores of the block's pages laid out as the output block, before the mask. -/
def pageScores (x0 : Vec F S2112x128 .i32) (q : FVec F S64x128 .fp8e4m3) (w : FVec F S64x128 .f32) : FVec F S64x128 .f32 :=
  k0_pay107 q w (k0_pay5 (View.ld x0 (Rect.unit (s := S2112x128) ![2048, 0] S64x128.size inb_S2112x128_S64x128_2048_0)))
    (rows x0 q w 0) (rows x0 q w 1) (rows x0 q w 2) (rows x0 q w 3) (rows x0 q w 4) (rows x0 q w 5) (rows x0 q w 6) (rows x0 q w 7) (rows x0 q w 8) (rows x0 q w 9) (rows x0 q w 10) (rows x0 q w 11) (rows x0 q w 12) (rows x0 q w 13) (rows x0 q w 14) (rows x0 q w 15) (rows x0 q w 16) (rows x0 q w 17) (rows x0 q w 18) (rows x0 q w 19) (rows x0 q w 20) (rows x0 q w 21) (rows x0 q w 22) (rows x0 q w 23) (rows x0 q w 24) (rows x0 q w 25) (rows x0 q w 26) (rows x0 q w 27) (rows x0 q w 28) (rows x0 q w 29) (rows x0 q w 30) (rows x0 q w 31) (rows x0 q w 32) (rows x0 q w 33) (rows x0 q w 34) (rows x0 q w 35) (rows x0 q w 36) (rows x0 q w 37) (rows x0 q w 38) (rows x0 q w 39) (rows x0 q w 40) (rows x0 q w 41) (rows x0 q w 42) (rows x0 q w 43) (rows x0 q w 44) (rows x0 q w 45) (rows x0 q w 46) (rows x0 q w 47) (rows x0 q w 48) (rows x0 q w 49) (rows x0 q w 50) (rows x0 q w 51) (rows x0 q w 52) (rows x0 q w 53) (rows x0 q w 54) (rows x0 q w 55) (rows x0 q w 56) (rows x0 q w 57) (rows x0 q w 58) (rows x0 q w 59)
    (k0_pay106 (pageWords x0 60)) (pageWords x0 61) (pageWords x0 62) (pageWords x0 63)

/-- The score block of a chunk starting at or below the cache length `n`, from the page block `x0`, the queries `x1`, the
    head weights `x2`, the new key `x3` and the new keys' scales `x4`. -/
def scoreOut (i : grid0.Coords) (n : BitVec 32) (x0 : Vec F S2112x128 .i32) (x1 : Vec F S1x64x128 .fp8e4m3) (x2 : Vec F S64x128 .f32)
    (x3 : Vec F S1x1x128 .fp8e4m3) (x4 : Vec F S10 .f32) : Vec F S1x64x128 .f32 :=
  k0_pay109 n (Scalar.muli (BitVec.ofNat 32 (i 1).val) 8192#32)
    (k0_pay3 (BitVec.ofNat 32 (i 0).val) (View.ld x2 (Rect.unit (s := S64x128) ![0, 0] S64x128.size inb_S64x128_S64x128_0_0)))
    (pageScores x0 (k0_pay2 (View.ld x1 (Rect.unit (s := S1x64x128) ![0, 0, 0] S1x64x128.size inb_S1x64x128_S1x64x128_0_0_0))) (k0_pay4 (BitVec.ofNat 32 (i 0).val) (View.ld x2 (Rect.unit (s := S64x128) ![0, 0] S64x128.size inb_S64x128_S64x128_0_0))))
    (k0_pay108 (k0_pay2 (View.ld x1 (Rect.unit (s := S1x64x128) ![0, 0, 0] S1x64x128.size inb_S1x64x128_S1x64x128_0_0_0))))
    (View.ld x3 (Rect.unit (s := S1x1x128) ![0, 0, 0] S1x1x128.size inb_S1x1x128_S1x1x128_0_0_0))
    (x4 (fun a => ⟨k0_off2 i a, lt_of_lt_of_le (Nat.lt_add_of_pos_right (by revert a; decide)) (k0_off2_inb i a)⟩))

set_option maxHeartbeats 4000000 in
/-- The body where the chunk starts at or below the cache length: it stores the scores over the score block and
    leaves everything else as it was. -/
theorem run_scores (c : Dev nD) (i : grid0.Coords) (arg3 : Memref sig .tc .vmem S2112x128 .i32) (harg3 : arg3.IsWhole) (arg4 : Memref sig .tc .vmem S1x64x128 .fp8e4m3) (harg4 : arg4.IsWhole) (arg5 : Memref sig .tc .vmem S64x128 .f32) (harg5 : arg5.IsWhole) (arg6 : Memref sig .tc .vmem S1x1x128 .fp8e4m3) (harg6 : arg6.IsWhole) (arg7 : Memref sig .tc .smem S10 .f32) (harg7 : arg7.IsWhole) (arg8 : Memref sig .tc .vmem S1x64x128 .f32) (harg8 : arg8.IsWhole)
    (x0 : Vec F S2112x128 .i32) (x1 : Vec F S1x64x128 .fp8e4m3) (x2 : Vec F S64x128 .f32) (x3 : Vec F S1x1x128 .fp8e4m3) (x4 : Vec F S10 .f32) (xt0 : TbBuf0 (F := F) c tbM0_0)
    (hc0 : ¬k0_cond1 i (word i xt0) = 1#1) (hc1 : k0_cond2 i (word i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (View.canon [⟨rOut, scoreOut i (word i xt0) x0 x1 x2 x3 x4⟩]) ∗ tbPt0 c tbM0_0 xt0) -∗ K ⟨⟩))
          ⊢ wp frame (wpE (defs₀ (F := F)) Variants.none c none) E (cc0_scores i tbM0_0 htbM0_0 arg3 harg3 arg4 harg4 arg5 harg5 arg6 harg6 arg7 harg7 arg8 harg8) K := by
    intro E K
    simp only [cc0_scores_eq_skeleton]; unfold cc0_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, Hk⟩
    subst hf0 hf1 hf2 hf3 hf4
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      exact View.read_writes_eq_canon _ _ _ (cover_out _)
    iexact HT0

end Cert.Scores.Hand

end
-- ==== Proof.ScoresIndex.lean ====
module

public import Idealize.ShloMosaic.PureOps.Float
public import Idealize.ShloMosaic.Lib.Affine
public import Idealize.ShloMosaic.Lib.WordCmp
public import Idealize.ShloMosaic.Lib.WordArith

/-!
# The page window's index arithmetic

Which of a batch row's four page blocks the kernel fetches for a chunk, as a function of the chunk and the cache length.
-/

@[expose] public section

namespace Cert.ScoreIndex

open Idealize.ShloMosaic Idealize.ShloMosaic.WordCmp

/-- The block of the row fetched at chunk `c` for cache length `n`: `min c (max (ceil (n / 8192) - 1) 0)`, in the
    kernel's words. -/
def pickWord (c n : BitVec 32) : BitVec 32 :=
  let v3 : BitVec 32 := Scalar.subi (Scalar.addi n 8192#32) 1#32
  let v4 : BitVec 32 := Scalar.divsi v3 8192#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 8192#32 0#32)) (Scalar.extui (Scalar.cmpi .slt 8192#32 0#32))
  let v18 : BitVec 1 := Scalar.andi (Scalar.cmpi .ne v9 v14) (Scalar.cmpi .ne (Scalar.remsi v3 8192#32) 0#32)
  let v20 : BitVec 32 := Scalar.select v18 (Scalar.subi v4 1#32) v4
  Scalar.minsi c (Scalar.maxsi (Scalar.subi v20 1#32) 0#32)

/-- The smaller of a word at most 3 and a word clipped at zero is at most 3. -/
theorem minsi_maxsi_le (c x : BitVec 32) (hc : c.toNat ≤ 3) : (Scalar.minsi c (Scalar.maxsi x 0#32)).toNat ≤ 3 := by
  show (IntOp.minsi c (IntOp.maxsi x 0#32)).toNat ≤ 3
  have hm : 0 ≤ (IntOp.maxsi x 0#32).toInt := by
    unfold IntOp.maxsi
    split
    · rename_i h
      rw [BitVec.slt_iff_toInt_lt] at h
      have : (0#32 : BitVec 32).toInt = 0 := by decide
      omega
    · decide
  unfold IntOp.minsi
  split
  · exact hc
  · rename_i h
    rw [BitVec.slt_iff_toInt_lt] at h
    have h1 : c.toInt = (c.toNat : Int) := toInt_eq_toNat_of_lt_half (by omega)
    have h2 := BitVec.toInt_eq_toNat_cond (IntOp.maxsi x 0#32)
    split at h2 <;> omega

/-- The fetched block is one of the row's four. -/
theorem pickWord_le (c n : BitVec 32) (hc : c.toNat ≤ 3) : (pickWord c n).toNat ≤ 3 := minsi_maxsi_le _ _ hc

private theorem isInt_iff {x : BitVec 32} {e : Int} : Affine.IsInt x e ↔ x.toInt = e := by unfold Affine.IsInt; exact Iff.rfl

/-- At a chunk starting below the cache length the fetched block is the chunk's own. -/
theorem pickWord_eq (c N : Nat) (hc : c ≤ 3) (h1 : c * 8192 < N) (h2 : N ≤ 2 ^ 31 - 8192) :
    pickWord (BitVec.ofNat 32 c) (BitVec.ofNat 32 N) = BitVec.ofNat 32 c := by
  have e3 : Scalar.subi (Scalar.addi (BitVec.ofNat 32 N) 8192#32) 1#32 = BitVec.ofNat 32 (N + 8191) := by
    apply BitVec.eq_of_toNat_eq
    show ((BitVec.ofNat 32 N + 8192#32) - 1#32).toNat = _
    simp only [BitVec.toNat_sub, BitVec.toNat_add, BitVec.toNat_ofNat]
    omega
  have p9 : Scalar.cmpi .sgt (BitVec.ofNat 32 (N + 8191)) 0#32 = 1#1 := by
    rw [show (0#32 : BitVec 32) = BitVec.ofNat 32 0 from rfl]
    show IntOp.cmpi _ _ _ = _
    rw [cmpi_sgt_ofNat (by omega) (by omega)]; simp
  have p8 : Scalar.cmpi .slt (BitVec.ofNat 32 (N + 8191)) 0#32 = 0#1 := by
    rw [show (0#32 : BitVec 32) = BitVec.ofNat 32 0 from rfl]
    show IntOp.cmpi _ _ _ = _
    rw [cmpi_slt_ofNat (by omega) (by omega)]; simp
  have hv : Affine.IsInt (BitVec.ofNat 32 (N + 8191)) ((N + 8191 : Nat) : Int) := Affine.ofNat _ ⟨rfl, by omega⟩
  have h4 : Affine.IsInt (Scalar.divsi (BitVec.ofNat 32 (N + 8191)) 8192#32) (((N + 8191 : Nat) : Int) / 8192) :=
    Affine.divsi hv (Affine.ofNat 8192 ⟨rfl, by omega⟩) ⟨rfl, by omega, by omega⟩
  unfold pickWord
  simp only [e3, p9, p8]
  have hs : Scalar.cmpi .ne (Scalar.subi (Scalar.extui 1#1) (Scalar.extui 0#1))
      (Scalar.subi (Scalar.extui (Scalar.cmpi .sgt 8192#32 0#32)) (Scalar.extui (Scalar.cmpi .slt 8192#32 0#32))) = 0#1 := by decide
  rw [hs]
  have hz : ∀ x : BitVec 1, Scalar.andi 0#1 x = 0#1 := by decide
  rw [hz]
  have hsel : ∀ a b : BitVec 32, Scalar.select 0#1 a b = b := fun a b => if_neg (by decide)
  rw [hsel]
  have h5 : Affine.IsInt (Scalar.subi (Scalar.divsi (BitVec.ofNat 32 (N + 8191)) 8192#32) 1#32) (((N + 8191 : Nat) : Int) / 8192 - 1) :=
    Affine.subi h4 (Affine.ofNat 1 ⟨rfl, by omega⟩) ⟨rfl, by omega, by omega⟩
  have h6 := Affine.maxsi h5 (Affine.ofNat 0 ⟨rfl, by omega⟩) rfl
  have h7 : Affine.IsInt (Scalar.minsi (BitVec.ofNat 32 c) (Scalar.maxsi (Scalar.subi (Scalar.divsi (BitVec.ofNat 32 (N + 8191)) 8192#32) 1#32) 0#32)) (c : Int) :=
    Affine.minsi (Affine.ofNat c ⟨rfl, by omega⟩) h6 (by omega)
  have h8 : Affine.IsInt (BitVec.ofNat 32 c) (c : Int) := Affine.ofNat c ⟨rfl, by omega⟩
  exact BitVec.eq_of_toInt_eq ((isInt_iff.1 h7).trans (isInt_iff.1 h8).symm)

end Cert.ScoreIndex
-- ==== Proof.ScoresFrame.lean ====
module

public import proofs.«01_k».proof.Proof.ScoresMain
public import proofs.«01_k».proof.Proof.ScoresIndex
public import Idealize.ShloMosaic.Lib.Claim

/-!
# The index-score kernel's run

The page window's index map in closed form and the pipeline's side condition, which holds for every table; the two
branch conditions, which exclude each other; the proof data, which name what the body leaves in the score block; the
body obligation; the run; and the frame.
-/

@[expose] public section

-- membership in a rectangle of production extents (`View.cover_of_tiled`): the elaborator's structural look
-- recurses once per coordinate of the long axes
set_option maxRecDepth 16384

noncomputable section

namespace Cert.Scores.Hand

open Cert.Scores.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The page window's index map -/

/-- A table read through the one-word rectangle at a point's batch row is its word there. -/
theorem at_eq_word (pf : pre0.Contents (Elt F)) (i : grid0.Coords) :
    pf.at 0 (Rect.unit (s := S10) (k0_off1 i) S1.size (k0_off1_inb i)) numel1_S1 = word i (pf 0) := by
  show pf 0 _ = pf 0 _
  congr 1

/-- The page window's block at a point: column block `4 b + pickWord c n` for batch row `b`, chunk `c`, cache length `n`. -/
theorem ix0_eq (pf : pre0.Contents (Elt F)) (i : grid0.Coords) :
    cc0_transform_0 k0_off1_inb numel1_S1 pf i
      = ![0, (Scalar.addi (Scalar.muli (BitVec.ofNat 32 (i 0).val) 4#32) (ScoreIndex.pickWord (BitVec.ofNat 32 (i 1).val) (word i (pf 0)))).toNat] := by
  rw [← at_eq_word]; rfl

theorem pick_le (i : grid0.Coords) (n : BitVec 32) : (ScoreIndex.pickWord (BitVec.ofNat 32 (i 1).val) n).toNat ≤ 3 := by
  have h1 : (i 1).val < 4 := (i 1).isLt
  exact ScoreIndex.pickWord_le _ _ (by rw [BitVec.toNat_ofNat]; omega)

theorem ix0_toNat (i : grid0.Coords) (n : BitVec 32) :
    (Scalar.addi (Scalar.muli (BitVec.ofNat 32 (i 0).val) 4#32) (ScoreIndex.pickWord (BitVec.ofNat 32 (i 1).val) n)).toNat
      = 4 * (i 0).val + (ScoreIndex.pickWord (BitVec.ofNat 32 (i 1).val) n).toNat := by
  have h0 : (i 0).val < 10 := (i 0).isLt
  have h := pick_le i n
  show (BitVec.ofNat 32 (i 0).val * 4#32 + _).toNat = _
  rw [BitVec.toNat_add, BitVec.toNat_mul, BitVec.toNat_ofNat]
  show ((i 0).val % 2 ^ 32 * 4 % 2 ^ 32 + _) % 2 ^ 32 = _
  omega

/-- The side condition holds for every table: the block is one of the batch row's four. -/
theorem ok (pf : pre0.Contents (Elt F)) : ok0 (F := F) pf := fun i => by
  refine ⟨fun a => ?_, .inl rfl⟩
  rw [ix0_eq]
  have h0 : (i 0).val < 10 := (i 0).isLt
  have h := pick_le i (word i (pf 0))
  match a with
  | ⟨0, _⟩ => show (0 + 1) * 2112 ≤ 2112; omega
  | ⟨1, _⟩ =>
    show ((Scalar.addi _ _).toNat + 1) * 128 ≤ 5120
    rw [ix0_toNat]; omega

/-! ## The branch conditions -/

/-- The second branch is taken exactly where the first is not. -/
theorem cond2_iff (i : grid0.Coords) (n : BitVec 32) : k0_cond2 i n = 1#1 ↔ ¬k0_cond1 i n = 1#1 := by
  have key : ∀ b : Bool, (Scalar.cmpi .ne (Scalar.extui (BitVec.ofBool b)) 0#32 = 1#1) ↔ b = true := by decide
  have h2 : k0_cond2 i n = 1#1 ↔ (Scalar.muli (BitVec.ofNat 32 (i 1).val) 8192#32).sle n = true := key _
  have h1 : k0_cond1 i n = 1#1 ↔ n.slt (Scalar.muli (BitVec.ofNat 32 (i 1).val) 8192#32) = true := key _
  rw [h1, h2, BitVec.slt_iff_toInt_lt, BitVec.sle_iff_toInt_le]
  omega

/-- The first branch is taken where the chunk starts past the cache length. -/
theorem cond1_iff (i : grid0.Coords) (n : BitVec 32) : k0_cond1 i n = 1#1 ↔ n.toInt < 8192 * ((i 1).val : Int) := by
  have key : ∀ b : Bool, (Scalar.cmpi .ne (Scalar.extui (BitVec.ofBool b)) 0#32 = 1#1) ↔ b = true := by decide
  have h1 : k0_cond1 i n = 1#1 ↔ n.slt (Scalar.muli (BitVec.ofNat 32 (i 1).val) 8192#32) = true := key _
  have hi : (i 1).val < 4 := (i 1).isLt
  have hm : (Scalar.muli (BitVec.ofNat 32 (i 1).val) 8192#32).toInt = 8192 * ((i 1).val : Int) := by
    show (BitVec.ofNat 32 (i 1).val * 8192#32).toInt = _
    rw [BitVec.toInt_eq_toNat_of_lt] <;>
    · rw [BitVec.toNat_mul, BitVec.toNat_ofNat]
      show _
      simp only [BitVec.toNat_ofNat]
      omega
  rw [h1, BitVec.slt_iff_toInt_lt, hm]

/-- The score window is never idle: one of the branches stores it. -/
theorem liveAt0_5 (hO : Ok m) : ∀ t : Fin (cfgM m hO).N, (cfgM m hO).idle 5 (grid0.coords t) = false :=
  (fun t => by
    show (!(k0_cond1 _ _ == 1#1) && !(k0_cond2 _ _ == 1#1)) = false
    have := cond2_iff (grid0.coords t) ((tbl m).atD 0 (k0_off1 (grid0.coords t)))
    by_cases h : k0_cond1 (grid0.coords t) ((tbl m).atD 0 (k0_off1 (grid0.coords t))) = 1#1
    · rw [h]; rfl
    · rw [this.2 h]; simp : ∀ t : Fin grid0.N, idle0 (tbl m) 5 (grid0.coords t) = false)

/-- What the body leaves in the score block at a point: zeros past the cache length, the scores otherwise. -/
def outAt (i : grid0.Coords) (n : BitVec 32) (x0 : Vec F S2112x128 .i32) (x1 : Vec F S1x64x128 .fp8e4m3) (x2 : Vec F S64x128 .f32)
    (x3 : Vec F S1x1x128 .fp8e4m3) (x4 : Vec F S10 .f32) : Vec F S1x64x128 .f32 :=
  if k0_cond1 i n = 1#1 then zeroOut else View.canon [⟨rOut, scoreOut i n x0 x1 x2 x3 x4⟩]

/-! ## The pipeline's proof data -/

/-- The proof data of the one pipeline on core `c`: the arrays as the region finds them (`V`); after the body at
    point `t` each input's buffer at its block and the score block at `outAt` of them; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt (grid0.coords t) (word (grid0.coords t) (tbl m 0)) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt (grid0.coords t) (word (grid0.coords t) (tbl m 0)) (iblk m hO c 0 t) (iblk m hO c 1 t) (iblk m hO c 2 t) (iblk m hO c 3 t) (iblk m hO c 4 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 800000 in
/-- The body at any point: the inputs' memrefs hold their blocks; the branch condition says which case the point is in, so
    that case's run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  by_cases h0 : k0_cond1 (grid0.coords t) (word (grid0.coords t) (tbl m 0)) = 1#1
  · rw [show outAt (grid0.coords t) (word (grid0.coords t) (tbl m 0)) (iblk m hO c 0 t) (iblk m hO c 1 t) (iblk m hO c 2 t) (iblk m hO c 3 t) (iblk m hO c 4 t) = _ from if_pos h0]
    iintro ⟨⟨HΦ, HT0⟩, Ho, ⟨%d0, H0⟩, ⟨%d1, H1⟩, ⟨%d2, H2⟩, ⟨%d3, H3⟩, ⟨%d4, H4⟩, ⟨%d5, H5⟩⟩
    iapply ((run_zero c (grid0.coords t) _ _ _ _ _ _ _ _ _ _ _ _ (iblk m hO c 0 t) (iblk m hO c 1 t) (iblk m hO c 2 t) (iblk m hO c 3 t) (iblk m hO c 4 t) (tbl m 0) h0 (fun h => (cond2_iff _ _).1 h h0)) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    iintro ⟨H0, H1, H2, H3, H4, H5, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    iexact H5
  · rw [show outAt (grid0.coords t) (word (grid0.coords t) (tbl m 0)) (iblk m hO c 0 t) (iblk m hO c 1 t) (iblk m hO c 2 t) (iblk m hO c 3 t) (iblk m hO c 4 t) = _ from if_neg h0]
    iintro ⟨⟨HΦ, HT0⟩, Ho, ⟨%d0, H0⟩, ⟨%d1, H1⟩, ⟨%d2, H2⟩, ⟨%d3, H3⟩, ⟨%d4, H4⟩, ⟨%d5, H5⟩⟩
    iapply ((run_scores c (grid0.coords t) _ _ _ _ _ _ _ _ _ _ _ _ (iblk m hO c 0 t) (iblk m hO c 1 t) (iblk m hO c 2 t) (iblk m hO c 3 t) (iblk m hO c 4 t) (tbl m 0) h0 ((cond2_iff _ _).2 h0)) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    iintro ⟨H0, H1, H2, H3, H4, H5, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
set_option maxHeartbeats 800000 in
/-- The run: every weakly fair execution of @main terminates with each array of the pipeline at what the proof data say,
    every other buffer as the pipeline found it, and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The side condition, of the table read off the launch memory. -/
theorem okM : Ok (F := F) m := ok (tbl m)

/-- The final state's arrays: the arguments as launched, and the score array at what the proof data compute. -/
theorem run_arrays : θ_run defs (onTc (τ := τ) (main (F := F))) ⟨m, fun _ => 0, ρ⟩ (fun r => (∀ c : Dev nD,
      r.2.mem ((c.tc : Thread nD τ).loc main_v4) = (dats m (okM m) 0 c).arrAt 5 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).2 main_arg0 (by decide : main_arg0 ∈ Pipeline.restRefs sig spec0)).trans (V_main_arg0 m c),
      ((h.1 c).1 0).trans (((dats m (okM m) 0 c).arrAt_in 0 rfl _).trans ((A_eq m (okM m) c 0).trans (V_main_arg1 m c))),
      ((h.1 c).1 1).trans (((dats m (okM m) 0 c).arrAt_in 1 rfl _).trans ((A_eq m (okM m) c 1).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).1 3).trans (((dats m (okM m) 0 c).arrAt_in 3 rfl _).trans ((A_eq m (okM m) c 3).trans (V_main_arg5 m c))),
      ((h.1 c).1 4).trans (((dats m (okM m) 0 c).arrAt_in 4 rfl _).trans ((A_eq m (okM m) c 4).trans (V_main_arg6 m c)))⟩, h.2⟩) (run_main_quiescent m ρ (okM m))

/-- THE FRAME: the program runs to the end, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_arrays m ρ)

end Cert.Scores.Hand

end
-- ==== Proof.ScoresIdealRuns.lean ====
module

public import proofs.«01_k».proof.Proof.Gen.ScoresIdeal.Launch
public import proofs.«01_k».proof.Proof.Gen.ScoresIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

/-!
# The index-score kernel's run: what its two cases share

The buffers when the pipeline is entered (`V`), the prefetched table of cache lengths (`tbl`), the pipeline's side
condition for it (`Ok`), the windows' blocks (`iblk`), when the score window is written back, and the staging memrefs.
-/

@[expose] public section

-- membership in a rectangle of production extents (`View.cover_of_tiled`): the elaborator's structural look
-- recurses once per coordinate of the long axes
set_option maxRecDepth 16384

noncomputable section

namespace Cert.ScoresIdeal.Hand

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S10 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for the page window, whose index map reads the
    table, a function of the table's words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## When the score window is written back -/

/-- The score window is written back at every point: its block moves with each coordinate. -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with. -/
abbrev bodyAt0 (a : (pcfg0 (F := F)).Adm) (t : Fin (cfg0 a).N) : Prog (TpuEff nD τ sig (Elt F) Λ₀ .tc) PUnit :=
  cc0_scores (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## What the body reads and writes -/

theorem k0_off1_lt (i : grid0.Coords) (a : Fin 1) : k0_off1 i a < S10.size a :=
  lt_of_lt_of_le (Nat.lt_add_of_pos_right (by revert a; decide)) (k0_off1_inb i a)

/-- The cache length the body loads at a point: the table's word at its batch row. -/
abbrev word (i : grid0.Coords) (xt : Vec F S10 .i32) : BitVec 32 := xt (fun a => ⟨k0_off1 i a, k0_off1_lt i a⟩)

/-- The rectangle of the whole score block. -/
abbrev rOut : Rect S1x64x128 := Rect.unit (s := S1x64x128) ![0, 0, 0] S1x64x128.size inb_S1x64x128_S1x64x128_0_0_0

/-- A store over the whole block covers it. -/
theorem cover_out (p : Vec F S1x64x128 .f32) (y : S1x64x128.Idx) :
    ∃ pc ∈ ([⟨rOut, p⟩] : List (View.Piece (Elt F) S1x64x128 .f32)), y ∈ pc.1.set :=
  View.cover_of_tiled [⟨rOut, p⟩] S1x64x128.size (by rfl) y

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2112x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S64x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .smem S10 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x128 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.ScoresIdeal.Hand

end
-- ==== Proof.ScoresIdealZero.lean ====
module

public import proofs.«01_k».proof.Proof.ScoresIdealRuns

/-!
# The body past the cache length: the score block is zero
-/

@[expose] public section

-- membership in a rectangle of production extents (`View.cover_of_tiled`): the elaborator's structural look
-- recurses once per coordinate of the long axes
set_option maxRecDepth 16384

noncomputable section

namespace Cert.ScoresIdeal.Hand

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The score block of a chunk past the cache length. -/
def zeroOut : Vec F S1x64x128 .f32 := View.canon [⟨rOut, k0_pay1⟩]

set_option maxHeartbeats 1000000 in
/-- The body where the chunk starts past the cache length: it stores zeros over the score block and
    leaves everything else as it was. -/
theorem run_zero (c : Dev nD) (i : grid0.Coords) (arg3 : Memref sig .tc .vmem S2112x128 .i32) (harg3 : arg3.IsWhole) (arg4 : Memref sig .tc .vmem S1x64x128 .fp8e4m3) (harg4 : arg4.IsWhole) (arg5 : Memref sig .tc .vmem S64x128 .f32) (harg5 : arg5.IsWhole) (arg6 : Memref sig .tc .vmem S1x1x128 .fp8e4m3) (harg6 : arg6.IsWhole) (arg7 : Memref sig .tc .smem S10 .f32) (harg7 : arg7.IsWhole) (arg8 : Memref sig .tc .vmem S1x64x128 .f32) (harg8 : arg8.IsWhole)
    (x0 : Vec F S2112x128 .i32) (x1 : Vec F S1x64x128 .fp8e4m3) (x2 : Vec F S64x128 .f32) (x3 : Vec F S1x1x128 .fp8e4m3) (x4 : Vec F S10 .f32) (xt0 : TbBuf0 (F := F) c tbM0_0)
    (hc0 : k0_cond1 i (word i xt0) = 1#1) (hc1 : ¬k0_cond2 i (word i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare zeroOut ∗ tbPt0 c tbM0_0 xt0) -∗ K ⟨⟩))
          ⊢ wp frame (wpE (defs₀ (F := F)) Variants.none c none) E (cc0_scores i tbM0_0 htbM0_0 arg3 harg3 arg4 harg4 arg5 harg5 arg6 harg6 arg7 harg7 arg8 harg8) K := by
    intro E K
    simp only [cc0_scores_eq_skeleton]; unfold cc0_scores_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      exact View.read_writes_eq_canon _ _ _ (cover_out _)
    iexact HT0

end Cert.ScoresIdeal.Hand

end
-- ==== Proof.ScoresIdealMain.lean ====
module

public import proofs.«01_k».proof.Proof.ScoresIdealZero

/-!
# The body up to the cache length: the score block is computed
-/

@[expose] public section

-- membership in a rectangle of production extents (`View.cover_of_tiled`): the elaborator's structural look
-- recurses once per coordinate of the long axes
set_option maxRecDepth 16384

noncomputable section

namespace Cert.ScoresIdeal.Hand

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The code words of slot `r` of every page of the block (a page is a column): rows `32 r, …, 32 r + 31`. -/
def pageWords (x0 : Vec F S2112x128 .i32) (r : Fin 64) : Vec F S32x128 .i32 :=
  View.ld x0 (Rect.unit (s := S2112x128) ![32 * r.val, 0] S32x128.size (fun a => by
    have := r.isLt
    match a with
    | ⟨0, _⟩ => show 32 * r.val + 32 ≤ 2112; omega
    | ⟨1, _⟩ => show 0 + 128 ≤ 128; omega))

/-- The unscaled scores of slot `r` of the block's pages, in the kernel's spelling: slots are taken two at a time, the even one
    the left half of the product and the odd one the right half. -/
def rows (x0 : Vec F S2112x128 .i32) (q : FVec F S64x128 .fp8e4m3) (w : FVec F S64x128 .f32) : Fin 64 → FVec F S1x128 .f32
  | ⟨r, h⟩ => match Nat.decEq (r % 2) 0 with
    | .isTrue _ => k0_pay28 q w (pageWords x0 ⟨r, h⟩) (pageWords x0 ⟨r / 2 * 2 + 1, by omega⟩)
    | .isFalse _ => k0_pay29 q w (pageWords x0 ⟨r / 2 * 2, by omega⟩) (pageWords x0 ⟨r, h⟩)

/-- The scores of the block's pages laid out as the output block, before the mask. -/
def pageScores (x0 : Vec F S2112x128 .i32) (q : FVec F S64x128 .fp8e4m3) (w : FVec F S64x128 .f32) : FVec F S64x128 .f32 :=
  k0_pay107 q w (k0_pay5 (View.ld x0 (Rect.unit (s := S2112x128) ![2048, 0] S64x128.size inb_S2112x128_S64x128_2048_0)))
    (rows x0 q w 0) (rows x0 q w 1) (rows x0 q w 2) (rows x0 q w 3) (rows x0 q w 4) (rows x0 q w 5) (rows x0 q w 6) (rows x0 q w 7) (rows x0 q w 8) (rows x0 q w 9) (rows x0 q w 10) (rows x0 q w 11) (rows x0 q w 12) (rows x0 q w 13) (rows x0 q w 14) (rows x0 q w 15) (rows x0 q w 16) (rows x0 q w 17) (rows x0 q w 18) (rows x0 q w 19) (rows x0 q w 20) (rows x0 q w 21) (rows x0 q w 22) (rows x0 q w 23) (rows x0 q w 24) (rows x0 q w 25) (rows x0 q w 26) (rows x0 q w 27) (rows x0 q w 28) (rows x0 q w 29) (rows x0 q w 30) (rows x0 q w 31) (rows x0 q w 32) (rows x0 q w 33) (rows x0 q w 34) (rows x0 q w 35) (rows x0 q w 36) (rows x0 q w 37) (rows x0 q w 38) (rows x0 q w 39) (rows x0 q w 40) (rows x0 q w 41) (rows x0 q w 42) (rows x0 q w 43) (rows x0 q w 44) (rows x0 q w 45) (rows x0 q w 46) (rows x0 q w 47) (rows x0 q w 48) (rows x0 q w 49) (rows x0 q w 50) (rows x0 q w 51) (rows x0 q w 52) (rows x0 q w 53) (rows x0 q w 54) (rows x0 q w 55) (rows x0 q w 56) (rows x0 q w 57) (rows x0 q w 58) (rows x0 q w 59)
    (k0_pay106 (pageWords x0 60)) (pageWords x0 61) (pageWords x0 62) (pageWords x0 63)

/-- The score block of a chunk starting at or below the cache length `n`, from the page block `x0`, the queries `x1`, the
    head weights `x2`, the new key `x3` and the new keys' scales `x4`. -/
def scoreOut (i : grid0.Coords) (n : BitVec 32) (x0 : Vec F S2112x128 .i32) (x1 : Vec F S1x64x128 .fp8e4m3) (x2 : Vec F S64x128 .f32)
    (x3 : Vec F S1x1x128 .fp8e4m3) (x4 : Vec F S10 .f32) : Vec F S1x64x128 .f32 :=
  k0_pay109 n (Scalar.muli (BitVec.ofNat 32 (i 1).val) 8192#32)
    (k0_pay3 (BitVec.ofNat 32 (i 0).val) (View.ld x2 (Rect.unit (s := S64x128) ![0, 0] S64x128.size inb_S64x128_S64x128_0_0)))
    (pageScores x0 (k0_pay2 (View.ld x1 (Rect.unit (s := S1x64x128) ![0, 0, 0] S1x64x128.size inb_S1x64x128_S1x64x128_0_0_0))) (k0_pay4 (BitVec.ofNat 32 (i 0).val) (View.ld x2 (Rect.unit (s := S64x128) ![0, 0] S64x128.size inb_S64x128_S64x128_0_0))))
    (k0_pay108 (k0_pay2 (View.ld x1 (Rect.unit (s := S1x64x128) ![0, 0, 0] S1x64x128.size inb_S1x64x128_S1x64x128_0_0_0))))
    (View.ld x3 (Rect.unit (s := S1x1x128) ![0, 0, 0] S1x1x128.size inb_S1x1x128_S1x1x128_0_0_0))
    (x4 (fun a => ⟨k0_off2 i a, lt_of_lt_of_le (Nat.lt_add_of_pos_right (by revert a; decide)) (k0_off2_inb i a)⟩))

set_option maxHeartbeats 4000000 in
/-- The body where the chunk starts at or below the cache length: it stores the scores over the score block and
    leaves everything else as it was. -/
theorem run_scores (c : Dev nD) (i : grid0.Coords) (arg3 : Memref sig .tc .vmem S2112x128 .i32) (harg3 : arg3.IsWhole) (arg4 : Memref sig .tc .vmem S1x64x128 .fp8e4m3) (harg4 : arg4.IsWhole) (arg5 : Memref sig .tc .vmem S64x128 .f32) (harg5 : arg5.IsWhole) (arg6 : Memref sig .tc .vmem S1x1x128 .fp8e4m3) (harg6 : arg6.IsWhole) (arg7 : Memref sig .tc .smem S10 .f32) (harg7 : arg7.IsWhole) (arg8 : Memref sig .tc .vmem S1x64x128 .f32) (harg8 : arg8.IsWhole)
    (x0 : Vec F S2112x128 .i32) (x1 : Vec F S1x64x128 .fp8e4m3) (x2 : Vec F S64x128 .f32) (x3 : Vec F S1x1x128 .fp8e4m3) (x4 : Vec F S10 .f32) (xt0 : TbBuf0 (F := F) c tbM0_0)
    (hc0 : ¬k0_cond1 i (word i xt0) = 1#1) (hc1 : k0_cond2 i (word i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (View.canon [⟨rOut, scoreOut i (word i xt0) x0 x1 x2 x3 x4⟩]) ∗ tbPt0 c tbM0_0 xt0) -∗ K ⟨⟩))
          ⊢ wp frame (wpE (defs₀ (F := F)) Variants.none c none) E (cc0_scores i tbM0_0 htbM0_0 arg3 harg3 arg4 harg4 arg5 harg5 arg6 harg6 arg7 harg7 arg8 harg8) K := by
    intro E K
    simp only [cc0_scores_eq_skeleton]; unfold cc0_scores_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, Hk⟩
    subst hf0 hf1 hf2 hf3 hf4
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      exact View.read_writes_eq_canon _ _ _ (cover_out _)
    iexact HT0

end Cert.ScoresIdeal.Hand

end
-- ==== Proof.ScoresIdealFrame.lean ====
module

public import proofs.«01_k».proof.Proof.ScoresIdealMain
public import proofs.«01_k».proof.Proof.ScoresIndex
public import Idealize.ShloMosaic.Lib.Claim

/-!
# The index-score kernel's run

The page window's index map in closed form and the pipeline's side condition, which holds for every table; the two
branch conditions, which exclude each other; the proof data, which name what the body leaves in the score block; the
body obligation; the run; and the frame.
-/

@[expose] public section

-- membership in a rectangle of production extents (`View.cover_of_tiled`): the elaborator's structural look
-- recurses once per coordinate of the long axes
set_option maxRecDepth 16384

noncomputable section

namespace Cert.ScoresIdeal.Hand

open Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The page window's index map -/

/-- A table read through the one-word rectangle at a point's batch row is its word there. -/
theorem at_eq_word (pf : pre0.Contents (Elt F)) (i : grid0.Coords) :
    pf.at 0 (Rect.unit (s := S10) (k0_off1 i) S1.size (k0_off1_inb i)) numel1_S1 = word i (pf 0) := by
  show pf 0 _ = pf 0 _
  congr 1

/-- The page window's block at a point: column block `4 b + pickWord c n` for batch row `b`, chunk `c`, cache length `n`. -/
theorem ix0_eq (pf : pre0.Contents (Elt F)) (i : grid0.Coords) :
    cc0_transform_0 k0_off1_inb numel1_S1 pf i
      = ![0, (Scalar.addi (Scalar.muli (BitVec.ofNat 32 (i 0).val) 4#32) (ScoreIndex.pickWord (BitVec.ofNat 32 (i 1).val) (word i (pf 0)))).toNat] := by
  rw [← at_eq_word]; rfl

theorem pick_le (i : grid0.Coords) (n : BitVec 32) : (ScoreIndex.pickWord (BitVec.ofNat 32 (i 1).val) n).toNat ≤ 3 := by
  have h1 : (i 1).val < 4 := (i 1).isLt
  exact ScoreIndex.pickWord_le _ _ (by rw [BitVec.toNat_ofNat]; omega)

theorem ix0_toNat (i : grid0.Coords) (n : BitVec 32) :
    (Scalar.addi (Scalar.muli (BitVec.ofNat 32 (i 0).val) 4#32) (ScoreIndex.pickWord (BitVec.ofNat 32 (i 1).val) n)).toNat
      = 4 * (i 0).val + (ScoreIndex.pickWord (BitVec.ofNat 32 (i 1).val) n).toNat := by
  have h0 : (i 0).val < 10 := (i 0).isLt
  have h := pick_le i n
  show (BitVec.ofNat 32 (i 0).val * 4#32 + _).toNat = _
  rw [BitVec.toNat_add, BitVec.toNat_mul, BitVec.toNat_ofNat]
  show ((i 0).val % 2 ^ 32 * 4 % 2 ^ 32 + _) % 2 ^ 32 = _
  omega

/-- The side condition holds for every table: the block is one of the batch row's four. -/
theorem ok (pf : pre0.Contents (Elt F)) : ok0 (F := F) pf := fun i => by
  refine ⟨fun a => ?_, .inl rfl⟩
  rw [ix0_eq]
  have h0 : (i 0).val < 10 := (i 0).isLt
  have h := pick_le i (word i (pf 0))
  match a with
  | ⟨0, _⟩ => show (0 + 1) * 2112 ≤ 2112; omega
  | ⟨1, _⟩ =>
    show ((Scalar.addi _ _).toNat + 1) * 128 ≤ 5120
    rw [ix0_toNat]; omega

/-! ## The branch conditions -/

/-- The second branch is taken exactly where the first is not. -/
theorem cond2_iff (i : grid0.Coords) (n : BitVec 32) : k0_cond2 i n = 1#1 ↔ ¬k0_cond1 i n = 1#1 := by
  have key : ∀ b : Bool, (Scalar.cmpi .ne (Scalar.extui (BitVec.ofBool b)) 0#32 = 1#1) ↔ b = true := by decide
  have h2 : k0_cond2 i n = 1#1 ↔ (Scalar.muli (BitVec.ofNat 32 (i 1).val) 8192#32).sle n = true := key _
  have h1 : k0_cond1 i n = 1#1 ↔ n.slt (Scalar.muli (BitVec.ofNat 32 (i 1).val) 8192#32) = true := key _
  rw [h1, h2, BitVec.slt_iff_toInt_lt, BitVec.sle_iff_toInt_le]
  omega

/-- The first branch is taken where the chunk starts past the cache length. -/
theorem cond1_iff (i : grid0.Coords) (n : BitVec 32) : k0_cond1 i n = 1#1 ↔ n.toInt < 8192 * ((i 1).val : Int) := by
  have key : ∀ b : Bool, (Scalar.cmpi .ne (Scalar.extui (BitVec.ofBool b)) 0#32 = 1#1) ↔ b = true := by decide
  have h1 : k0_cond1 i n = 1#1 ↔ n.slt (Scalar.muli (BitVec.ofNat 32 (i 1).val) 8192#32) = true := key _
  have hi : (i 1).val < 4 := (i 1).isLt
  have hm : (Scalar.muli (BitVec.ofNat 32 (i 1).val) 8192#32).toInt = 8192 * ((i 1).val : Int) := by
    show (BitVec.ofNat 32 (i 1).val * 8192#32).toInt = _
    rw [BitVec.toInt_eq_toNat_of_lt] <;>
    · rw [BitVec.toNat_mul, BitVec.toNat_ofNat]
      show _
      simp only [BitVec.toNat_ofNat]
      omega
  rw [h1, BitVec.slt_iff_toInt_lt, hm]

/-- The score window is never idle: one of the branches stores it. -/
theorem liveAt0_5 (hO : Ok m) : ∀ t : Fin (cfgM m hO).N, (cfgM m hO).idle 5 (grid0.coords t) = false :=
  (fun t => by
    show (!(k0_cond1 _ _ == 1#1) && !(k0_cond2 _ _ == 1#1)) = false
    have := cond2_iff (grid0.coords t) ((tbl m).atD 0 (k0_off1 (grid0.coords t)))
    by_cases h : k0_cond1 (grid0.coords t) ((tbl m).atD 0 (k0_off1 (grid0.coords t))) = 1#1
    · rw [h]; rfl
    · rw [this.2 h]; simp : ∀ t : Fin grid0.N, idle0 (tbl m) 5 (grid0.coords t) = false)

/-- What the body leaves in the score block at a point: zeros past the cache length, the scores otherwise. -/
def outAt (i : grid0.Coords) (n : BitVec 32) (x0 : Vec F S2112x128 .i32) (x1 : Vec F S1x64x128 .fp8e4m3) (x2 : Vec F S64x128 .f32)
    (x3 : Vec F S1x1x128 .fp8e4m3) (x4 : Vec F S10 .f32) : Vec F S1x64x128 .f32 :=
  if k0_cond1 i n = 1#1 then zeroOut else View.canon [⟨rOut, scoreOut i n x0 x1 x2 x3 x4⟩]

/-! ## The pipeline's proof data -/

/-- The proof data of the one pipeline on core `c`: the arrays as the region finds them (`V`); after the body at
    point `t` each input's buffer at its block and the score block at `outAt` of them; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt (grid0.coords t) (word (grid0.coords t) (tbl m 0)) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt (grid0.coords t) (word (grid0.coords t) (tbl m 0)) (iblk m hO c 0 t) (iblk m hO c 1 t) (iblk m hO c 2 t) (iblk m hO c 3 t) (iblk m hO c 4 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 800000 in
/-- The body at any point: the inputs' memrefs hold their blocks; the branch condition says which case the point is in, so
    that case's run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  by_cases h0 : k0_cond1 (grid0.coords t) (word (grid0.coords t) (tbl m 0)) = 1#1
  · rw [show outAt (grid0.coords t) (word (grid0.coords t) (tbl m 0)) (iblk m hO c 0 t) (iblk m hO c 1 t) (iblk m hO c 2 t) (iblk m hO c 3 t) (iblk m hO c 4 t) = _ from if_pos h0]
    iintro ⟨⟨HΦ, HT0⟩, Ho, ⟨%d0, H0⟩, ⟨%d1, H1⟩, ⟨%d2, H2⟩, ⟨%d3, H3⟩, ⟨%d4, H4⟩, ⟨%d5, H5⟩⟩
    iapply ((run_zero c (grid0.coords t) _ _ _ _ _ _ _ _ _ _ _ _ (iblk m hO c 0 t) (iblk m hO c 1 t) (iblk m hO c 2 t) (iblk m hO c 3 t) (iblk m hO c 4 t) (tbl m 0) h0 (fun h => (cond2_iff _ _).1 h h0)) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    iintro ⟨H0, H1, H2, H3, H4, H5, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    iexact H5
  · rw [show outAt (grid0.coords t) (word (grid0.coords t) (tbl m 0)) (iblk m hO c 0 t) (iblk m hO c 1 t) (iblk m hO c 2 t) (iblk m hO c 3 t) (iblk m hO c 4 t) = _ from if_neg h0]
    iintro ⟨⟨HΦ, HT0⟩, Ho, ⟨%d0, H0⟩, ⟨%d1, H1⟩, ⟨%d2, H2⟩, ⟨%d3, H3⟩, ⟨%d4, H4⟩, ⟨%d5, H5⟩⟩
    iapply ((run_scores c (grid0.coords t) _ _ _ _ _ _ _ _ _ _ _ _ (iblk m hO c 0 t) (iblk m hO c 1 t) (iblk m hO c 2 t) (iblk m hO c 3 t) (iblk m hO c 4 t) (tbl m 0) h0 ((cond2_iff _ _).2 h0)) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    iintro ⟨H0, H1, H2, H3, H4, H5, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
set_option maxHeartbeats 800000 in
/-- The run: every weakly fair execution of @main terminates with each array of the pipeline at what the proof data say,
    every other buffer as the pipeline found it, and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The side condition, of the table read off the launch memory. -/
theorem okM : Ok (F := F) m := ok (tbl m)

/-- The final state's arrays: the arguments as launched, and the score array at what the proof data compute. -/
theorem run_arrays : θ_run defs (onTc (τ := τ) (main (F := F))) ⟨m, fun _ => 0, ρ⟩ (fun r => (∀ c : Dev nD,
      r.2.mem ((c.tc : Thread nD τ).loc main_v4) = (dats m (okM m) 0 c).arrAt 5 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).2 main_arg0 (by decide : main_arg0 ∈ Pipeline.restRefs sig spec0)).trans (V_main_arg0 m c),
      ((h.1 c).1 0).trans (((dats m (okM m) 0 c).arrAt_in 0 rfl _).trans ((A_eq m (okM m) c 0).trans (V_main_arg1 m c))),
      ((h.1 c).1 1).trans (((dats m (okM m) 0 c).arrAt_in 1 rfl _).trans ((A_eq m (okM m) c 1).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).1 3).trans (((dats m (okM m) 0 c).arrAt_in 3 rfl _).trans ((A_eq m (okM m) c 3).trans (V_main_arg5 m c))),
      ((h.1 c).1 4).trans (((dats m (okM m) 0 c).arrAt_in 4 rfl _).trans ((A_eq m (okM m) c 4).trans (V_main_arg6 m c)))⟩, h.2⟩) (run_main_quiescent m ρ (okM m))

/-- THE FRAME: the program runs to the end, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_arrays m ρ)

end Cert.ScoresIdeal.Hand

end
-- ==== Proof.ScoreBytes.lean ====
module

public import Idealize.ShloMosaic.Lib.BitcastFour
public import Idealize.ShloMosaic.Lib.Pointwise

/-!
# Bytes of words

The two ways the programs take a code byte out of a packed word: a reinterpretation of rows of words as four rows of
bytes, and a shift, a mask and a truncation.
-/

@[expose] public section

noncomputable section

namespace Cert.ScoreBytes

open Idealize.ShloMosaic

/-- Byte `k` of a word, the lowest first. -/
def byteOf (w : BitVec 32) (k : Nat) : BitVec 8 := w.extractLsb' (8 * k) 8

/-- The fp8 number a byte codes, over the extended reals. -/
def code (w : BitVec 32) (k : Nat) : Ideal .fp8e4m3 := FloatOps.ofBits .fp8e4m3 (byteOf w k)

/-- Words read at eight bits: byte row `p` of a column is byte `p % 4` of word row `p / 4`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byteOf (x (ix2 a l)) (p.val % 4) := by
  unfold byteOf
  apply BitVec.eq_of_getLsbD_eq
  intro i hi
  rw [bitcast_getLsbD x h _ i hi (by decide), BitVec.getLsbD_extractLsb']
  have e : ((⟨2, ![R, n]⟩ : Shape).row (ix2 p l) * 8 + i) % 32 = 8 * (p.val % 4) + i := by
    show (p.val * 8 + i) % 32 = _; omega
  have e' : h.srcIdx (ix2 p l) (((⟨2, ![R, n]⟩ : Shape).row (ix2 p l) * 8 + i) / 32) (fun a ha =>
      (Nat.div_lt_iff_lt_mul (by decide)).2 (h.pos_lt (ix2 p l) i hi a ha)) = ix2 a l := by
    funext c
    match c with
    | ⟨0, _⟩ => exact Fin.ext ((h.srcIdx_row _ _ _ ⟨0, Nat.zero_lt_two⟩ rfl).trans (by show (p.val * 8 + i) / 32 = a.val; omega))
    | ⟨1, _⟩ => exact Fin.ext (h.srcIdx_other _ _ _ ⟨1, Nat.one_lt_two⟩ (by show ¬ 1 + 2 = 2; omega))
  rw [e', e, decide_eq_true hi, Bool.true_and]

/-- A word shifted down by `8 k` bits, masked to its low byte and truncated is its byte `k`. -/
theorem byte_of_shift (w : BitVec 32) (k : Fin 4) :
    (IntOp.andi (IntOp.shrui .host w (IntOp.muli (BitVec.ofNat 32 k.val) 8#32)) 255#32).setWidth 8 = byteOf w k.val := by
  have hk : (IntOp.muli (BitVec.ofNat 32 k.val) 8#32).toNat = 8 * k.val := by
    revert k; decide
  unfold IntOp.shrui
  rw [if_pos (by rw [hk]; omega)]
  apply BitVec.eq_of_getLsbD_eq
  intro i hi
  unfold byteOf IntOp.andi
  have h255 : ∀ i : Fin 8, (255#32 : BitVec 32).getLsbD i.val = true := by decide
  rw [BitVec.getLsbD_setWidth, BitVec.getLsbD_and, BitVec.getLsbD_extractLsb', BitVec.ushiftRight_eq', BitVec.getLsbD_ushiftRight, hk,
    show (255#32 : BitVec 32).getLsbD i = true from h255 ⟨i, hi⟩]
  simp

end Cert.ScoreBytes

end
-- ==== Proof.ScoresValue.lean ====
module

public import proofs.«01_k».proof.Proof.ScoresIdealMain
public import proofs.«01_k».proof.Proof.ScoreBytes
public import Idealize.ShloMosaic.Lib.Pipeline.ValueKit.Tiles

/-!
# The kernel's score block, element by element, over the extended reals
-/

@[expose] public section

set_option maxRecDepth 16384

noncomputable section

namespace Cert.ScoresIdeal.Value

open Cert.ScoresIdeal Cert.ScoresIdeal.Gen Cert.ScoresIdeal.Hand Cert.ScoreBytes
open Idealize.ShloMosaic

/-- One page row's product with a head, at a slot: `Σ_d q[h, d] · code`, the code of dimension `d` byte `d % 4` of word row `d / 4`. -/
def dotOf (q : FVec Ideal S64x128 .fp8e4m3) (a : Vec Ideal S32x128 .i32) (h : Fin 64) (l : Fin 128) : EReal :=
  ∑ d : Fin 128, q (ix2 h d) * code (a (ix2 ⟨d.val / 4, by omega⟩ l)) (d.val % 4)

/-- One page's scores: the heads' products, cut at zero and weighted. -/
def slotScore (q : FVec Ideal S64x128 .fp8e4m3) (w : FVec Ideal S64x128 .f32) (a : Vec Ideal S32x128 .i32) (l : Fin 128) : EReal :=
  ∑ h : Fin 64, max (dotOf q a h l) 0 * w (ix2 h l)

theorem pay28_apply (q : FVec Ideal S64x128 .fp8e4m3) (w : FVec Ideal S64x128 .f32) (a b : Vec Ideal S32x128 .i32) (l : Fin 128) :
    k0_pay28 q w a b (ix2 (0 : Fin 1) l) = slotScore q w a l := by
  unfold slotScore dotOf code
  pointwise [k0_pay28, k0_pay27]
  simp only [fun d : Fin 128 => bitcast_32_8_ix2 a bitcasts_S32x128_w32_S128x128_w8 d l ⟨d.val / 4, by omega⟩ rfl]

theorem pay29_apply (q : FVec Ideal S64x128 .fp8e4m3) (w : FVec Ideal S64x128 .f32) (a b : Vec Ideal S32x128 .i32) (l : Fin 128) :
    k0_pay29 q w a b (ix2 (0 : Fin 1) l) = slotScore q w b l := by
  unfold slotScore dotOf code
  pointwise [k0_pay29, k0_pay27]
  simp only [fun d : Fin 128 => bitcast_32_8_ix2 b bitcasts_S32x128_w32_S128x128_w8 d l ⟨d.val / 4, by omega⟩ rfl]

/-- The row of slot `r`, whichever half of its product it is. -/
theorem rows_apply (x0 : Vec Ideal S2112x128 .i32) (q : FVec Ideal S64x128 .fp8e4m3) (w : FVec Ideal S64x128 .f32) (r : Fin 64) (l : Fin 128) :
    rows x0 q w r (ix2 (0 : Fin 1) l) = slotScore q w (pageWords x0 r) l := by
  obtain ⟨r, h⟩ := r
  unfold rows
  dsimp only
  cases Nat.decEq (r % 2) 0 with
  | isTrue _ => exact pay28_apply ..
  | isFalse _ => exact pay29_apply ..

/-- The rows of all the slots, one below the other. -/
def catRows (x0 : Vec Ideal S2112x128 .i32) (q : FVec Ideal S64x128 .fp8e4m3) (w : FVec Ideal S64x128 .f32) : FVec Ideal S64x128 .f32 :=
  concatenate S64x128 0 (List.ofFn fun n : Fin 64 => (⟨S1x128, rows x0 q w n⟩ : (s : Shape) × (s.Idx → Ideal .f32)))
    concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S64x128_d0

/-- Scaled rows laid out as the output block: slots along the lanes, pages along the rows and the two lane halves. -/
def layOut (v600 v23 : FVec Ideal S64x128 .f32) : FVec Ideal S64x128 .f32 :=
  let v603 : FVec Ideal S128x128 .f32 := concatenate S128x128 0 [⟨S64x128, mulf v600 v23⟩, ⟨S64x128, broadcast S64x128 (Scalar.ofBits (F := Ideal) .f32 0x00000000#32)⟩] concatenates_S64x128_S64x128_S128x128_d0
  let v604 : FVec Ideal S128x128 .f32 := transpose S128x128 [1, 0] v603 transposes_S128x128_p1_0_S128x128
  concatenate S64x128 1 [⟨S64x64, extractStridedSlice S64x64 ![0, 0] v604 slices_S128x128_o0_0_S64x64⟩, ⟨S64x64, extractStridedSlice S64x64 ![64, 0] v604 slices_S128x128_o64_0_S64x64⟩] concatenates_S64x64_S64x64_S64x128_d1

theorem pageScores_eq (x0 : Vec Ideal S2112x128 .i32) (q : FVec Ideal S64x128 .fp8e4m3) (w : FVec Ideal S64x128 .f32) :
    pageScores x0 q w = layOut (catRows x0 q w) (k0_pay5 (View.ld x0 (Rect.unit (s := S2112x128) ![2048, 0] S64x128.size inb_S2112x128_S64x128_2048_0))) := rfl

theorem catRows_apply (x0 : Vec Ideal S2112x128 .i32) (q : FVec Ideal S64x128 .fp8e4m3) (w : FVec Ideal S64x128 .f32) (s : Fin 64) (l : Fin 128) :
    catRows x0 q w (ix2 s l) = slotScore q w (pageWords x0 s) l := by
  unfold catRows
  rw [← rows_apply]
  refine concatenate_ofFn_unit_apply (t := S64x128) (s₁ := S1x128) (0 : Fin 2) _ _ rfl rfl (ix2 s l) s rfl (ix2 (0 : Fin 1) l) ?_
  intro b hb
  match b with
  | ⟨0, _⟩ => exact absurd rfl hb
  | ⟨1, _⟩ => rfl

theorem layOut_apply (v600 v23 : FVec Ideal S64x128 .f32) (a : Fin 64) (l : Fin 128) :
    layOut v600 v23 (ix2 a l)
      = v600 (ix2 ⟨l.val % 64, by omega⟩ ⟨l.val / 64 * 64 + a.val, by omega⟩) * v23 (ix2 ⟨l.val % 64, by omega⟩ ⟨l.val / 64 * 64 + a.val, by omega⟩) := by
  pointwise [layOut]
  have key : ∀ (i i' : Fin 64) (j j' : Fin 128), i = i' → j = j' → v600 (ix2 i j) * v23 (ix2 i j) = v600 (ix2 i' j') * v23 (ix2 i' j') := by
    rintro i _ j _ rfl rfl; rfl
  by_cases h : l.val < 64
  · rw [dif_pos h, dif_pos h]
    exact key _ _ _ _ (Fin.ext (by show l.val = l.val % 64; omega)) (Fin.ext (by show a.val = l.val / 64 * 64 + a.val; omega))
  · rw [dif_neg h, dif_pos (by omega)]
    exact key _ _ _ _ (Fin.ext (by show l.val - 64 = l.val % 64; omega)) (Fin.ext (by show 64 + a.val = l.val / 64 * 64 + a.val; omega))

theorem pay3_apply (b : Fin 10) (w : Vec Ideal S64x128 .f32) (h : Fin 64) :
    k0_pay3 (BitVec.ofNat 32 b.val) w (ix2 h (0 : Fin 1)) = w (ix2 h ⟨b.val, by omega⟩) := by
  pointwise [k0_pay3]
  rw [Finset.sum_eq_single (⟨b.val, by omega⟩ : Fin 128)]
  · simp [Scalar.select, IntOp.cmpi]
  · intro x _ hx
    have : ¬ (BitVec.ofNat 32 x.val = BitVec.ofNat 32 b.val) := by
      intro h
      have := congrArg BitVec.toNat h
      simp only [BitVec.toNat_ofNat] at this
      have h1 := x.isLt
      have h2 := b.isLt
      rw [Nat.mod_eq_of_lt (by omega), Nat.mod_eq_of_lt (by omega)] at this
      exact hx (Fin.ext this)
    rw [show IntOp.cmpi .eq (BitVec.ofNat 32 x.val) (BitVec.ofNat 32 b.val) = 0#1 by
      show BitVec.ofBool (BitVec.ofNat 32 x.val == BitVec.ofNat 32 b.val) = 0#1
      rw [beq_false_of_ne this]; rfl]
    exact if_neg (by decide)
  · intro h; exact absurd (Finset.mem_univ _) h

/-- The score of slot `s` of the page in column `col` of a block, for batch row `b`: the heads' products with the queries, cut at
    zero, weighted, summed, and scaled by the key's scale. -/
def blockScore (x0 : Vec Ideal S2112x128 .i32) (x1 : Vec Ideal S1x64x128 .fp8e4m3) (x2 : Vec Ideal S64x128 .f32) (b : Fin 10) (s : Fin 64) (col : Fin 128) : EReal :=
  (∑ h : Fin 64, max (∑ d : Fin 128, x1 (ix3 (0 : Fin 1) h d) * code (x0 (ix2 ⟨32 * s.val + d.val / 4, by omega⟩ col)) (d.val % 4)) 0 * x2 (ix2 h ⟨b.val, by omega⟩))
    * Ideal.ofBits .f32 (x0 (ix2 ⟨2048 + s.val, by omega⟩ col))

/-- The new key's score for batch row `b`. -/
def newScore (x1 : Vec Ideal S1x64x128 .fp8e4m3) (x2 : Vec Ideal S64x128 .f32) (x3 : Vec Ideal S1x1x128 .fp8e4m3) (x4 : Vec Ideal S10 .f32) (b : Fin 10) : EReal :=
  (∑ h : Fin 64, max (∑ d : Fin 128, x1 (ix3 (0 : Fin 1) h d) * x3 (ix3 (0 : Fin 1) (0 : Fin 1) d)) 0 * x2 (ix2 h ⟨b.val, by omega⟩)) * x4 (ix1 b)

theorem scoreOut_apply (i : grid0.Coords) (n : BitVec 32) (x0 : Vec Ideal S2112x128 .i32) (x1 : Vec Ideal S1x64x128 .fp8e4m3) (x2 : Vec Ideal S64x128 .f32)
    (x3 : Vec Ideal S1x1x128 .fp8e4m3) (x4 : Vec Ideal S10 .f32) (a : Fin 64) (l : Fin 128) :
    scoreOut i n x0 x1 x2 x3 x4 (ix3 (0 : Fin 1) a l)
      = Scalar.select (IntOp.cmpi .slt (BitVec.ofNat 32 ((i 1).val * 8192 + a.val * 128 + l.val)) n)
          (blockScore x0 x1 x2 (i 0) ⟨l.val % 64, by omega⟩ ⟨l.val / 64 * 64 + a.val, by omega⟩)
          (Scalar.select (IntOp.cmpi .eq (BitVec.ofNat 32 ((i 1).val * 8192 + a.val * 128 + l.val)) n) (newScore x1 x2 x3 x4 (i 0)) 0) := by
  unfold scoreOut
  rw [pageScores_eq]
  have hpos : IntOp.addi (IntOp.addi (Scalar.muli (BitVec.ofNat 32 (i 1).val) 8192#32) (IntOp.muli (BitVec.ofNat 32 a.val) 128#32)) (BitVec.ofNat 32 l.val)
      = BitVec.ofNat 32 ((i 1).val * 8192 + a.val * 128 + l.val) := by
    apply BitVec.eq_of_toNat_eq
    show (BitVec.ofNat 32 (i 1).val * 8192#32 + BitVec.ofNat 32 a.val * 128#32 + BitVec.ofNat 32 l.val).toNat = _
    simp only [BitVec.toNat_add, BitVec.toNat_mul, BitVec.toNat_ofNat]
    have : (i 1).val < 4 := (i 1).isLt
    omega
  pointwise [k0_pay109]
  rw [hpos]
  pointwise [layOut_apply, catRows_apply, k0_pay5, k0_pay4, k0_pay2, k0_pay108, slotScore, dotOf, pageWords, blockScore, newScore]
  have h3 : ∀ h : Fin 64, k0_pay3 (BitVec.ofNat 32 (i 0).val) (View.ld x2 (Rect.unit (s := S64x128) ![0, 0] ![64, 128] inb_S64x128_S64x128_0_0)) (ix2 h (0 : Fin 1))
      = x2 (ix2 h ⟨(i 0).val, by have : (i 0).val < 10 := (i 0).isLt; omega⟩) := fun h => by
    refine (pay3_apply (i 0) _ h).trans ?_
    pointwise
  have h4 : ∀ H : (∀ a, k0_off2 i a < S10.size a), (fun a => ⟨k0_off2 i a, H a⟩ : S10.Idx) = ix1 (i 0) := fun H => by
    funext a
    match a with
    | ⟨0, _⟩ => exact Fin.ext (by
        have : (i 0).val < 10 := (i 0).isLt
        show (BitVec.ofNat 32 (i 0).val).toNat = (i 0).val
        rw [BitVec.toNat_ofNat]; omega)
  simp only [h3, h4]
  rfl

end Cert.ScoresIdeal.Value

end
-- ==== Proof.ScoreSpec.lean ====
module

public import proofs.«01_k».proof.Proof.ScoreBytes

/-!
# One position's index score

The index score of batch row `b` at position `p`, as a function of the argument arrays read at indices, in the factored
form that the kernel computes: the query scale multiplied into the head weight, the key scale taken out of the head sum.
-/

@[expose] public section

noncomputable section

namespace Cert.IndexScore

open Cert.ScoreBytes
open Idealize.ShloMosaic

/-- Position `p`'s score, from the three cases: inside the cache, at its end (the new key), past it. -/
def scoreAt (p : ℕ) (n : BitVec 32) (cached new : EReal) : EReal :=
  Scalar.select (IntOp.cmpi .slt (BitVec.ofNat 32 p) n) cached (Scalar.select (IntOp.cmpi .eq (BitVec.ofNat 32 p) n) new 0)

theorem slt_iff (x y : BitVec 32) : IntOp.cmpi .slt x y = 1 ↔ x.toInt < y.toInt := by
  show BitVec.ofBool (x.slt y) = 1#1 ↔ _
  rw [BitVec.slt_eq_decide]
  by_cases h : x.toInt < y.toInt <;> simp [h]

theorem eq_iff (x y : BitVec 32) : IntOp.cmpi .eq x y = 1 ↔ x = y := by
  show BitVec.ofBool (x == y) = 1#1 ↔ _
  by_cases h : x = y
  · simp [h]
  · rw [beq_eq_false_iff_ne.2 h]; simp [h]

theorem toInt_ofNat (p : ℕ) (hp : p < 2 ^ 31) : (BitVec.ofNat 32 p).toInt = p := by
  rw [BitVec.toInt_eq_toNat_of_lt (by rw [BitVec.toNat_ofNat]; omega), BitVec.toNat_ofNat]; omega

/-- Past the cache and its new entry, the score is zero. -/
theorem scoreAt_past (p : ℕ) (n : BitVec 32) (u v : EReal) (hp : p < 2 ^ 31) (h : n.toInt < p) : scoreAt p n u v = 0 := by
  have hi := toInt_ofNat p hp
  unfold scoreAt Scalar.select
  rw [if_neg (fun e => by rw [slt_iff, hi] at e; omega), if_neg (fun e => by rw [eq_iff] at e; rw [← e, hi] at h; omega)]

/-- The cached score matters only inside the cache, the new one only at its end. -/
theorem scoreAt_congr (p : ℕ) (n : BitVec 32) (u u' v v' : EReal) (hp : p < 2 ^ 31) (h : (p : Int) < n.toInt → u = u') (hv : v = v') :
    scoreAt p n u v = scoreAt p n u' v' := by
  have hi := toInt_ofNat p hp
  subst hv
  by_cases e : IntOp.cmpi .slt (BitVec.ofNat 32 p) n = 1
  · rw [h (by rw [slt_iff, hi] at e; exact e)]
  · unfold scoreAt Scalar.select
    rw [if_neg e, if_neg e]

/-- The column of the page array that holds page `g` of batch row `b`: pages lie in blocks of 128, even pages first. -/
def pageCol (b : Fin 10) (g : ℕ) (hg : g < 512) : Fin 5120 := ⟨b.val * 512 + g / 128 * 128 + g % 2 * 64 + g % 128 / 2, by omega⟩

variable (cl : Fin 10 → BitVec 32) (pg : Fin 2112 → Fin 5120 → BitVec 32) (qc : Fin 10 → Fin 64 → Fin 128 → EReal)
  (iqs wts : Fin 10 → Fin 64 → EReal) (kc : Fin 10 → Fin 128 → EReal) (iks : Fin 10 → EReal)

/-- A cached key's product with head `h`: the key of slot `s` on the page in column `col`, its code of dimension `d` byte `d % 4` of word row `32 s + d / 4`. -/
def cachedDot (b : Fin 10) (s : Fin 64) (col : Fin 5120) (h : Fin 64) : EReal :=
  ∑ d : Fin 128, qc b h d * code (pg ⟨32 * s.val + d.val / 4, by omega⟩ col) (d.val % 4)

/-- The new key's product with head `h`. -/
def newDot (b : Fin 10) (h : Fin 64) : EReal := ∑ d : Fin 128, qc b h d * kc b d

/-- A cached key's scale: the last 64 words of a page, read as binary32. -/
def cachedScale (s : Fin 64) (col : Fin 5120) : EReal := Ideal.ofBits .f32 (pg ⟨2048 + s.val, by omega⟩ col)

/-- The score of batch row `b` at position `p`. -/
def score (b : Fin 10) (p : ℕ) (hp : p < 32768) : EReal :=
  scoreAt p (cl b)
    ((∑ h : Fin 64, max (cachedDot pg qc b ⟨p % 64, by omega⟩ (pageCol b (p / 64) (by omega)) h) 0 * (iqs b h * wts b h))
      * cachedScale pg ⟨p % 64, by omega⟩ (pageCol b (p / 64) (by omega)))
    ((∑ h : Fin 64, max (newDot qc kc b h) 0 * (iqs b h * wts b h)) * iks b)

/-! ## The factored form is the plain one -/

/-- A nonnegative factor comes out of the cut at zero. -/
theorem max_mul (x s : EReal) (hs : 0 ≤ s) : max (x * s) 0 = max x 0 * s := by
  rcases le_total 0 x with h | h
  · rw [max_eq_left h, max_eq_left (mul_nonneg h hs)]
  · rw [max_eq_right h, zero_mul, max_eq_right]
    calc x * s ≤ 0 * s := mul_le_mul_of_nonneg_right h hs
      _ = 0 := zero_mul s

/-- A nonnegative finite factor comes out of a sum, whatever the terms. -/
theorem sum_mul_of_nonneg {ι : Type} (S : Finset ι) (f : ι → EReal) (k : EReal) (h0 : 0 ≤ k) (h1 : k ≠ ⊤) : ∑ i ∈ S, f i * k = (∑ i ∈ S, f i) * k := by
  classical
  induction S using Finset.induction_on with
  | empty => simp
  | insert a S ha ih => rw [Finset.sum_insert ha, Finset.sum_insert ha, ih, EReal.right_distrib_of_nonneg_of_ne_top h0 h1]

/-- The plain head sum, each head's product scaled, cut at zero and weighted, is the factored one. -/
theorem head_sum (D s w : Fin 64 → EReal) (k : EReal) (hs : ∀ h, 0 ≤ s h) (h0 : 0 ≤ k) (h1 : k ≠ ⊤) :
    ∑ h, w h * max (D h * s h * k) 0 = (∑ h, max (D h) 0 * (s h * w h)) * k := by
  rw [← sum_mul_of_nonneg _ _ k h0 h1]
  refine Finset.sum_congr rfl fun h _ => ?_
  rw [max_mul _ _ h0, max_mul _ _ (hs h)]
  ac_rfl

end Cert.IndexScore

end
-- ==== Proof.ScoresArray.lean ====
module

public import proofs.«01_k».proof.Proof.ScoresIdealFrame
public import proofs.«01_k».proof.Proof.ScoresValue
public import proofs.«01_k».proof.Proof.ScoreSpec
public import Idealize.ShloMosaic.Lib.Pipeline.ValueKit
public import Idealize.ShloMosaic.Lib.StableHlo.ReadAt

/-!
# The kernel's result array, element by element, over the extended reals

The score block each grid point writes back, read at an index, in terms of the argument arrays; and the whole result array.
-/

@[expose] public section

set_option maxRecDepth 16384

noncomputable section

namespace Cert.ScoresIdeal.Value

open Cert.ScoresIdeal Cert.ScoresIdeal.Gen Cert.ScoresIdeal.Hand Cert.ScoreBytes
open Idealize.ShloMosaic Idealize.ShloMosaic.TcCoe
open Cert.IndexScore

theorem hz3 : (![0, 0, 0] : Fin 3 → Nat) = fun _ => 0 := funext fun a => by fin_cases a <;> rfl

/-- What a grid point leaves in the score block, read at an index, whichever branch it took. -/
theorem outAt_apply (i : grid0.Coords) (n : BitVec 32) (x0 : Vec Ideal S2112x128 .i32) (x1 : Vec Ideal S1x64x128 .fp8e4m3) (x2 : Vec Ideal S64x128 .f32)
    (x3 : Vec Ideal S1x1x128 .fp8e4m3) (x4 : Vec Ideal S10 .f32) (a : Fin 64) (l : Fin 128) :
    outAt i n x0 x1 x2 x3 x4 (ix3 (0 : Fin 1) a l)
      = scoreAt ((i 1).val * 8192 + a.val * 128 + l.val) n
          (blockScore x0 x1 x2 (i 0) ⟨l.val % 64, by omega⟩ ⟨l.val / 64 * 64 + a.val, by omega⟩) (newScore x1 x2 x3 x4 (i 0)) := by
  unfold outAt
  have h1 : (i 1).val < 4 := (i 1).isLt
  split
  · rename_i h
    rw [cond1_iff] at h
    rw [scoreAt_past _ _ _ _ (by omega) (by push_cast; omega)]
    unfold zeroOut
    rw [View.canon_unit_zero hz3]
    pointwise [k0_pay1]
  · rw [View.canon_unit_zero hz3]
    exact scoreOut_apply i n x0 x1 x2 x3 x4 a l

variable (m : (ℓ : Loc nD τ sig) → Buf (Elt Ideal) ℓ)

/-! ## The argument arrays, read at indices -/

abbrev clF (c : Dev nD) (b : Fin 10) : BitVec 32 := (m ((c : Thread nD τ).loc main_arg0) : Vec Ideal S10 .i32) (ix1 b)
abbrev pgF (c : Dev nD) (r : Fin 2112) (col : Fin 5120) : BitVec 32 := (m ((c : Thread nD τ).loc main_arg1) : Vec Ideal S2112x5120 .i32) (ix2 r col)
abbrev qcF (c : Dev nD) (b : Fin 10) (h : Fin 64) (d : Fin 128) : EReal := (m ((c : Thread nD τ).loc main_arg2) : Vec Ideal S10x64x128 .fp8e4m3) (ix3 b h d)
abbrev iqsF (c : Dev nD) (b : Fin 10) (h : Fin 64) : EReal := (m ((c : Thread nD τ).loc main_arg3) : Vec Ideal S10x64 .f32) (ix2 b h)
abbrev wtsF (c : Dev nD) (b : Fin 10) (h : Fin 64) : EReal := (m ((c : Thread nD τ).loc main_arg4) : Vec Ideal S10x64 .f32) (ix2 b h)
abbrev kcF (c : Dev nD) (b : Fin 10) (d : Fin 128) : EReal := (m ((c : Thread nD τ).loc main_arg5) : Vec Ideal S10x1x128 .fp8e4m3) (ix3 b (0 : Fin 1) d)
abbrev iksF (c : Dev nD) (b : Fin 10) : EReal := (m ((c : Thread nD τ).loc main_arg6) : Vec Ideal S10 .f32) (ix1 b)

/-! ## The blocks, read at indices -/

abbrev B (hO : Ok m) (c : Dev nD) (t : Fin (cfgM m hO).N) : Fin 10 := ⟨(grid0.coords t 0).val, (grid0.coords t 0).isLt⟩

theorem iblk0_apply (hO : Ok m) (c : Dev nD) (t : Fin (cfgM m hO).N) (r : Fin 2112) (l : Fin 128) (col : Fin 5120)
    (hcol : col.val = (4 * (grid0.coords t 0).val + (ScoreIndex.pickWord (BitVec.ofNat 32 (grid0.coords t 1).val) (word (grid0.coords t) (tbl m 0))).toNat) * 128 + l.val) :
    (iblk m hO c 0 t : Vec Ideal S2112x128 .i32) (ix2 r l) = pgF m c r col := by
  show V m c main_arg1 _ = _
  rw [V_main_arg1]
  show m _ _ = m _ _
  congr 1
  funext a
  have e0 := congrFun (ix0_eq (F := Ideal) (tbl m) (grid0.coords t)) 0
  have e1 := congrFun (ix0_eq (F := Ideal) (tbl m) (grid0.coords t)) 1
  match a with
  | ⟨0, _⟩ => exact Fin.ext (by
      show cc0_transform_0 k0_off1_inb numel1_S1 (tbl m) (grid0.coords t) 0 * 2112 + 1 * r.val = r.val
      rw [e0]; show 0 * 2112 + _ = _; omega)
  | ⟨1, _⟩ => exact Fin.ext (by
      show cc0_transform_0 k0_off1_inb numel1_S1 (tbl m) (grid0.coords t) 1 * 128 + 1 * l.val = col.val
      rw [e1]; show (Scalar.addi _ _).toNat * 128 + _ = _; rw [ix0_toNat, hcol]; omega)

theorem iblk1_apply (hO : Ok m) (c : Dev nD) (t : Fin (cfgM m hO).N) (h : Fin 64) (d : Fin 128) :
    (iblk m hO c 1 t : Vec Ideal S1x64x128 .fp8e4m3) (ix3 (0 : Fin 1) h d) = qcF m c (grid0.coords t 0) h d := by
  show V m c main_arg2 _ = _
  rw [V_main_arg2]
  show m _ _ = m _ _
  congr 1
  funext a
  have h0 : (grid0.coords t 0).val < 10 := (grid0.coords t 0).isLt
  match a with
  | ⟨0, _⟩ => exact Fin.ext (by
      show (BitVec.ofNat 32 (grid0.coords t 0).val).toNat * 1 + 1 * 0 = (grid0.coords t 0).val
      rw [BitVec.toNat_ofNat]; omega)
  | ⟨1, _⟩ => exact Fin.ext (by show 0 * 64 + 1 * h.val = h.val; omega)
  | ⟨2, _⟩ => exact Fin.ext (by show 0 * 128 + 1 * d.val = d.val; omega)

theorem iblk3_apply (hO : Ok m) (c : Dev nD) (t : Fin (cfgM m hO).N) (d : Fin 128) :
    (iblk m hO c 3 t : Vec Ideal S1x1x128 .fp8e4m3) (ix3 (0 : Fin 1) (0 : Fin 1) d) = kcF m c (grid0.coords t 0) d := by
  show V m c main_arg5 _ = _
  rw [V_main_arg5]
  show m _ _ = m _ _
  congr 1
  funext a
  have h0 : (grid0.coords t 0).val < 10 := (grid0.coords t 0).isLt
  match a with
  | ⟨0, _⟩ => exact Fin.ext (by
      show (BitVec.ofNat 32 (grid0.coords t 0).val).toNat * 1 + 1 * 0 = (grid0.coords t 0).val
      rw [BitVec.toNat_ofNat]; omega)
  | ⟨1, _⟩ => exact Fin.ext (by show 0 * 1 + 1 * 0 = 0; omega)
  | ⟨2, _⟩ => exact Fin.ext (by show 0 * 128 + 1 * d.val = d.val; omega)

theorem iblk4_apply (hO : Ok m) (c : Dev nD) (t : Fin (cfgM m hO).N) (b : Fin 10) :
    (iblk m hO c 4 t : Vec Ideal S10 .f32) (ix1 b) = iksF m c b := by
  show V m c main_arg6 _ = _
  rw [V_main_arg6]
  show m _ _ = m _ _
  congr 1
  funext a
  match a with
  | ⟨0, _⟩ => exact Fin.ext (by show 0 * 10 + 1 * b.val = b.val; omega)

/-- The host's head weights: the query scale times the head weight, head by batch row. -/
theorem V_main_v3_apply (c : Dev nD) (h : Fin 64) (b : Fin 10) :
    (V m c main_v3 : Vec Ideal S64x128 .f32) (ix2 h ⟨b.val, by omega⟩) = iqsF m c b h * wtsF m c b h := by
  unfold V
  after_reads_at

theorem iblk2_apply (hO : Ok m) (c : Dev nD) (t : Fin (cfgM m hO).N) (h : Fin 64) (b : Fin 10) :
    (iblk m hO c 2 t : Vec Ideal S64x128 .f32) (ix2 h ⟨b.val, by omega⟩) = iqsF m c b h * wtsF m c b h := by
  rw [← V_main_v3_apply m c]
  show V m c main_v3 _ = V m c main_v3 _
  congr 1
  funext a
  match a with
  | ⟨0, _⟩ => exact Fin.ext (by show 0 * 64 + 1 * h.val = h.val; omega)
  | ⟨1, _⟩ => exact Fin.ext (by show 0 * 128 + 1 * b.val = b.val; omega)

/-- The table's word at a point is the cache length of the point's batch row. -/
theorem word_eq (c : Dev nD) (i : grid0.Coords) : word i (tbl m 0) = clF m c (i 0) := by
  obtain rfl : c = 0 := Subsingleton.elim _ _
  show V m 0 main_arg0 _ = _
  rw [V_main_arg0]
  show m _ _ = m _ _
  congr 1
  funext a
  have h0 : (i 0).val < 10 := (i 0).isLt
  match a with
  | ⟨0, _⟩ => exact Fin.ext (by
      show (BitVec.ofNat 32 (i 0).val).toNat = (i 0).val
      rw [BitVec.toNat_ofNat]; omega)

/-! ## The result array -/

/-- The whole result: every position's score, 128 positions a row. -/
def scores (c : Dev nD) : Vec Ideal S10x256x128 .f32 := fun i =>
  score (clF m c) (pgF m c) (qcF m c) (iqsF m c) (wtsF m c) (kcF m c) (iksF m c) (i 0) ((i 1).val * 128 + (i 2).val)
    (by have h1 : (i 1).val < 256 := (i 1).isLt; have h2 : (i 2).val < 128 := (i 2).isLt; omega)

theorem score_congr {cl : Fin 10 → BitVec 32} {pg : Fin 2112 → Fin 5120 → BitVec 32} {qc : Fin 10 → Fin 64 → Fin 128 → EReal}
    {iqs wts : Fin 10 → Fin 64 → EReal} {kc : Fin 10 → Fin 128 → EReal} {iks : Fin 10 → EReal} {b b' : Fin 10} {p p' : ℕ} (hb : b = b') (hp : p = p') (h h') :
    score cl pg qc iqs wts kc iks b p h = score cl pg qc iqs wts kc iks b' p' h' := by
  subst hb; subst hp; rfl

/-- The block fetched is the one whose pages are scored, wherever one of the chunk's positions lies inside the cache. -/
theorem pick_eq (c N : ℕ) (p : ℕ) (n : BitVec 32) (hc : c < 4) (hp : c * 8192 ≤ p) (hlt : (p : Int) < n.toInt) (hn : n.toInt ≤ 2 ^ 31 - 8192) :
    ScoreIndex.pickWord (BitVec.ofNat 32 c) n = BitVec.ofNat 32 c := by
  have hN : (n.toNat : Int) = n.toInt := by
    have := BitVec.toInt_eq_toNat_cond n
    have := n.isLt
    split at * <;> omega
  have e : n = BitVec.ofNat 32 n.toNat := by simp
  rw [e]
  exact ScoreIndex.pickWord_eq c n.toNat (by omega) (by omega) (by omega)

/-- What point `t` leaves in the score block is the scores of its batch row and its chunk of 8192 positions. -/
theorem after_apply (hlen : ∀ b, (clF m 0 b).toInt ≤ 2 ^ 31 - 8192) (hO : Ok m) (t : Fin (cfgM m hO).N) (a : Fin 64) (l : Fin 128) (h) :
    (dats m hO 0 0).after 5 t (ix3 (0 : Fin 1) a l)
      = score (clF m 0) (pgF m 0) (qcF m 0) (iqsF m 0) (wtsF m 0) (kcF m 0) (iksF m 0) (grid0.coords t 0) ((grid0.coords t 1).val * 8192 + a.val * 128 + l.val) h := by
  rw [after0_5]
  refine (outAt_apply _ _ _ _ _ _ _ a l).trans ?_
  rw [word_eq m 0]
  have hb : (grid0.coords t 0).val < 10 := (grid0.coords t 0).isLt
  have hc : (grid0.coords t 1).val < 4 := (grid0.coords t 1).isLt
  have e2 : ∀ x h, (iblk m hO 0 2 t : Vec Ideal S64x128 .f32) (ix2 x ⟨(grid0.coords t 0).val, h⟩) = iqsF m 0 (grid0.coords t 0) x * wtsF m 0 (grid0.coords t 0) x :=
    fun x _ => iblk2_apply m hO 0 t x (grid0.coords t 0)
  have e4 : (iblk m hO 0 4 t : Vec Ideal S10 .f32) (ix1 (grid0.coords t 0)) = iksF m 0 (grid0.coords t 0) := iblk4_apply m hO 0 t (grid0.coords t 0)
  unfold score
  refine scoreAt_congr _ _ _ _ _ _ (by omega) (fun hlt => ?_) ?_
  · have hpick : ScoreIndex.pickWord (BitVec.ofNat 32 (grid0.coords t 1).val) (word (grid0.coords t) (tbl m 0)) = BitVec.ofNat 32 (grid0.coords t 1).val := by
      rw [word_eq m 0]
      exact pick_eq _ 0 _ _ hc (by omega) hlt (hlen _)
    have hcol : (pageCol (grid0.coords t 0) (((grid0.coords t 1).val * 8192 + a.val * 128 + l.val) / 64) (by omega)).val
        = (4 * (grid0.coords t 0).val + (ScoreIndex.pickWord (BitVec.ofNat 32 (grid0.coords t 1).val) (word (grid0.coords t) (tbl m 0))).toNat) * 128
          + (l.val / 64 * 64 + a.val) := by
      rw [hpick, BitVec.toNat_ofNat]
      unfold pageCol
      dsimp only
      omega
    have hs : ∀ e e', (⟨((grid0.coords t 1).val * 8192 + a.val * 128 + l.val) % 64, e⟩ : Fin 64) = ⟨l.val % 64, e'⟩ := fun _ _ => Fin.ext (by dsimp only; omega)
    rw [hs _ (by omega)]
    unfold blockScore cachedDot cachedScale
    simp only [iblk0_apply m hO 0 t _ ⟨l.val / 64 * 64 + a.val, by omega⟩ _ hcol, iblk1_apply, e2]
  · unfold newScore newDot
    simp only [iblk1_apply, e2, iblk3_apply, e4]

theorem coords_eq : ∀ t : Fin grid0.N, (grid0.coords t 0).val = t.val / 4 ∧ (grid0.coords t 1).val = t.val % 4 := by decide +kernel

/-- The result array: every position's score. -/
theorem final_scores (hlen : ∀ b, (clF m 0 b).toInt ≤ 2 ^ 31 - 8192) (hO : Ok m) :
    (dats m hO 0 0).arrAt 5 (cfgM m hO).N = scores m 0 := by
  refine (dats m hO 0 0).arrAt_eq_of_cover 5 (scores m 0) (fun t _ => ?_) (fun i => ?_)
  · funext y
    have hb : (grid0.coords t 0).val < 10 := (grid0.coords t 0).isLt
    have hc : (grid0.coords t 1).val < 4 := (grid0.coords t 1).isLt
    have hy : ∀ y : S1x64x128.Idx, (dats m hO 0 0).after 5 t y = scores m 0 ((((cfgM m hO).win 5).blk t).view.emb y) := fun y => by
      idx_vars y
      obtain rfl : y0 = (0 : Fin 1) := Subsingleton.elim _ _
      refine (after_apply m hlen hO t y1 y2 (by omega)).trans (score_congr ?_ ?_ _ _)
      · exact Fin.ext (by
          show (grid0.coords t 0).val = (BitVec.ofNat 32 (grid0.coords t 0).val).toNat * 1 + 1 * 0
          rw [BitVec.toNat_ofNat]; omega)
      · show (grid0.coords t 1).val * 8192 + y1.val * 128 + y2.val
          = ((BitVec.ofNat 32 (grid0.coords t 1).val).toNat * 64 + 1 * y1.val) * 128 + (0 * 128 + 1 * y2.val)
        rw [BitVec.toNat_ofNat]; omega
    exact hy y
  · have key : ∀ i : S10x256x128.Idx, ∃ t : Fin grid0.N, i ∈ (((cfgM m hO).win 5).blk t).view.set := fun i => by
      have h0 : (i 0).val < 10 := (i 0).isLt
      have h1 : (i 1).val < 256 := (i 1).isLt
      have h2 : (i 2).val < 128 := (i 2).isLt
      have ht : (i 0).val * 4 + (i 1).val / 64 < grid0.N := by show _ < 40; omega
      have e : (grid0.coords ⟨(i 0).val * 4 + (i 1).val / 64, ht⟩ 0).val = (i 0).val ∧ (grid0.coords ⟨(i 0).val * 4 + (i 1).val / 64, ht⟩ 1).val = (i 1).val / 64 := by
        have := coords_eq ⟨_, ht⟩
        dsimp only at this
        omega
      refine ⟨⟨_, ht⟩, ?_⟩
      show i ∈ ((View.whole main_v4).slice (((cfgM m hO).win 5).rect ⟨_, ht⟩)).set
      erw [View.set_slice_whole, Rect.mem_set_unit]
      generalize (⟨(i 0).val * 4 + (i 1).val / 64, ht⟩ : Fin grid0.N) = t at e
      have hb : (grid0.coords t 0).val < 10 := (grid0.coords t 0).isLt
      have hc : (grid0.coords t 1).val < 4 := (grid0.coords t 1).isLt
      intro a
      match a with
      | ⟨0, _⟩ =>
        show (BitVec.ofNat 32 (grid0.coords t 0).val).toNat * 1 ≤ (i 0).val ∧ (i 0).val < (BitVec.ofNat 32 (grid0.coords t 0).val).toNat * 1 + 1
        rw [BitVec.toNat_ofNat]; omega
      | ⟨1, _⟩ =>
        show (BitVec.ofNat 32 (grid0.coords t 1).val).toNat * 64 ≤ (i 1).val ∧ (i 1).val < (BitVec.ofNat 32 (grid0.coords t 1).val).toNat * 64 + 64
        rw [BitVec.toNat_ofNat]; omega
      | ⟨2, _⟩ => show 0 * 128 ≤ (i 2).val ∧ (i 2).val < 0 * 128 + 128; omega
    obtain ⟨t, ht⟩ := key i
    exact ⟨t, flush0_5 (adm m hO) t, ht⟩

end Cert.ScoresIdeal.Value

end
-- ==== Proof.RefArray.lean ====
module

public import proofs.«01_k».proof.Proof.Gen.IndexScoresIdeal.Value
public import proofs.«01_k».proof.Proof.ScoreSpec
public import Idealize.ShloMosaic.Lib.Pipeline.ValueKit
public import Idealize.ShloMosaic.Lib.StableHlo.ReadAt
public import Idealize.ShloMosaic.Lib.Tactic.IndexArith

/-!
# The reference's result array, element by element, over the extended reals
-/

@[expose] public section

set_option maxRecDepth 16384

noncomputable section

namespace Cert.IndexScoresIdeal.Hand

open Cert.IndexScoresIdeal Cert.IndexScoresIdeal.Gen Cert.ScoreBytes Cert.IndexScore
open Idealize.ShloMosaic Idealize.ShloMosaic.TcCoe

variable (m : (ℓ : Loc nD τ sig) → Buf (Elt Ideal) ℓ)

/-! ## The argument arrays, read at indices -/

abbrev clF (c : Dev nD) (b : Fin 10) : BitVec 32 := (m ((c : Thread nD τ).loc main_arg0) : Vec Ideal S10 .i32) (ix1 b)
abbrev pgF (c : Dev nD) (r : Fin 2112) (col : Fin 5120) : BitVec 32 := (m ((c : Thread nD τ).loc main_arg1) : Vec Ideal S2112x5120 .i32) (ix2 r col)
abbrev qcF (c : Dev nD) (b : Fin 10) (h : Fin 64) (d : Fin 128) : EReal := (m ((c : Thread nD τ).loc main_arg2) : Vec Ideal S10x64x128 .fp8e4m3) (ix3 b h d)
abbrev iqsF (c : Dev nD) (b : Fin 10) (h : Fin 64) : EReal := (m ((c : Thread nD τ).loc main_arg3) : Vec Ideal S10x64 .f32) (ix2 b h)
abbrev wtsF (c : Dev nD) (b : Fin 10) (h : Fin 64) : EReal := (m ((c : Thread nD τ).loc main_arg4) : Vec Ideal S10x64 .f32) (ix2 b h)
abbrev kcF (c : Dev nD) (b : Fin 10) (d : Fin 128) : EReal := (m ((c : Thread nD τ).loc main_arg5) : Vec Ideal S10x1x128 .fp8e4m3) (ix3 b (0 : Fin 1) d)
abbrev iksF (c : Dev nD) (b : Fin 10) : EReal := (m ((c : Thread nD τ).loc main_arg6) : Vec Ideal S10 .f32) (ix1 b)

/-! ## The host's arrays, read at indices -/

/-- The host's key bytes: dimension `d` of position `p`'s key is byte `d % 4` of word row `32 (p % 64) + d / 4` of its page's column. -/
theorem v17_apply (c : Dev nD) (b : Fin 10) (p : Fin 32768) (d : Fin 128) :
    (V m c main_v17 : Vec Ideal S10x32768x128 .i8) (ix3 b p d)
      = byteOf (pgF m c ⟨32 * (p.val % 64) + d.val / 4, by omega⟩ (pageCol b (p.val / 64) (by omega))) (d.val % 4) := by
  unfold V
  after_reads_at
  refine (byte_of_shift _ ⟨d.val % 4, by omega⟩).trans ?_
  congr 1
  show m _ _ = m _ _
  congr 1
  funext a
  match a with
  | ⟨0, _⟩ => exact Fin.ext (by show p.val % 64 * 32 + d.val / 4 = 32 * (p.val % 64) + d.val / 4; omega)
  | ⟨1, _⟩ => exact Fin.ext (by
      show b.val * 512 + p.val / 64 / 128 * 128 + p.val / 64 % 2 * 64 + p.val / 64 / 2 % 64 = b.val * 512 + p.val / 64 / 128 * 128 + p.val / 64 % 2 * 64 + p.val / 64 % 128 / 2
      omega)

/-- The host's key scales: position `p`'s is row `2048 + p % 64` of its page's column, read as binary32. -/
theorem v20_apply (c : Dev nD) (b : Fin 10) (p : Fin 32768) :
    (V m c main_v20 : Vec Ideal S10x32768 .f32) (ix2 b p) = cachedScale (pgF m c) ⟨p.val % 64, by omega⟩ (pageCol b (p.val / 64) (by omega)) := by
  unfold V
  after_reads_at
  unfold cachedScale
  congr 1
  show m _ _ = m _ _
  congr 1
  funext a
  match a with
  | ⟨0, _⟩ => rfl
  | ⟨1, _⟩ => exact Fin.ext (by
      show b.val * 512 + p.val / 64 / 128 * 128 + p.val / 64 % 2 * 64 + p.val / 64 / 2 % 64 = b.val * 512 + p.val / 64 / 128 * 128 + p.val / 64 % 2 * 64 + p.val / 64 % 128 / 2
      omega)

theorem v21_apply (c : Dev nD) (b : Fin 10) : (V m c main_v21 : Vec Ideal S10x1 .f32) (ix2 b (0 : Fin 1)) = iksF m c b := by
  unfold V
  after_reads_at

theorem v22_apply (c : Dev nD) (b : Fin 10) : (V m c main_v22 : Vec Ideal S10x1 .i32) (ix2 b (0 : Fin 1)) = clF m c b := by
  unfold V
  after_reads_at

/-! ## The one call's blocks are the whole arrays -/

theorem blk0 (c : Dev nD) (t : Fin cfg0.N) : iblk m c 0 t = (V m c main_v17 : Vec Ideal S10x32768x128 .i8) := by
  obtain rfl := fin_N0 t
  exact Memref.read_access_unit_zero (Elt Ideal) main_v17 (funext fun a => by fin_cases a <;> decide) _ _
theorem blk1 (c : Dev nD) (t : Fin cfg0.N) : iblk m c 1 t = (V m c main_v20 : Vec Ideal S10x32768 .f32) := by
  obtain rfl := fin_N0 t
  exact Memref.read_access_unit_zero (Elt Ideal) main_v20 (funext fun a => by fin_cases a <;> decide) _ _
theorem blk2 (c : Dev nD) (t : Fin cfg0.N) : iblk m c 2 t = (m ((c : Thread nD τ).loc main_arg2) : Vec Ideal S10x64x128 .fp8e4m3) := by
  obtain rfl := fin_N0 t
  exact (Memref.read_access_unit_zero (Elt Ideal) main_arg2 (funext fun a => by fin_cases a <;> decide) _ _).trans (V_main_arg2 m c)
theorem blk3 (c : Dev nD) (t : Fin cfg0.N) : iblk m c 3 t = (m ((c : Thread nD τ).loc main_arg3) : Vec Ideal S10x64 .f32) := by
  obtain rfl := fin_N0 t
  exact (Memref.read_access_unit_zero (Elt Ideal) main_arg3 (funext fun a => by fin_cases a <;> decide) _ _).trans (V_main_arg3 m c)
theorem blk4 (c : Dev nD) (t : Fin cfg0.N) : iblk m c 4 t = (m ((c : Thread nD τ).loc main_arg4) : Vec Ideal S10x64 .f32) := by
  obtain rfl := fin_N0 t
  exact (Memref.read_access_unit_zero (Elt Ideal) main_arg4 (funext fun a => by fin_cases a <;> decide) _ _).trans (V_main_arg4 m c)
theorem blk5 (c : Dev nD) (t : Fin cfg0.N) : iblk m c 5 t = (m ((c : Thread nD τ).loc main_arg5) : Vec Ideal S10x1x128 .fp8e4m3) := by
  obtain rfl := fin_N0 t
  exact (Memref.read_access_unit_zero (Elt Ideal) main_arg5 (funext fun a => by fin_cases a <;> decide) _ _).trans (V_main_arg5 m c)
theorem blk6 (c : Dev nD) (t : Fin cfg0.N) : iblk m c 6 t = (V m c main_v21 : Vec Ideal S10x1 .f32) := by
  obtain rfl := fin_N0 t
  exact Memref.read_access_unit_zero (Elt Ideal) main_v21 (funext fun a => by fin_cases a <;> decide) _ _
theorem blk7 (c : Dev nD) (t : Fin cfg0.N) : iblk m c 7 t = (V m c main_v22 : Vec Ideal S10x1 .i32) := by
  obtain rfl := fin_N0 t
  exact Memref.read_access_unit_zero (Elt Ideal) main_v22 (funext fun a => by fin_cases a <;> decide) _ _

/-! ## The result -/

/-- The reference's one body, read at an index. -/
theorem out_apply (x0 : Vec Ideal S10x32768x128 .i8) (x1 : Vec Ideal S10x32768 .f32) (x2 : Vec Ideal S10x64x128 .fp8e4m3) (x3 x4 : Vec Ideal S10x64 .f32)
    (x5 : Vec Ideal S10x1x128 .fp8e4m3) (x6 : Vec Ideal S10x1 .f32) (x7 : Vec Ideal S10x1 .i32) (b : Fin 10) (R : Fin 256) (l : Fin 128) :
    out0_8 x0 x1 x2 x3 x4 x5 x6 x7 (ix3 b R l)
      = scoreAt (R.val * 128 + l.val) (x7 (ix2 b (0 : Fin 1)))
          (∑ h : Fin 64, HMul.hMul (α := EReal) (x4 (ix2 b h)) (max ((∑ d : Fin 128, HMul.hMul (α := EReal) (x2 (ix3 b h d))
              (Ideal.ofBits .fp8e4m3 (x0 (ix3 b ⟨R.val * 128 + l.val, by omega⟩ d)))) * x3 (ix2 b h) * x1 (ix2 b ⟨R.val * 128 + l.val, by omega⟩)) 0))
          (∑ h : Fin 64, HMul.hMul (α := EReal) (x4 (ix2 b h)) (max ((∑ d : Fin 128, HMul.hMul (α := EReal) (x2 (ix3 b h d)) (x5 (ix3 b (0 : Fin 1) d))) * x3 (ix2 b h) * x6 (ix2 b (0 : Fin 1))) 0)) := by
  unfold out0_8
  rw [View.canon_unit_zero (funext fun a => by fin_cases a <;> rfl)]
  pointwise [k0_pay1, k0_pay2, k0_pay3, k0_pay4, k0_pay5]
  rfl

/-- What the reference needs of its arguments, as conditions on the scales: nonnegative, and the key scales finite; of the cached
    keys' scales only those inside the cache. -/
structure Scales (c : Dev nD) : Prop where
  iqs : ∀ b h, 0 ≤ iqsF m c b h
  cached : ∀ (b : Fin 10) (p : Fin 32768), (p.val : Int) < (clF m c b).toInt →
    0 ≤ cachedScale (pgF m c) ⟨p.val % 64, by omega⟩ (pageCol b (p.val / 64) (by omega))
      ∧ cachedScale (pgF m c) ⟨p.val % 64, by omega⟩ (pageCol b (p.val / 64) (by omega)) ≠ ⊤
  iks : ∀ b, 0 ≤ iksF m c b ∧ iksF m c b ≠ ⊤

/-- The whole result: every position's score, 128 positions a row. -/
def scores (c : Dev nD) : Vec Ideal S10x256x128 .f32 := fun i =>
  score (clF m c) (pgF m c) (qcF m c) (iqsF m c) (wtsF m c) (kcF m c) (iksF m c) (i 0) ((i 1).val * 128 + (i 2).val)
    (by have h1 : (i 1).val < 256 := (i 1).isLt; have h2 : (i 2).val < 128 := (i 2).isLt; omega)

/-- The body's result at an index is that position's score, for whatever blocks read as the argument arrays do. -/
theorem out_score (x0 : Vec Ideal S10x32768x128 .i8) (x1 : Vec Ideal S10x32768 .f32) (x2 : Vec Ideal S10x64x128 .fp8e4m3) (x3 x4 : Vec Ideal S10x64 .f32)
    (x5 : Vec Ideal S10x1x128 .fp8e4m3) (x6 : Vec Ideal S10x1 .f32) (x7 : Vec Ideal S10x1 .i32)
    (cl : Fin 10 → BitVec 32) (pg : Fin 2112 → Fin 5120 → BitVec 32) (qc : Fin 10 → Fin 64 → Fin 128 → EReal)
    (iqs wts : Fin 10 → Fin 64 → EReal) (kc : Fin 10 → Fin 128 → EReal) (iks : Fin 10 → EReal)
    (h0 : ∀ (b : Fin 10) (p : Fin 32768) (d : Fin 128), x0 (ix3 b p d)
      = byteOf (pg ⟨32 * (p.val % 64) + d.val / 4, by omega⟩ (pageCol b (p.val / 64) (by omega))) (d.val % 4))
    (h1 : ∀ (b : Fin 10) (p : Fin 32768), x1 (ix2 b p) = cachedScale pg ⟨p.val % 64, by omega⟩ (pageCol b (p.val / 64) (by omega)))
    (h2 : ∀ b h d, x2 (ix3 b h d) = qc b h d) (h3 : ∀ b h, x3 (ix2 b h) = iqs b h) (h4 : ∀ b h, x4 (ix2 b h) = wts b h)
    (h5 : ∀ b d, x5 (ix3 b (0 : Fin 1) d) = kc b d) (h6 : ∀ b, x6 (ix2 b (0 : Fin 1)) = iks b) (h7 : ∀ b, x7 (ix2 b (0 : Fin 1)) = cl b)
    (si : ∀ b h, 0 ≤ iqs b h) (sc : ∀ (b : Fin 10) (p : Fin 32768), (p.val : Int) < (cl b).toInt → 0 ≤ cachedScale pg ⟨p.val % 64, by omega⟩ (pageCol b (p.val / 64) (by omega))
      ∧ cachedScale pg ⟨p.val % 64, by omega⟩ (pageCol b (p.val / 64) (by omega)) ≠ ⊤) (sk : ∀ b, 0 ≤ iks b ∧ iks b ≠ ⊤)
    (b : Fin 10) (R : Fin 256) (l : Fin 128) (hp : R.val * 128 + l.val < 32768) :
    out0_8 x0 x1 x2 x3 x4 x5 x6 x7 (ix3 b R l) = score cl pg qc iqs wts kc iks b (R.val * 128 + l.val) hp := by
  have hp' : R.val * 128 + l.val < 2 ^ 31 := by omega
  rw [out_apply]
  simp only [h0, h1, h2, h3, h4, h5, h6, h7]
  have e1 := fun hlt : ((R.val * 128 + l.val : ℕ) : Int) < (cl b).toInt => head_sum (fun h => cachedDot pg qc b ⟨(R.val * 128 + l.val) % 64, by omega⟩ (pageCol b ((R.val * 128 + l.val) / 64) (by omega)) h)
    (iqs b) (wts b) (cachedScale pg ⟨(R.val * 128 + l.val) % 64, by omega⟩ (pageCol b ((R.val * 128 + l.val) / 64) (by omega)))
    (si b) (sc b ⟨R.val * 128 + l.val, hp⟩ hlt).1 (sc b ⟨R.val * 128 + l.val, hp⟩ hlt).2
  have e2 := head_sum (fun h => newDot qc kc b h) (iqs b) (wts b) (iks b) (si b) (sk b).1 (sk b).2
  unfold score
  exact scoreAt_congr _ _ _ _ _ _ hp' e1 e2

/-- The body's result at an index is that position's score. -/
theorem out_eq (c : Dev nD) (t : Fin cfg0.N) (hs : Scales m c) (b : Fin 10) (R : Fin 256) (l : Fin 128) :
    out0_8 (iblk m c 0 t) (iblk m c 1 t) (iblk m c 2 t) (iblk m c 3 t) (iblk m c 4 t) (iblk m c 5 t) (iblk m c 6 t) (iblk m c 7 t) (ix3 b R l)
      = scores m c (ix3 b R l) :=
  out_score _ _ _ _ _ _ _ _ (clF m c) (pgF m c) (qcF m c) (iqsF m c) (wtsF m c) (kcF m c) (iksF m c)
    (fun b p d => (congrFun (blk0 m c t) _).trans (v17_apply m c b p d)) (fun b p => (congrFun (blk1 m c t) _).trans (v20_apply m c b p))
    (fun b h d => congrFun (blk2 m c t) _) (fun b h => congrFun (blk3 m c t) _) (fun b h => congrFun (blk4 m c t) _)
    (fun b d => congrFun (blk5 m c t) _) (fun b => (congrFun (blk6 m c t) _).trans (v21_apply m c b)) (fun b => (congrFun (blk7 m c t) _).trans (v22_apply m c b))
    hs.iqs hs.cached hs.iks b R l _

/-- The result array: every position's score. -/
theorem final_scores (c : Dev nD) (hs : Scales m c) : (dats m 0 c).arrAt 8 cfg0.N = scores m c := by
  refine (dats m 0 c).arrAt_eq_of_cover 8 (scores m c) (fun t _ => ?_) (fun i => ?_)
  · rw [Cert.IndexScoresIdeal.Value.flushed8]
    obtain rfl := fin_N0 t
    refine Eq.trans ?_ (Memref.read_access_unit_zero (Elt Ideal) main_v23 (funext fun a => by fin_cases a <;> decide) _ (scores m c)).symm
    funext y
    have key : ∀ y : S10x256x128.Idx, out0_8 (iblk m c 0 t0_0) (iblk m c 1 t0_0) (iblk m c 2 t0_0) (iblk m c 3 t0_0) (iblk m c 4 t0_0) (iblk m c 5 t0_0) (iblk m c 6 t0_0) (iblk m c 7 t0_0) y
        = scores m c y := fun y => by
      idx_vars y
      exact out_eq m c t0_0 hs _ _ _
    exact key y
  · refine ⟨t0_0, flush0_8 _, ?_⟩
    have key : ∀ i : S10x256x128.Idx, i ∈ ((View.whole main_v23).slice (win0_8.rect t0_0)).set := fun i => by
      rw [View.set_slice_whole, Rect.mem_set_unit]
      have h0 : (i 0).val < 10 := (i 0).isLt
      have h1 : (i 1).val < 256 := (i 1).isLt
      have h2 : (i 2).val < 128 := (i 2).isLt
      intro a
      match a with
      | ⟨0, _⟩ => show 0 * 10 ≤ (i 0).val ∧ (i 0).val < 0 * 10 + 10; omega
      | ⟨1, _⟩ => show 0 * 256 ≤ (i 1).val ∧ (i 1).val < 0 * 256 + 256; omega
      | ⟨2, _⟩ => show 0 * 128 ≤ (i 2).val ∧ (i 2).val < 0 * 128 + 128; omega
    exact key i

end Cert.IndexScoresIdeal.Hand

end
-- ==== Proof.QueriesStep.lean ====
module

public import proofs.«01_k».proof.Proof.Gen.Queries.Launch
public import proofs.«01_k».proof.Proof.Gen.Queries.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index

/-!
# One grid step of the query projection: the rows of the projected index queries it adds

The projected index queries stand in scratch, row `64 b + h` that of batch row `b` and head `h`. Grid step `j` adds the eight
heads `8 j, …, 8 j + 7`, each head's sixteen rows by one strided store.
-/

@[expose] public section

set_option maxRecDepth 16384

noncomputable section

namespace Cert.Queries.Hand

open Cert.Queries Cert.Queries.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Column block `k` of the activations. -/
def actBlk (x0 : Vec F S16x1536 .bf16) (k : Fin 12) : Vec F S16x128 .bf16 :=
  View.ld x0 (Rect.unit (s := S16x1536) ![0, 128 * k.val] S16x128.size (fun a => by
    have := k.isLt
    match a with
    | ⟨0, _⟩ => show 0 + 16 ≤ 16; omega
    | ⟨1, _⟩ => show 128 * k.val + 128 ≤ 1536; omega))

/-- The scales of head `8 j + 2 t`, one per block of the contracted axis. -/
def sclEven (i : grid0.Coords) (x3 : Vec F S12x64 .f32) (t : Fin 4) : Fin 12 → Elt F .f32
  | ⟨0, _⟩ => x3 (fun a => ⟨k0_off1 i (BitVec.ofNat 32 (2 * t.val)) a, lt_of_lt_of_le (Nat.lt_add_of_pos_right (by revert a; decide)) (k0_off1_inb i t a)⟩)
  | ⟨1, _⟩ => x3 (fun a => ⟨k0_off2 i (BitVec.ofNat 32 (2 * t.val)) a, lt_of_lt_of_le (Nat.lt_add_of_pos_right (by revert a; decide)) (k0_off2_inb i t a)⟩)
  | ⟨2, _⟩ => x3 (fun a => ⟨k0_off3 i (BitVec.ofNat 32 (2 * t.val)) a, lt_of_lt_of_le (Nat.lt_add_of_pos_right (by revert a; decide)) (k0_off3_inb i t a)⟩)
  | ⟨3, _⟩ => x3 (fun a => ⟨k0_off4 i (BitVec.ofNat 32 (2 * t.val)) a, lt_of_lt_of_le (Nat.lt_add_of_pos_right (by revert a; decide)) (k0_off4_inb i t a)⟩)
  | ⟨4, _⟩ => x3 (fun a => ⟨k0_off5 i (BitVec.ofNat 32 (2 * t.val)) a, lt_of_lt_of_le (Nat.lt_add_of_pos_right (by revert a; decide)) (k0_off5_inb i t a)⟩)
  | ⟨5, _⟩ => x3 (fun a => ⟨k0_off6 i (BitVec.ofNat 32 (2 * t.val)) a, lt_of_lt_of_le (Nat.lt_add_of_pos_right (by revert a; decide)) (k0_off6_inb i t a)⟩)
  | ⟨6, _⟩ => x3 (fun a => ⟨k0_off7 i (BitVec.ofNat 32 (2 * t.val)) a, lt_of_lt_of_le (Nat.lt_add_of_pos_right (by revert a; decide)) (k0_off7_inb i t a)⟩)
  | ⟨7, _⟩ => x3 (fun a => ⟨k0_off8 i (BitVec.ofNat 32 (2 * t.val)) a, lt_of_lt_of_le (Nat.lt_add_of_pos_right (by revert a; decide)) (k0_off8_inb i t a)⟩)
  | ⟨8, _⟩ => x3 (fun a => ⟨k0_off9 i (BitVec.ofNat 32 (2 * t.val)) a, lt_of_lt_of_le (Nat.lt_add_of_pos_right (by revert a; decide)) (k0_off9_inb i t a)⟩)
  | ⟨9, _⟩ => x3 (fun a => ⟨k0_off10 i (BitVec.ofNat 32 (2 * t.val)) a, lt_of_lt_of_le (Nat.lt_add_of_pos_right (by revert a; decide)) (k0_off10_inb i t a)⟩)
  | ⟨10, _⟩ => x3 (fun a => ⟨k0_off11 i (BitVec.ofNat 32 (2 * t.val)) a, lt_of_lt_of_le (Nat.lt_add_of_pos_right (by revert a; decide)) (k0_off11_inb i t a)⟩)
  | ⟨11, _⟩ => x3 (fun a => ⟨k0_off12 i (BitVec.ofNat 32 (2 * t.val)) a, lt_of_lt_of_le (Nat.lt_add_of_pos_right (by revert a; decide)) (k0_off12_inb i t a)⟩)

/-- The scales of head `8 j + 2 t + 1`. -/
def sclOdd (i : grid0.Coords) (x3 : Vec F S12x64 .f32) (t : Fin 4) : Fin 12 → Elt F .f32
  | ⟨0, _⟩ => x3 (fun a => ⟨k0_off13 i (BitVec.ofNat 32 (2 * t.val)) a, lt_of_lt_of_le (Nat.lt_add_of_pos_right (by revert a; decide)) (k0_off13_inb i t a)⟩)
  | ⟨1, _⟩ => x3 (fun a => ⟨k0_off14 i (BitVec.ofNat 32 (2 * t.val)) a, lt_of_lt_of_le (Nat.lt_add_of_pos_right (by revert a; decide)) (k0_off14_inb i t a)⟩)
  | ⟨2, _⟩ => x3 (fun a => ⟨k0_off15 i (BitVec.ofNat 32 (2 * t.val)) a, lt_of_lt_of_le (Nat.lt_add_of_pos_right (by revert a; decide)) (k0_off15_inb i t a)⟩)
  | ⟨3, _⟩ => x3 (fun a => ⟨k0_off16 i (BitVec.ofNat 32 (2 * t.val)) a, lt_of_lt_of_le (Nat.lt_add_of_pos_right (by revert a; decide)) (k0_off16_inb i t a)⟩)
  | ⟨4, _⟩ => x3 (fun a => ⟨k0_off17 i (BitVec.ofNat 32 (2 * t.val)) a, lt_of_lt_of_le (Nat.lt_add_of_pos_right (by revert a; decide)) (k0_off17_inb i t a)⟩)
  | ⟨5, _⟩ => x3 (fun a => ⟨k0_off18 i (BitVec.ofNat 32 (2 * t.val)) a, lt_of_lt_of_le (Nat.lt_add_of_pos_right (by revert a; decide)) (k0_off18_inb i t a)⟩)
  | ⟨6, _⟩ => x3 (fun a => ⟨k0_off19 i (BitVec.ofNat 32 (2 * t.val)) a, lt_of_lt_of_le (Nat.lt_add_of_pos_right (by revert a; decide)) (k0_off19_inb i t a)⟩)
  | ⟨7, _⟩ => x3 (fun a => ⟨k0_off20 i (BitVec.ofNat 32 (2 * t.val)) a, lt_of_lt_of_le (Nat.lt_add_of_pos_right (by revert a; decide)) (k0_off20_inb i t a)⟩)
  | ⟨8, _⟩ => x3 (fun a => ⟨k0_off21 i (BitVec.ofNat 32 (2 * t.val)) a, lt_of_lt_of_le (Nat.lt_add_of_pos_right (by revert a; decide)) (k0_off21_inb i t a)⟩)
  | ⟨9, _⟩ => x3 (fun a => ⟨k0_off22 i (BitVec.ofNat 32 (2 * t.val)) a, lt_of_lt_of_le (Nat.lt_add_of_pos_right (by revert a; decide)) (k0_off22_inb i t a)⟩)
  | ⟨10, _⟩ => x3 (fun a => ⟨k0_off23 i (BitVec.ofNat 32 (2 * t.val)) a, lt_of_lt_of_le (Nat.lt_add_of_pos_right (by revert a; decide)) (k0_off23_inb i t a)⟩)
  | ⟨11, _⟩ => x3 (fun a => ⟨k0_off24 i (BitVec.ofNat 32 (2 * t.val)) a, lt_of_lt_of_le (Nat.lt_add_of_pos_right (by revert a; decide)) (k0_off24_inb i t a)⟩)

/-- The weight columns of heads `8 j + 2 t` and `8 j + 2 t + 1`. -/
def wBlk (x5 : Vec F S1536x1024 .fp8e4m3) (t : Fin 4) : Vec F S1536x256 .fp8e4m3 :=
  View.ld x5 (Rect.unit (s := S1536x1024) ![0, 256 * t.val] S1536x256.size (fun a => by
    have := t.isLt
    match a with
    | ⟨0, _⟩ => show 0 + 1536 ≤ 1536; omega
    | ⟨1, _⟩ => show 256 * t.val + 256 ≤ 1024; omega))

/-- The projection onto the even head of a pair, in the kernel's spelling. -/
def zEven (a : Fin 12 → Vec F S16x128 .bf16) (s u : Fin 12 → Elt F .f32) (w : Vec F S1536x256 .fp8e4m3) : FVec F S16x128 .f32 :=
  k0_pay130 (a 8) (a 9) (a 10) (a 11) (u 9) (u 10) (u 11) w
    (k0_pay119 (a 0) (a 1) (a 2) (a 3) (a 4) (a 5) (a 6) (a 7) (a 8) (a 9) (a 10) (a 11) (s 1) (s 2) (s 3) (s 4) (s 5) (s 6) (s 7) (s 8) (s 9) (s 10) (s 11) (k0_pay118 (s 0)))
    (k0_pay120 (a 0) (u 0)) (k0_pay121 (a 1) (u 1)) (k0_pay122 (a 2) (u 2)) (k0_pay123 (a 3) (u 3)) (k0_pay124 (a 4) (u 4)) (k0_pay125 (a 5) (u 5)) (k0_pay126 (a 6) (u 6)) (k0_pay127 (a 7) (u 7)) (k0_pay128 (u 8))

/-- The projection onto the odd head of a pair, in the kernel's spelling. -/
def zOdd (a : Fin 12 → Vec F S16x128 .bf16) (s u : Fin 12 → Elt F .f32) (w : Vec F S1536x256 .fp8e4m3) : FVec F S16x128 .f32 :=
  k0_pay131 (a 8) (a 9) (a 10) (a 11) (u 9) (u 10) (u 11) w
    (k0_pay119 (a 0) (a 1) (a 2) (a 3) (a 4) (a 5) (a 6) (a 7) (a 8) (a 9) (a 10) (a 11) (s 1) (s 2) (s 3) (s 4) (s 5) (s 6) (s 7) (s 8) (s 9) (s 10) (s 11) (k0_pay118 (s 0)))
    (k0_pay120 (a 0) (u 0)) (k0_pay121 (a 1) (u 1)) (k0_pay122 (a 2) (u 2)) (k0_pay123 (a 3) (u 3)) (k0_pay124 (a 4) (u 4)) (k0_pay125 (a 5) (u 5)) (k0_pay126 (a 6) (u 6)) (k0_pay127 (a 7) (u 7)) (k0_pay128 (u 8))

/-- The eight heads a grid step projects onto. -/
def zVal (i : grid0.Coords) (x0 : Vec F S16x1536 .bf16) (x3 : Vec F S12x64 .f32) (x5 : Vec F S1536x1024 .fp8e4m3) : Fin 8 → FVec F S16x128 .f32 :=
  ![zEven (actBlk x0) (sclEven i x3 0) (sclOdd i x3 0) (wBlk x5 0),
    zOdd (actBlk x0) (sclEven i x3 0) (sclOdd i x3 0) (wBlk x5 0),
    zEven (actBlk x0) (sclEven i x3 1) (sclOdd i x3 1) (wBlk x5 1),
    zOdd (actBlk x0) (sclEven i x3 1) (sclOdd i x3 1) (wBlk x5 1),
    zEven (actBlk x0) (sclEven i x3 2) (sclOdd i x3 2) (wBlk x5 2),
    zOdd (actBlk x0) (sclEven i x3 2) (sclOdd i x3 2) (wBlk x5 2),
    zEven (actBlk x0) (sclEven i x3 3) (sclOdd i x3 3) (wBlk x5 3),
    zOdd (actBlk x0) (sclEven i x3 3) (sclOdd i x3 3) (wBlk x5 3)]

/-- The projected queries after a grid step, from those before it: the step's eight heads are replaced. -/
def zStep (i : grid0.Coords) (V : Fin 8 → FVec F S16x128 .f32) (z : Vec F S1024x128 .f32) : Vec F S1024x128 .f32 := fun y =>
  if (y 0).val % 64 / 8 = (i 0).val then V ⟨(y 0).val % 8, Nat.mod_lt _ (by omega)⟩ (ix2 (⟨(y 0).val / 64, by have h : (y 0).val < 1024 := (y 0).isLt; omega⟩ : Fin 16) (y 1 : Fin 128)) else z y

/-- Batch row `b`'s queries, rotated and transformed, from the head rows and the two table rows. -/
def turned (x1 : Vec F S4x16x128 .f32) (z : Vec F S1024x128 .f32) (b : Fin 10) : FVec F S64x128 .f32 :=
  k0_pay4 (View.ld z (Rect.unit (s := S1024x128) ![64 * b.val, 0] S64x128.size (fun a => by
      have := b.isLt
      match a with
      | ⟨0, _⟩ => show 64 * b.val + 64 ≤ 1024; omega
      | ⟨1, _⟩ => show 0 + 128 ≤ 128; omega)))
    (View.ld x1 (Rect.unit (s := S4x16x128) ![2, b.val, 0] S1x1x128.size (fun a => by
      have := b.isLt
      match a with
      | ⟨0, _⟩ => show 2 + 1 ≤ 4; omega
      | ⟨1, _⟩ => show b.val + 1 ≤ 16; omega
      | ⟨2, _⟩ => show 0 + 128 ≤ 128; omega)))
    (View.ld x1 (Rect.unit (s := S4x16x128) ![3, b.val, 0] S1x1x128.size (fun a => by
      have := b.isLt
      match a with
      | ⟨0, _⟩ => show 3 + 1 ≤ 4; omega
      | ⟨1, _⟩ => show b.val + 1 ≤ 16; omega
      | ⟨2, _⟩ => show 0 + 128 ≤ 128; omega)))

/-- The quantised queries of every batch row. -/
def codesOut (x1 : Vec F S4x16x128 .f32) (z : Vec F S1024x128 .f32) : Vec F S10x64x128 .fp8e4m3 := fun y =>
  ![k0_pay6 (turned x1 z 0), k0_pay6 (turned x1 z 1), k0_pay6 (turned x1 z 2), k0_pay6 (turned x1 z 3), k0_pay6 (turned x1 z 4), k0_pay6 (turned x1 z 5), k0_pay6 (turned x1 z 6), k0_pay6 (turned x1 z 7), k0_pay6 (turned x1 z 8), k0_pay6 (turned x1 z 9)] (y 0 : Fin 10) (ix3 (0 : Fin 1) (y 1 : Fin 64) (y 2 : Fin 128))

/-- Column `b` of a running table replaced by batch row `b`'s scales. -/
def colStep (b : BitVec 32) (v : FVec F S64x128 .f32) (t : FVec F S64x128 .f32) : FVec F S64x128 .f32 :=
  select (cmpi .eq (iota .tc S64x128 32 [1] iota_S64x128_d1_w32) (broadcast S64x128 b))
    (broadcastTo S64x128 (shapeCast S64x1 (k0_pay5 t) shapeCasts_S64x1_S64x1) broadcasts_S64x1_S64x128) v

/-- The scales of every batch row, batch rows along the columns. -/
def cols (x1 : Vec F S4x16x128 .f32) (z : Vec F S1024x128 .f32) : FVec F S64x128 .f32 :=
  colStep 9#32 (colStep 8#32 (colStep 7#32 (colStep 6#32 (colStep 5#32 (colStep 4#32 (colStep 3#32 (colStep 2#32 (colStep 1#32 (colStep 0#32 (k0_pay3) (turned x1 z 0)) (turned x1 z 1)) (turned x1 z 2)) (turned x1 z 3)) (turned x1 z 4)) (turned x1 z 5)) (turned x1 z 6)) (turned x1 z 7)) (turned x1 z 8)) (turned x1 z 9)

/-- The scales of every batch row and head. -/
def scalesOut (x1 : Vec F S4x16x128 .f32) (z : Vec F S1024x128 .f32) : Vec F S10x64 .f32 := k0_pay116 (cols x1 z)

end Cert.Queries.Hand

end
-- ==== Proof.QueriesProject.lean ====
module

public import proofs.«01_k».proof.Proof.QueriesStep
public import proofs.«01_k».proof.Proof.Gen.Queries.Launch
public import proofs.«01_k».proof.Proof.Gen.Queries.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index

/-!
# The query projection's grid step, run

The part of the body every grid step runs: it projects onto the step's eight heads and stores their rows.
-/

@[expose] public section

set_option maxRecDepth 16384

noncomputable section

namespace Cert.Queries.Hand

open Cert.Queries Cert.Queries.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of head `8 j + 2 t + e`. -/
def headRect (i : grid0.Coords) (t : Fin 4) (e : Fin 2) : Rect S1024x128 :=
  ⟨⟨k0_off25 i (BitVec.ofNat 32 (2 * t.val)) (BitVec.ofNat 32 e.val), S16x128.size, ![64, 1], k0_off25_inb i t e⟩, spos_64_1⟩

theorem headRect_row (i : grid0.Coords) (t : Fin 4) (e : Fin 2) (x : S16x128.Idx) :
    ((headRect i t e).emb x 0).val = 8 * (i 0).val + 2 * t.val + e.val + 64 * (x 0).val := by
  show k0_off25 i (BitVec.ofNat 32 (2 * t.val)) (BitVec.ofNat 32 e.val) 0 + 64 * (x 0).val = _
  rw [k0_off25_eq]; rfl

theorem headRect_col (i : grid0.Coords) (t : Fin 4) (e : Fin 2) (x : S16x128.Idx) :
    ((headRect i t e).emb x 1).val = (x 1).val := by
  show k0_off25 i (BitVec.ofNat 32 (2 * t.val)) (BitVec.ofNat 32 e.val) 1 + 1 * (x 1).val = _
  rw [k0_off25_eq]
  show 0 + 1 * (x 1).val = _
  omega

/-- A step's head at one of its rows. -/
theorem zStep_at (i : grid0.Coords) (V : Fin 8 → FVec F S16x128 .f32) (z : Vec F S1024x128 .f32) (t : Fin 4) (e : Fin 2) (x : S16x128.Idx) :
    zStep i V z ((headRect i t e).emb x) = V ⟨2 * t.val + e.val, by omega⟩ x := by
  have hi : (i 0).val < 8 := (i 0).isLt
  have hx : (x 0).val < 16 := (x 0).isLt
  have h0 := headRect_row i t e x
  have h1 := headRect_col i t e x
  unfold zStep
  rw [if_pos (by omega)]
  have key : ∀ (r r' : Fin 8) (u u' : S16x128.Idx), r = r' → u = u' → V r u = V r' u' := by rintro _ _ _ _ rfl rfl; rfl
  refine key _ _ _ _ (Fin.ext ?_) (funext fun a => Fin.ext ?_)
  · show ((headRect i t e).emb x 0).val % 8 = 2 * t.val + e.val
    omega
  · match a with
    | ⟨0, _⟩ => show ((headRect i t e).emb x 0).val / 64 = (x 0).val; omega
    | ⟨1, _⟩ => exact h1

/-- The pieces a step stores over the projected queries, newest first. -/
theorem read_zStep {κ : Kind} {sp : Space} (v : View sig κ sp S1024x128 .f32) (f : v.ty.Contents (Elt F)) (i : grid0.Coords) (w0 w1 w2 w3 w4 w5 w6 w7 : FVec F S16x128 .f32) :
    v.read (Elt F) (v.writes (Elt F) f [⟨⟨⟨k0_off25 i 6#32 1#32, S16x128.size, ![64, 1], k0_off25_inb i 3 1⟩, spos_64_1⟩, w7⟩, ⟨⟨⟨k0_off25 i 6#32 0#32, S16x128.size, ![64, 1], k0_off25_inb i 3 0⟩, spos_64_1⟩, w6⟩, ⟨⟨⟨k0_off25 i 4#32 1#32, S16x128.size, ![64, 1], k0_off25_inb i 2 1⟩, spos_64_1⟩, w5⟩, ⟨⟨⟨k0_off25 i 4#32 0#32, S16x128.size, ![64, 1], k0_off25_inb i 2 0⟩, spos_64_1⟩, w4⟩, ⟨⟨⟨k0_off25 i 2#32 1#32, S16x128.size, ![64, 1], k0_off25_inb i 1 1⟩, spos_64_1⟩, w3⟩, ⟨⟨⟨k0_off25 i 2#32 0#32, S16x128.size, ![64, 1], k0_off25_inb i 1 0⟩, spos_64_1⟩, w2⟩, ⟨⟨⟨k0_off25 i 0#32 1#32, S16x128.size, ![64, 1], k0_off25_inb i 0 1⟩, spos_64_1⟩, w1⟩, ⟨⟨⟨k0_off25 i 0#32 0#32, S16x128.size, ![64, 1], k0_off25_inb i 0 0⟩, spos_64_1⟩, w0⟩])
      = zStep i ![w0, w1, w2, w3, w4, w5, w6, w7] (v.read (Elt F) f) := by
  show v.read (Elt F) (v.writes (Elt F) f [⟨headRect i 3 1, w7⟩, ⟨headRect i 3 0, w6⟩, ⟨headRect i 2 1, w5⟩, ⟨headRect i 2 0, w4⟩, ⟨headRect i 1 1, w3⟩, ⟨headRect i 1 0, w2⟩, ⟨headRect i 0 1, w1⟩, ⟨headRect i 0 0, w0⟩]) = _
  funext y
  have hi : (i 0).val < 8 := (i 0).isLt
  have hy : (y 0).val < 1024 := (y 0).isLt
  by_cases h : (y 0).val % 64 / 8 = (i 0).val
  · refine View.read_writes_apply_of_pieces v f (zStep i ![w0, w1, w2, w3, w4, w5, w6, w7] (v.read (Elt F) f)) _ ?_ y ?_
    · intro p hp
      simp only [List.mem_cons, List.not_mem_nil, or_false] at hp
      rcases hp with rfl | rfl | rfl | rfl | rfl | rfl | rfl | rfl
      · exact fun x => (zStep_at i ![w0, w1, w2, w3, w4, w5, w6, w7] _ 3 1 x).symm
      · exact fun x => (zStep_at i ![w0, w1, w2, w3, w4, w5, w6, w7] _ 3 0 x).symm
      · exact fun x => (zStep_at i ![w0, w1, w2, w3, w4, w5, w6, w7] _ 2 1 x).symm
      · exact fun x => (zStep_at i ![w0, w1, w2, w3, w4, w5, w6, w7] _ 2 0 x).symm
      · exact fun x => (zStep_at i ![w0, w1, w2, w3, w4, w5, w6, w7] _ 1 1 x).symm
      · exact fun x => (zStep_at i ![w0, w1, w2, w3, w4, w5, w6, w7] _ 1 0 x).symm
      · exact fun x => (zStep_at i ![w0, w1, w2, w3, w4, w5, w6, w7] _ 0 1 x).symm
      · exact fun x => (zStep_at i ![w0, w1, w2, w3, w4, w5, w6, w7] _ 0 0 x).symm
    · have hmem : ∀ (t : Fin 4) (e : Fin 2), (y 0).val % 8 = 2 * t.val + e.val → y ∈ (headRect i t e).set := fun t e hte => by
        have := (headRect i t e).idx_mem (ix2 (⟨(y 0).val / 64, by omega⟩ : Fin 16) (y 1 : Fin 128) : S16x128.Idx)
        have he : (headRect i t e).emb (ix2 (⟨(y 0).val / 64, by omega⟩ : Fin 16) (y 1 : Fin 128) : S16x128.Idx) = y := funext fun a => Fin.ext (by
          match a with
          | ⟨0, _⟩ =>
            refine (headRect_row i t e _).trans ?_
            show 8 * (i 0).val + 2 * t.val + e.val + 64 * ((y 0).val / 64) = (y 0).val
            omega
          | ⟨1, _⟩ => exact headRect_col i t e _)
        rw [← he]; exact this
      have h8 : (y 0).val % 8 < 8 := Nat.mod_lt _ (by omega)
      have h8' : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
      rcases h8' with hr | hr | hr | hr | hr | hr | hr | hr
      · exact ⟨⟨headRect i 0 0, w0⟩, by simp only [List.mem_cons, List.not_mem_nil, or_false, true_or, or_true], hmem 0 0 hr⟩
      · exact ⟨⟨headRect i 0 1, w1⟩, by simp only [List.mem_cons, List.not_mem_nil, or_false, true_or, or_true], hmem 0 1 hr⟩
      · exact ⟨⟨headRect i 1 0, w2⟩, by simp only [List.mem_cons, List.not_mem_nil, or_false, true_or, or_true], hmem 1 0 hr⟩
      · exact ⟨⟨headRect i 1 1, w3⟩, by simp only [List.mem_cons, List.not_mem_nil, or_false, true_or, or_true], hmem 1 1 hr⟩
      · exact ⟨⟨headRect i 2 0, w4⟩, by simp only [List.mem_cons, List.not_mem_nil, or_false, true_or, or_true], hmem 2 0 hr⟩
      · exact ⟨⟨headRect i 2 1, w5⟩, by simp only [List.mem_cons, List.not_mem_nil, or_false, true_or, or_true], hmem 2 1 hr⟩
      · exact ⟨⟨headRect i 3 0, w6⟩, by simp only [List.mem_cons, List.not_mem_nil, or_false, true_or, or_true], hmem 3 0 hr⟩
      · exact ⟨⟨headRect i 3 1, w7⟩, by simp only [List.mem_cons, List.not_mem_nil, or_false, true_or, or_true], hmem 3 1 hr⟩
  · have hno : ∀ (t : Fin 4) (e : Fin 2), y ∉ (headRect i t e).set := fun t e hm => by
      obtain ⟨x, hx⟩ := (headRect i t e).exists_idx_of_mem hm
      have h0 := headRect_row i t e x
      have hx' : (x 0).val < 16 := (x 0).isLt
      have h1 : ((headRect i t e).emb x 0).val = (y 0).val := congrArg (fun w : S1024x128.Idx => (w 0).val) hx
      omega
    rw [View.read_writes_apply_of_forall_not_mem]
    · unfold zStep; rw [if_neg h]
    · intro p hp
      simp only [List.mem_cons, List.not_mem_nil, or_false] at hp
      rcases hp with rfl | rfl | rfl | rfl | rfl | rfl | rfl | rfl
      · exact hno 3 1
      · exact hno 3 0
      · exact hno 2 1
      · exact hno 2 0
      · exact hno 1 1
      · exact hno 1 0
      · exact hno 0 1
      · exact hno 0 0

set_option maxHeartbeats 4000000 in
/-- The part of the body every grid step runs: the step's eight heads are stored over the projected queries. -/
theorem run_project (c : Dev nD) (i : grid0.Coords) (arg1 : Memref sig .tc .vmem S16x1536 .bf16) (harg1 : arg1.IsWhole) (arg2 : Memref sig .tc .vmem S4x16x128 .f32) (harg2 : arg2.IsWhole) (arg3 : Memref sig .tc .vmem S16x128 .f32) (harg3 : arg3.IsWhole) (arg4 : Memref sig .tc .smem S12x64 .f32) (harg4 : arg4.IsWhole) (arg5 : Memref sig .tc .smem S12x48 .f32) (harg5 : arg5.IsWhole) (arg6 : Memref sig .tc .vmem S1536x1024 .fp8e4m3) (harg6 : arg6.IsWhole) (arg7 : Memref sig .tc .vmem S1536x768 .fp8e4m3) (harg7 : arg7.IsWhole) (arg8 : Memref sig .tc .vmem S4x128x512 .bf16) (harg8 : arg8.IsWhole) (arg9 : Memref sig .tc .vmem S10x64x128 .fp8e4m3) (harg9 : arg9.IsWhole) (arg10 : Memref sig .tc .vmem S10x64 .f32) (harg10 : arg10.IsWhole) (arg11 : Memref sig .tc .vmem S64x128 .f32) (harg11 : arg11.IsWhole) (arg12 : Memref sig .tc .vmem S10x32x512 .bf16) (harg12 : arg12.IsWhole) (arg13 : Memref sig .tc .vmem S10x32x64 .bf16) (harg13 : arg13.IsWhole) (arg14 : Memref sig .tc .vmem S1024x128 .f32) (harg14 : arg14.IsWhole) (arg15 : Memref sig .tc .vmem S4x512x128 .f32) (harg15 : arg15.IsWhole) (arg16 : Memref sig .tc .vmem S512x128 .f32) (harg16 : arg16.IsWhole) (x0 : Vec F S16x1536 .bf16) (x1 : Vec F S4x16x128 .f32) (x3 : Vec F S12x64 .f32) (x4 : Vec F S12x48 .f32) (x5 : Vec F S1536x1024 .fp8e4m3) (x6 : Vec F S1536x768 .fp8e4m3) (x7 : Vec F S4x128x512 .bf16) (z : Vec F S1024x128 .f32) :
      ∀ (E : Set ℕ) (K : (Σ' (arg0 : BitVec 32) (v1161 : BitVec 32) (v1190 : FVec F S16x128 .f32), FVec F S16x128 .f32) → sProp 𝕄),
        iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg14 fullShare z ∗ (∃ d, owns (c : Thread nD τ) arg15 fullShare d) ∗ (∃ d, owns (c : Thread nD τ) arg16 fullShare d)
            ∗ (∀ r, iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg14 fullShare (zStep i (zVal i x0 x3 x5) z) ∗ (∃ d, owns (c : Thread nD τ) arg15 fullShare d) ∗ (∃ d, owns (c : Thread nD τ) arg16 fullShare d)) -∗ K r))
          ⊢ wp frame (wpE (defs₀ (F := F)) Variants.none c none) E (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton]; unfold k0_part49_skel
    simp only [k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton]
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%f7, %hf7, H7⟩, ⟨%f14, %hf14, H14⟩, ⟨%d15, %f15, -, H15⟩, ⟨%d16, %f16, -, H16⟩, Hk⟩
    subst hf0 hf1 hf3 hf4 hf5 hf6 hf7 hf14
    sl_exec
    sl_step
    iapply Hk
    isplitl [H0]
    · iexists _; isplitr; · ipureintro; rfl
      iexact H0
    isplitl [H1]
    · iexists _; isplitr; · ipureintro; rfl
      iexact H1
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H14]
    · iexists _; isplitr; swap; · iexact H14
      ipureintro
      exact read_zStep _ _ i _ _ _ _ _ _ _ _
    isplitl [H15]
    · iexists _; iexists _; isplitr; swap; · iexact H15
      ipureintro; rfl
    iexists _; iexists _; isplitr; swap; · iexact H16
    ipureintro; rfl

end Cert.Queries.Hand

end
-- ==== Proof.QueriesBody.lean ====
module

public import proofs.«01_k».proof.Proof.QueriesProject
public import Idealize.ShloMosaic.Lib.Pipeline.Value
public import proofs.«01_k».proof.Proof.Gen.Queries.Launch
public import proofs.«01_k».proof.Proof.Gen.Queries.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index

/-!
# The query projection's body, run

A grid step but the last only projects; the last one also rotates, transforms and quantises every batch row's queries and stores
them with their scales.
-/

@[expose] public section

set_option maxRecDepth 16384

noncomputable section

namespace Cert.Queries.Hand

open Cert.Queries Cert.Queries.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem code_at (w0 w1 w2 w3 w4 w5 w6 w7 w8 w9 : FVec F S1x64x128 .fp8e4m3) (b : Fin 10) (r : Rect S10x64x128) (e : S1x64x128.Idx → S10x64x128.Idx)
    (h0 : ∀ x, ((e x) 0).val = b.val + (x 0).val) (h1 : ∀ x, ((e x) 1).val = (x 1).val) (h2 : ∀ x, ((e x) 2).val = (x 2).val) (x : S1x64x128.Idx) :
    ![w0, w1, w2, w3, w4, w5, w6, w7, w8, w9] b x = ![w0, w1, w2, w3, w4, w5, w6, w7, w8, w9] ((e x) 0 : Fin 10) (ix3 (0 : Fin 1) ((e x) 1 : Fin 64) ((e x) 2 : Fin 128)) := by
  have hx : (x 0).val < 1 := (x 0).isLt
  have key : ∀ (V : Fin 10 → FVec F S1x64x128 .fp8e4m3) (r r' : Fin 10) (u u' : S1x64x128.Idx), r = r' → u = u' → V r u = V r' u' := by rintro _ _ _ _ _ rfl rfl; rfl
  refine key _ _ _ _ _ (Fin.ext ?_) (funext fun a => Fin.ext ?_)
  · exact (by have := h0 x; omega : b.val = ((e x) 0).val)
  · match a with
    | ⟨0, _⟩ => show (x 0).val = 0; omega
    | ⟨1, _⟩ => exact (h1 x).symm
    | ⟨2, _⟩ => exact (h2 x).symm

/-- The pieces the last step stores over the quantised queries, newest first. -/
theorem read_codes {κ : Kind} {sp : Space} (v : View sig κ sp S10x64x128 .fp8e4m3) (f : v.ty.Contents (Elt F)) (w0 w1 w2 w3 w4 w5 w6 w7 w8 w9 : FVec F S1x64x128 .fp8e4m3) :
    v.read (Elt F) (v.writes (Elt F) f [⟨Rect.unit (s := S10x64x128) ![9, 0, 0] S1x64x128.size inb_S10x64x128_S1x64x128_9_0_0, w9⟩, ⟨Rect.unit (s := S10x64x128) ![8, 0, 0] S1x64x128.size inb_S10x64x128_S1x64x128_8_0_0, w8⟩, ⟨Rect.unit (s := S10x64x128) ![7, 0, 0] S1x64x128.size inb_S10x64x128_S1x64x128_7_0_0, w7⟩, ⟨Rect.unit (s := S10x64x128) ![6, 0, 0] S1x64x128.size inb_S10x64x128_S1x64x128_6_0_0, w6⟩, ⟨Rect.unit (s := S10x64x128) ![5, 0, 0] S1x64x128.size inb_S10x64x128_S1x64x128_5_0_0, w5⟩, ⟨Rect.unit (s := S10x64x128) ![4, 0, 0] S1x64x128.size inb_S10x64x128_S1x64x128_4_0_0, w4⟩, ⟨Rect.unit (s := S10x64x128) ![3, 0, 0] S1x64x128.size inb_S10x64x128_S1x64x128_3_0_0, w3⟩, ⟨Rect.unit (s := S10x64x128) ![2, 0, 0] S1x64x128.size inb_S10x64x128_S1x64x128_2_0_0, w2⟩, ⟨Rect.unit (s := S10x64x128) ![1, 0, 0] S1x64x128.size inb_S10x64x128_S1x64x128_1_0_0, w1⟩, ⟨Rect.unit (s := S10x64x128) ![0, 0, 0] S1x64x128.size inb_S10x64x128_S1x64x128_0_0_0, w0⟩])
      = fun y => ![w0, w1, w2, w3, w4, w5, w6, w7, w8, w9] (y 0 : Fin 10) (ix3 (0 : Fin 1) (y 1 : Fin 64) (y 2 : Fin 128)) := by
  funext y
  refine View.read_writes_apply_of_pieces v f (fun y => ![w0, w1, w2, w3, w4, w5, w6, w7, w8, w9] (y 0 : Fin 10) (ix3 (0 : Fin 1) (y 1 : Fin 64) (y 2 : Fin 128))) _ ?_ y ?_
  · intro p hp
    simp only [List.mem_cons, List.not_mem_nil, or_false] at hp
    rcases hp with rfl | rfl | rfl | rfl | rfl | rfl | rfl | rfl | rfl | rfl
    · exact fun x => code_at w0 w1 w2 w3 w4 w5 w6 w7 w8 w9 9 (Rect.unit (s := S10x64x128) ![9, 0, 0] S1x64x128.size inb_S10x64x128_S1x64x128_9_0_0) (Rect.unit (s := S10x64x128) ![9, 0, 0] S1x64x128.size inb_S10x64x128_S1x64x128_9_0_0).emb (fun x => (by show 9 + 1 * (x 0).val = 9 + (x 0).val; omega)) (fun x => (by show 0 + 1 * (x 1).val = (x 1).val; omega)) (fun x => (by show 0 + 1 * (x 2).val = (x 2).val; omega)) x
    · exact fun x => code_at w0 w1 w2 w3 w4 w5 w6 w7 w8 w9 8 (Rect.unit (s := S10x64x128) ![8, 0, 0] S1x64x128.size inb_S10x64x128_S1x64x128_8_0_0) (Rect.unit (s := S10x64x128) ![8, 0, 0] S1x64x128.size inb_S10x64x128_S1x64x128_8_0_0).emb (fun x => (by show 8 + 1 * (x 0).val = 8 + (x 0).val; omega)) (fun x => (by show 0 + 1 * (x 1).val = (x 1).val; omega)) (fun x => (by show 0 + 1 * (x 2).val = (x 2).val; omega)) x
    · exact fun x => code_at w0 w1 w2 w3 w4 w5 w6 w7 w8 w9 7 (Rect.unit (s := S10x64x128) ![7, 0, 0] S1x64x128.size inb_S10x64x128_S1x64x128_7_0_0) (Rect.unit (s := S10x64x128) ![7, 0, 0] S1x64x128.size inb_S10x64x128_S1x64x128_7_0_0).emb (fun x => (by show 7 + 1 * (x 0).val = 7 + (x 0).val; omega)) (fun x => (by show 0 + 1 * (x 1).val = (x 1).val; omega)) (fun x => (by show 0 + 1 * (x 2).val = (x 2).val; omega)) x
    · exact fun x => code_at w0 w1 w2 w3 w4 w5 w6 w7 w8 w9 6 (Rect.unit (s := S10x64x128) ![6, 0, 0] S1x64x128.size inb_S10x64x128_S1x64x128_6_0_0) (Rect.unit (s := S10x64x128) ![6, 0, 0] S1x64x128.size inb_S10x64x128_S1x64x128_6_0_0).emb (fun x => (by show 6 + 1 * (x 0).val = 6 + (x 0).val; omega)) (fun x => (by show 0 + 1 * (x 1).val = (x 1).val; omega)) (fun x => (by show 0 + 1 * (x 2).val = (x 2).val; omega)) x
    · exact fun x => code_at w0 w1 w2 w3 w4 w5 w6 w7 w8 w9 5 (Rect.unit (s := S10x64x128) ![5, 0, 0] S1x64x128.size inb_S10x64x128_S1x64x128_5_0_0) (Rect.unit (s := S10x64x128) ![5, 0, 0] S1x64x128.size inb_S10x64x128_S1x64x128_5_0_0).emb (fun x => (by show 5 + 1 * (x 0).val = 5 + (x 0).val; omega)) (fun x => (by show 0 + 1 * (x 1).val = (x 1).val; omega)) (fun x => (by show 0 + 1 * (x 2).val = (x 2).val; omega)) x
    · exact fun x => code_at w0 w1 w2 w3 w4 w5 w6 w7 w8 w9 4 (Rect.unit (s := S10x64x128) ![4, 0, 0] S1x64x128.size inb_S10x64x128_S1x64x128_4_0_0) (Rect.unit (s := S10x64x128) ![4, 0, 0] S1x64x128.size inb_S10x64x128_S1x64x128_4_0_0).emb (fun x => (by show 4 + 1 * (x 0).val = 4 + (x 0).val; omega)) (fun x => (by show 0 + 1 * (x 1).val = (x 1).val; omega)) (fun x => (by show 0 + 1 * (x 2).val = (x 2).val; omega)) x
    · exact fun x => code_at w0 w1 w2 w3 w4 w5 w6 w7 w8 w9 3 (Rect.unit (s := S10x64x128) ![3, 0, 0] S1x64x128.size inb_S10x64x128_S1x64x128_3_0_0) (Rect.unit (s := S10x64x128) ![3, 0, 0] S1x64x128.size inb_S10x64x128_S1x64x128_3_0_0).emb (fun x => (by show 3 + 1 * (x 0).val = 3 + (x 0).val; omega)) (fun x => (by show 0 + 1 * (x 1).val = (x 1).val; omega)) (fun x => (by show 0 + 1 * (x 2).val = (x 2).val; omega)) x
    · exact fun x => code_at w0 w1 w2 w3 w4 w5 w6 w7 w8 w9 2 (Rect.unit (s := S10x64x128) ![2, 0, 0] S1x64x128.size inb_S10x64x128_S1x64x128_2_0_0) (Rect.unit (s := S10x64x128) ![2, 0, 0] S1x64x128.size inb_S10x64x128_S1x64x128_2_0_0).emb (fun x => (by show 2 + 1 * (x 0).val = 2 + (x 0).val; omega)) (fun x => (by show 0 + 1 * (x 1).val = (x 1).val; omega)) (fun x => (by show 0 + 1 * (x 2).val = (x 2).val; omega)) x
    · exact fun x => code_at w0 w1 w2 w3 w4 w5 w6 w7 w8 w9 1 (Rect.unit (s := S10x64x128) ![1, 0, 0] S1x64x128.size inb_S10x64x128_S1x64x128_1_0_0) (Rect.unit (s := S10x64x128) ![1, 0, 0] S1x64x128.size inb_S10x64x128_S1x64x128_1_0_0).emb (fun x => (by show 1 + 1 * (x 0).val = 1 + (x 0).val; omega)) (fun x => (by show 0 + 1 * (x 1).val = (x 1).val; omega)) (fun x => (by show 0 + 1 * (x 2).val = (x 2).val; omega)) x
    · exact fun x => code_at w0 w1 w2 w3 w4 w5 w6 w7 w8 w9 0 (Rect.unit (s := S10x64x128) ![0, 0, 0] S1x64x128.size inb_S10x64x128_S1x64x128_0_0_0) (Rect.unit (s := S10x64x128) ![0, 0, 0] S1x64x128.size inb_S10x64x128_S1x64x128_0_0_0).emb (fun x => (by show 0 + 1 * (x 0).val = 0 + (x 0).val; omega)) (fun x => (by show 0 + 1 * (x 1).val = (x 1).val; omega)) (fun x => (by show 0 + 1 * (x 2).val = (x 2).val; omega)) x
  · have hy : (y 0).val < 10 := (y 0).isLt
    have hmem : ∀ (b : ℕ) (h : ∀ a, (![b, 0, 0] : Fin 3 → ℕ) a + S1x64x128.size a ≤ S10x64x128.size a), (y 0).val = b → y ∈ (Rect.unit (s := S10x64x128) ![b, 0, 0] S1x64x128.size h).set := fun b h hb => by
      have he : (Rect.unit (s := S10x64x128) ![b, 0, 0] S1x64x128.size h).emb (ix3 (0 : Fin 1) (y 1 : Fin 64) (y 2 : Fin 128) : S1x64x128.Idx) = y := funext fun a => Fin.ext (by
        match a with
        | ⟨0, _⟩ => show b + 1 * 0 = (y 0).val; omega
        | ⟨1, _⟩ => show 0 + 1 * (y 1).val = (y 1).val; omega
        | ⟨2, _⟩ => show 0 + 1 * (y 2).val = (y 2).val; omega)
      rw [← he]; exact LoadRect.idx_mem _ _
    have h8' : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 := by omega
    rcases h8' with hr | hr | hr | hr | hr | hr | hr | hr | hr | hr
    · exact ⟨⟨Rect.unit (s := S10x64x128) ![0, 0, 0] S1x64x128.size inb_S10x64x128_S1x64x128_0_0_0, w0⟩, by repeat (first | exact List.mem_cons_self | apply List.mem_cons_of_mem), hmem 0 inb_S10x64x128_S1x64x128_0_0_0 hr⟩
    · exact ⟨⟨Rect.unit (s := S10x64x128) ![1, 0, 0] S1x64x128.size inb_S10x64x128_S1x64x128_1_0_0, w1⟩, by repeat (first | exact List.mem_cons_self | apply List.mem_cons_of_mem), hmem 1 inb_S10x64x128_S1x64x128_1_0_0 hr⟩
    · exact ⟨⟨Rect.unit (s := S10x64x128) ![2, 0, 0] S1x64x128.size inb_S10x64x128_S1x64x128_2_0_0, w2⟩, by repeat (first | exact List.mem_cons_self | apply List.mem_cons_of_mem), hmem 2 inb_S10x64x128_S1x64x128_2_0_0 hr⟩
    · exact ⟨⟨Rect.unit (s := S10x64x128) ![3, 0, 0] S1x64x128.size inb_S10x64x128_S1x64x128_3_0_0, w3⟩, by repeat (first | exact List.mem_cons_self | apply List.mem_cons_of_mem), hmem 3 inb_S10x64x128_S1x64x128_3_0_0 hr⟩
    · exact ⟨⟨Rect.unit (s := S10x64x128) ![4, 0, 0] S1x64x128.size inb_S10x64x128_S1x64x128_4_0_0, w4⟩, by repeat (first | exact List.mem_cons_self | apply List.mem_cons_of_mem), hmem 4 inb_S10x64x128_S1x64x128_4_0_0 hr⟩
    · exact ⟨⟨Rect.unit (s := S10x64x128) ![5, 0, 0] S1x64x128.size inb_S10x64x128_S1x64x128_5_0_0, w5⟩, by repeat (first | exact List.mem_cons_self | apply List.mem_cons_of_mem), hmem 5 inb_S10x64x128_S1x64x128_5_0_0 hr⟩
    · exact ⟨⟨Rect.unit (s := S10x64x128) ![6, 0, 0] S1x64x128.size inb_S10x64x128_S1x64x128_6_0_0, w6⟩, by repeat (first | exact List.mem_cons_self | apply List.mem_cons_of_mem), hmem 6 inb_S10x64x128_S1x64x128_6_0_0 hr⟩
    · exact ⟨⟨Rect.unit (s := S10x64x128) ![7, 0, 0] S1x64x128.size inb_S10x64x128_S1x64x128_7_0_0, w7⟩, by repeat (first | exact List.mem_cons_self | apply List.mem_cons_of_mem), hmem 7 inb_S10x64x128_S1x64x128_7_0_0 hr⟩
    · exact ⟨⟨Rect.unit (s := S10x64x128) ![8, 0, 0] S1x64x128.size inb_S10x64x128_S1x64x128_8_0_0, w8⟩, by repeat (first | exact List.mem_cons_self | apply List.mem_cons_of_mem), hmem 8 inb_S10x64x128_S1x64x128_8_0_0 hr⟩
    · exact ⟨⟨Rect.unit (s := S10x64x128) ![9, 0, 0] S1x64x128.size inb_S10x64x128_S1x64x128_9_0_0, w9⟩, by repeat (first | exact List.mem_cons_self | apply List.mem_cons_of_mem), hmem 9 inb_S10x64x128_S1x64x128_9_0_0 hr⟩

/-- The store over the scales covers them. -/
theorem read_scales {κ : Kind} {sp : Space} (v : View sig κ sp S10x64 .f32) (f : v.ty.Contents (Elt F)) (w : FVec F S10x64 .f32) :
    v.read (Elt F) (v.writes (Elt F) f [⟨Rect.unit (s := S10x64) ![0, 0] S10x64.size inb_S10x64_S10x64_0_0, w⟩]) = w := by
  funext y
  exact View.read_writes_cons_hit_of_coords v f (Rect.unit (s := S10x64) ![0, 0] S10x64.size inb_S10x64_S10x64_0_0) w [] y y (fun a => by
    match a with
    | ⟨0, _⟩ => show (y 0).val = 0 + 1 * (y 0).val; omega
    | ⟨1, _⟩ => show (y 1).val = 0 + 1 * (y 1).val; omega)

set_option maxHeartbeats 8000000 in
/-- A grid step but the last: it projects onto its heads and stores no result. -/
theorem run_step (c : Dev nD) (i : grid0.Coords) (arg1 : Memref sig .tc .vmem S16x1536 .bf16) (harg1 : arg1.IsWhole) (arg2 : Memref sig .tc .vmem S4x16x128 .f32) (harg2 : arg2.IsWhole) (arg3 : Memref sig .tc .vmem S16x128 .f32) (harg3 : arg3.IsWhole) (arg4 : Memref sig .tc .smem S12x64 .f32) (harg4 : arg4.IsWhole) (arg5 : Memref sig .tc .smem S12x48 .f32) (harg5 : arg5.IsWhole) (arg6 : Memref sig .tc .vmem S1536x1024 .fp8e4m3) (harg6 : arg6.IsWhole) (arg7 : Memref sig .tc .vmem S1536x768 .fp8e4m3) (harg7 : arg7.IsWhole) (arg8 : Memref sig .tc .vmem S4x128x512 .bf16) (harg8 : arg8.IsWhole) (arg9 : Memref sig .tc .vmem S10x64x128 .fp8e4m3) (harg9 : arg9.IsWhole) (arg10 : Memref sig .tc .vmem S10x64 .f32) (harg10 : arg10.IsWhole) (arg11 : Memref sig .tc .vmem S64x128 .f32) (harg11 : arg11.IsWhole) (arg12 : Memref sig .tc .vmem S10x32x512 .bf16) (harg12 : arg12.IsWhole) (arg13 : Memref sig .tc .vmem S10x32x64 .bf16) (harg13 : arg13.IsWhole) (arg14 : Memref sig .tc .vmem S1024x128 .f32) (harg14 : arg14.IsWhole) (arg15 : Memref sig .tc .vmem S4x512x128 .f32) (harg15 : arg15.IsWhole) (arg16 : Memref sig .tc .vmem S512x128 .f32) (harg16 : arg16.IsWhole) (x0 : Vec F S16x1536 .bf16) (x1 : Vec F S4x16x128 .f32) (x2 : Vec F S16x128 .f32) (x3 : Vec F S12x64 .f32) (x4 : Vec F S12x48 .f32) (x5 : Vec F S1536x1024 .fp8e4m3) (x6 : Vec F S1536x768 .fp8e4m3) (x7 : Vec F S4x128x512 .bf16) (y8 : Vec F S10x64x128 .fp8e4m3) (y9 : Vec F S10x64 .f32) (z : Vec F S1024x128 .f32) (hc : ¬k0_cond1 i = 1#1) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare z ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (zStep i (zVal i x0 x3 x5) z) ∗ (∃ d, owns (c : Thread nD τ) arg15 fullShare d) ∗ (∃ d, owns (c : Thread nD τ) arg16 fullShare d)) -∗ K ⟨⟩))
          ⊢ wp frame (wpE (defs₀ (F := F)) Variants.none c none) E (cc0_proj_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_proj_b_eq_skeleton]; unfold cc0_proj_b_skel
    rw [wp_bind]
    iintro ⟨H0, H1, H2, H3, H4, H5, H6, H7, H8, H9, H10, H11, H12, H14, H15, H16, Hk⟩
    iapply ((run_project c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x5 x6 x7 z) E _)
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H14]; · iexact H14
    isplitl [H15]; · iexact H15
    isplitl [H16]; · iexact H16
    iintro %r ⟨H0, H1, H3, H4, H5, H6, H7, H14, H15, H16⟩
    obtain ⟨r0, r1, r2, r3⟩ := r
    generalize hz : (zStep i (zVal i x0 x3 x5) z) = z'
    irevert Hk H0 H1 H2 H3 H4 H5 H6 H7 H8 H9 H10 H11 H12 H14 H15 H16

    unfold owns
    iintro Hk ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ ⟨%d10, %f10, -, H10⟩ ⟨%d11, %f11, -, H11⟩ ⟨%d12, %f12, -, H12⟩ ⟨%f14, %hf14, H14⟩ ⟨%d15, %f15, -, H15⟩ ⟨%d16, %f16, -, H16⟩
    subst hf0 hf1 hf2 hf3 hf4 hf5 hf6 hf7 hf8 hf9

    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H14]
    · iexists _; isplitr; swap; · iexact H14
      ipureintro; exact hf14
    isplitl [H15]
    · iexists _; iexists _; isplitr; swap; · iexact H15
      ipureintro; rfl
    iexists _; iexists _; isplitr; swap; · iexact H16
    ipureintro; rfl

set_option maxHeartbeats 8000000 in
/-- The last grid step: it projects onto its heads, then finishes every batch row. -/
theorem run_last (c : Dev nD) (i : grid0.Coords) (arg1 : Memref sig .tc .vmem S16x1536 .bf16) (harg1 : arg1.IsWhole) (arg2 : Memref sig .tc .vmem S4x16x128 .f32) (harg2 : arg2.IsWhole) (arg3 : Memref sig .tc .vmem S16x128 .f32) (harg3 : arg3.IsWhole) (arg4 : Memref sig .tc .smem S12x64 .f32) (harg4 : arg4.IsWhole) (arg5 : Memref sig .tc .smem S12x48 .f32) (harg5 : arg5.IsWhole) (arg6 : Memref sig .tc .vmem S1536x1024 .fp8e4m3) (harg6 : arg6.IsWhole) (arg7 : Memref sig .tc .vmem S1536x768 .fp8e4m3) (harg7 : arg7.IsWhole) (arg8 : Memref sig .tc .vmem S4x128x512 .bf16) (harg8 : arg8.IsWhole) (arg9 : Memref sig .tc .vmem S10x64x128 .fp8e4m3) (harg9 : arg9.IsWhole) (arg10 : Memref sig .tc .vmem S10x64 .f32) (harg10 : arg10.IsWhole) (arg11 : Memref sig .tc .vmem S64x128 .f32) (harg11 : arg11.IsWhole) (arg12 : Memref sig .tc .vmem S10x32x512 .bf16) (harg12 : arg12.IsWhole) (arg13 : Memref sig .tc .vmem S10x32x64 .bf16) (harg13 : arg13.IsWhole) (arg14 : Memref sig .tc .vmem S1024x128 .f32) (harg14 : arg14.IsWhole) (arg15 : Memref sig .tc .vmem S4x512x128 .f32) (harg15 : arg15.IsWhole) (arg16 : Memref sig .tc .vmem S512x128 .f32) (harg16 : arg16.IsWhole) (x0 : Vec F S16x1536 .bf16) (x1 : Vec F S4x16x128 .f32) (x2 : Vec F S16x128 .f32) (x3 : Vec F S12x64 .f32) (x4 : Vec F S12x48 .f32) (x5 : Vec F S1536x1024 .fp8e4m3) (x6 : Vec F S1536x768 .fp8e4m3) (x7 : Vec F S4x128x512 .bf16) (z : Vec F S1024x128 .f32) (hc : k0_cond1 i = 1#1) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare z ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (codesOut x1 (zStep i (zVal i x0 x3 x5) z)) ∗ owns (c : Thread nD τ) arg10 fullShare (scalesOut x1 (zStep i (zVal i x0 x3 x5) z)) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (zStep i (zVal i x0 x3 x5) z) ∗ (∃ d, owns (c : Thread nD τ) arg15 fullShare d) ∗ (∃ d, owns (c : Thread nD τ) arg16 fullShare d)) -∗ K ⟨⟩))
          ⊢ wp frame (wpE (defs₀ (F := F)) Variants.none c none) E (cc0_proj_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_proj_b_eq_skeleton]; unfold cc0_proj_b_skel
    rw [wp_bind]
    iintro ⟨H0, H1, H2, H3, H4, H5, H6, H7, H8, H9, H10, H11, H12, H14, H15, H16, Hk⟩
    iapply ((run_project c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x5 x6 x7 z) E _)
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H14]; · iexact H14
    isplitl [H15]; · iexact H15
    isplitl [H16]; · iexact H16
    iintro %r ⟨H0, H1, H3, H4, H5, H6, H7, H14, H15, H16⟩
    obtain ⟨r0, r1, r2, r3⟩ := r
    generalize hz : (zStep i (zVal i x0 x3 x5) z) = z'
    irevert Hk H0 H1 H2 H3 H4 H5 H6 H7 H8 H9 H10 H11 H12 H14 H15 H16
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro Hk ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%d8, %f8, -, H8⟩ ⟨%d9, %f9, -, H9⟩ ⟨%d10, %f10, -, H10⟩ ⟨%d11, %f11, -, H11⟩ ⟨%d12, %f12, -, H12⟩ ⟨%f14, %hf14, H14⟩ ⟨%d15, %f15, -, H15⟩ ⟨%d16, %f16, -, H16⟩
    subst hf0 hf1 hf2 hf3 hf4 hf5 hf6 hf7
    subst hf14
    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro
      exact read_codes _ _ _ _ _ _ _ _ _ _ _ _
    isplitl [H9]
    · iexists _; isplitr; swap; · iexact H9
      ipureintro
      exact read_scales _ _ _
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H14]
    · iexists _; isplitr; swap; · iexact H14
      ipureintro; rfl
    isplitl [H15]
    · iexists _; iexists _; isplitr; swap; · iexact H15
      ipureintro; rfl
    iexists _; iexists _; isplitr; swap; · iexact H16
    ipureintro; rfl

end Cert.Queries.Hand

end
-- ==== Proof.QueriesRuns.lean ====
module

public import proofs.«01_k».proof.Proof.Gen.Queries.Launch
public import proofs.«01_k».proof.Proof.Gen.Queries.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index
public import proofs.«01_k».proof.Proof.QueriesBody

/-!
# The query projection's pipeline: its arrays, its blocks, and the rows gathered step by step

The buffers when the pipeline is entered (`V`), the windows' blocks (`iblk`), the projected queries (`zFull`), and which of
their rows stand in scratch before each grid step (`Gathered`).
-/

@[expose] public section

set_option maxRecDepth 16384

noncomputable section

namespace Cert.Queries.Hand

open Cert.Queries Cert.Queries.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after ([hostOps0, hostOps0_1].flatten) (fun b => m (c, b)) b

theorem hostOps_fresh : ([hostOps0, hostOps0_1] : List (List (HloOp τ sig (Elt F)))).Forall fun ops => ops.Forall fun op => op.fresh = ∅ := by
  simp only [List.Forall]; repeat' constructor

set_option maxHeartbeats 800000 in
/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] ⟨hostOps0_sub, hostOps0_1_sub⟩ hostOps_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The grid -/

theorem coords_val : ∀ t : Fin grid0.N, (grid0.coords t 0).val = t.val := by decide +kernel

/-- The rotation runs at the last point only. -/
theorem cond_iff : ∀ t : Fin grid0.N, k0_cond1 (grid0.coords t) = 1#1 ↔ t.val = 7 := by decide +kernel

theorem flush0_8 : ∀ t : Fin cfg0.N, t.val ≠ 7 → (cfg0.win 8).flush t = false :=
  (by decide +kernel : ∀ t : Fin grid0.N, t.val ≠ 7 → Pipeline.Window.flushOf grid0 true cc0_transform_8 t = false)
theorem flush0_9 : ∀ t : Fin cfg0.N, t.val ≠ 7 → (cfg0.win 9).flush t = false :=
  (by decide +kernel : ∀ t : Fin grid0.N, t.val ≠ 7 → Pipeline.Window.flushOf grid0 true cc0_transform_9 t = false)

/-! ## The projected queries -/

/-- The grid point that projects onto head `8 j + r`. -/
def pt (j : Fin 8) : Fin cfg0.N := ⟨j.val, by show j.val < grid0.N; rw [N_0]; exact j.isLt⟩

/-- The eight heads grid point `t` projects onto. -/
def zAt (c : Dev nD) (t : Fin cfg0.N) : Fin 8 → FVec F S16x128 .f32 :=
  zVal (grid0.coords t) (iblk m c 0 t) (iblk m c 3 t) (iblk m c 5 t)

/-- All the projected queries: row `64 b + h` is batch row `b`'s head `h`. -/
def zFull (c : Dev nD) : Vec F S1024x128 .f32 := fun y =>
  zAt m c (pt ⟨(y 0).val % 64 / 8, by omega⟩) ⟨(y 0).val % 8, Nat.mod_lt _ (by omega)⟩
    (ix2 (⟨(y 0).val / 64, by have h : (y 0).val < 1024 := (y 0).isLt; omega⟩ : Fin 16) (y 1 : Fin 128))

/-- The rows of the first `t` steps stand in place. -/
def Gathered (c : Dev nD) (t : ℕ) (Z : Vec F S1024x128 .f32) : Prop := ∀ y, (y 0).val % 64 / 8 < t → Z y = zFull m c y

theorem gathered_zero (c : Dev nD) (Z) : Gathered m c 0 Z := fun _ h => absurd h (Nat.not_lt_zero _)

/-- A grid step puts its rows in place. -/
theorem gathered_step (c : Dev nD) (t : Fin cfg0.N) (Z : Vec F S1024x128 .f32) (h : Gathered m c t.val Z) :
    Gathered m c (t.val + 1) (zStep (grid0.coords t) (zAt m c t) Z) := by
  intro y hy
  unfold zStep
  have hc := coords_val t
  by_cases e : (y 0).val % 64 / 8 = (grid0.coords t 0).val
  · rw [if_pos e]
    unfold zFull
    have ht : pt ⟨(y 0).val % 64 / 8, by omega⟩ = t := Fin.ext (e.trans hc)
    rw [ht]
  · rw [if_neg e]
    exact h y (by omega)

/-- After the last step all stand in place. -/
theorem gathered_last (c : Dev nD) (Z : Vec F S1024x128 .f32) (h : Gathered m c 8 Z) : Z = zFull m c :=
  funext fun y => h y (by omega)

/-! ## The body's operands -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)

/-- The kernel body at point `t`, on what the pipeline calls it with. -/
abbrev bodyAt0 (t : Fin cfg0.N) : Prog (TpuEff nD τ sig (Elt F) Λ₀ .tc) PUnit :=
  cc0_proj_b (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _)

end Cert.Queries.Hand

end
-- ==== Proof.QueriesFrame.lean ====
module

public import proofs.«01_k».proof.Proof.QueriesRuns

/-!
# The query projection runs to the end, and what it leaves

Every grid step projects onto eight heads and keeps their rows in scratch; the last one rotates, transforms and quantises the
rows of each batch row. So the two index-query arrays end at `codesOut` and `scalesOut` of all the projected queries. The other
three outputs are left unnamed. `frame`: the program terminates with its arguments unchanged.
-/

@[expose] public section

set_option maxRecDepth 16384

noncomputable section

namespace Cert.Queries.Hand

open Cert.Queries Cert.Queries.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body keeps between grid points: the rows gathered so far, two more scratch buffers and the generator register. -/
def PhiS (c : Dev nD) (n : ℕ) : sProp 𝕄 :=
  iprop((∃ Z, ⌜Gathered m c n Z⌝ ∗ owns (c : Thread nD τ) (Memref.whole cc0_scratch0) fullShare Z)
    ∗ (∃ d, owns (c : Thread nD τ) (Memref.whole cc0_scratch1) fullShare d) ∗ (∃ d, owns (c : Thread nD τ) (Memref.whole cc0_scratch2) fullShare d)
    ∗ ∃ r, prngReg c r)

/-- The outputs nothing is said of. -/
def fgt : Fin cfg0.W → Bool := fun | 10 => true | 11 => true | 12 => true | _ => false

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codesOut (iblk m c 1 t) (zFull m c)
    | ⟨9, _⟩ => scalesOut (iblk m c 1 t) (zFull m c)
    | ⟨10, _⟩ => Dat.unnamed (Val := Elt F) (cfg := cfg0) 10 t
    | ⟨11, _⟩ => Dat.unnamed (Val := Elt F) (cfg := cfg0) 11 t
    | ⟨12, _⟩ => Dat.unnamed (Val := Elt F) (cfg := cfg0) 12 t
  Φ n := PhiS m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]; try rfl
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from rfl, after0_0]
theorem after0_1 (c : Dev nD) (t : Fin cfg0.N) : (dats m 0 c).after 1 t = iblk m c 1 t := by dsimp only [dats]; try rfl
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from rfl, after0_1]
theorem after0_2 (c : Dev nD) (t : Fin cfg0.N) : (dats m 0 c).after 2 t = iblk m c 2 t := by dsimp only [dats]; try rfl
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from rfl, after0_2]
theorem after0_3 (c : Dev nD) (t : Fin cfg0.N) : (dats m 0 c).after 3 t = iblk m c 3 t := by dsimp only [dats]; try rfl
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from rfl, after0_3]
theorem after0_4 (c : Dev nD) (t : Fin cfg0.N) : (dats m 0 c).after 4 t = iblk m c 4 t := by dsimp only [dats]; try rfl
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from rfl, after0_4]
theorem after0_5 (c : Dev nD) (t : Fin cfg0.N) : (dats m 0 c).after 5 t = iblk m c 5 t := by dsimp only [dats]; try rfl
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from rfl, after0_5]
theorem after0_6 (c : Dev nD) (t : Fin cfg0.N) : (dats m 0 c).after 6 t = iblk m c 6 t := by dsimp only [dats]; try rfl
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from rfl, after0_6]
theorem after0_7 (c : Dev nD) (t : Fin cfg0.N) : (dats m 0 c).after 7 t = iblk m c 7 t := by dsimp only [dats]; try rfl
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from rfl, after0_7]
theorem after0_8 (c : Dev nD) (t : Fin cfg0.N) : (dats m 0 c).after 8 t = codesOut (iblk m c 1 t) (zFull m c) := by dsimp only [dats]; try rfl
theorem leaves0_8_idle (c : Dev nD) (t : Fin cfg0.N) (h : ¬k0_cond1 (grid0.coords t) = 1#1) :
    (dats m 0 c).leavesExact 8 t = iprop(∃ d, owns (c : Thread nD τ) (ms0_8 t) fullShare ((dats m 0 c).before 8 t d)) :=
  (dats m 0 c).leavesExact_idle 8 t (by show (!(k0_cond1 (grid0.coords t) == 1#1)) = true; simp [h]) (flush0_8 t fun e => h ((cond_iff t).2 e))
theorem leaves0_8_live (c : Dev nD) (t : Fin cfg0.N) (h : k0_cond1 (grid0.coords t) = 1#1) :
    (dats m 0 c).leavesExact 8 t = owns (c : Thread nD τ) (ms0_8 t) fullShare (codesOut (iblk m c 1 t) (zFull m c)) := by
  rw [← after0_8]
  unfold Dat.leavesExact
  rw [show cfg0.idle 8 (cfg0.grid.coords t) = false from (by show (!(k0_cond1 (grid0.coords t) == 1#1)) = false; simp [h])]
theorem after0_9 (c : Dev nD) (t : Fin cfg0.N) : (dats m 0 c).after 9 t = scalesOut (iblk m c 1 t) (zFull m c) := by dsimp only [dats]; try rfl
theorem leaves0_9_idle (c : Dev nD) (t : Fin cfg0.N) (h : ¬k0_cond1 (grid0.coords t) = 1#1) :
    (dats m 0 c).leavesExact 9 t = iprop(∃ d, owns (c : Thread nD τ) (ms0_9 t) fullShare ((dats m 0 c).before 9 t d)) :=
  (dats m 0 c).leavesExact_idle 9 t (by show (!(k0_cond1 (grid0.coords t) == 1#1)) = true; simp [h]) (flush0_9 t fun e => h ((cond_iff t).2 e))
theorem leaves0_9_live (c : Dev nD) (t : Fin cfg0.N) (h : k0_cond1 (grid0.coords t) = 1#1) :
    (dats m 0 c).leavesExact 9 t = owns (c : Thread nD τ) (ms0_9 t) fullShare (scalesOut (iblk m c 1 t) (zFull m c)) := by
  rw [← after0_9]
  unfold Dat.leavesExact
  rw [show cfg0.idle 9 (cfg0.grid.coords t) = false from (by show (!(k0_cond1 (grid0.coords t) == 1#1)) = false; simp [h])]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ X, owns (c : Thread nD τ) (ms0_10 t) fullShare X)
    ∗ (∃ X, owns (c : Thread nD τ) (ms0_11 t) fullShare X)
    ∗ (∃ X, owns (c : Thread nD τ) (ms0_12 t) fullShare X))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ X, owns (c : Thread nD τ) (ms0_10 t) fullShare X)
    ∗ (∃ X, owns (c : Thread nD τ) (ms0_11 t) fullShare X)
    ∗ (∃ X, owns (c : Thread nD τ) (ms0_12 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl]
  rw [leaves0_0, leaves0_1, leaves0_2, leaves0_3, leaves0_4, leaves0_5, leaves0_6, leaves0_7]
  unfold PhiS
  by_cases h0 : k0_cond1 (grid0.coords t) = 1#1
  · rw [leaves0_8_live m c t h0, leaves0_9_live m c t h0]
    iintro ⟨⟨⟨%Z, %hZ, HZ⟩, HS1, HS2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hZ' := gathered_step m c t Z hZ
    have ht : t.val = 7 := (cond_iff t).1 h0
    have hF : zStep (grid0.coords t) (zAt m c t) Z = zFull m c := gathered_last m c _ (by rw [ht] at hZ'; exact hZ')
    iapply ((run_last c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Z h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HZ]; · iexact HZ
    isplitl [HS1]; · iexact HS1
    isplitl [HS2]; · iexact HS2
    iintro ⟨H0, H1, H2, H3, H4, H5, H6, H7, H8, H9, H10, H11, H12, HZ, HS1, HS2⟩
    isplitl [HZ HS1 HS2 HP]
    · isplitl [HZ]
      · iexists _; isplitr; swap; · iexact HZ
        ipureintro; exact hZ'
      isplitl [HS1]; · iexact HS1
      isplitl [HS2]; · iexact HS2
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · rw [← hF]; iexact H8
    isplitl [H9]
    · rw [← hF]; iexact H9
    isplitl [H10]; · iexact H10
    isplitl [H11]; · iexact H11
    iexact H12
  · rw [leaves0_8_idle m c t h0, leaves0_9_idle m c t h0]
    iintro ⟨⟨⟨%Z, %hZ, HZ⟩, HS1, HS2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hZ' := gathered_step m c t Z hZ
    iapply ((run_step c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 8 t d8) ((dats m 0 c).before 9 t d9) Z h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HZ]; · iexact HZ
    isplitl [HS1]; · iexact HS1
    isplitl [HS2]; · iexact HS2
    iintro ⟨H0, H1, H2, H3, H4, H5, H6, H7, H8, H9, H10, H11, H12, HZ, HS1, HS2⟩
    isplitl [HZ HS1 HS2 HP]
    · isplitl [HZ]
      · iexists _; isplitr; swap; · iexact HZ
        ipureintro; exact hZ'
      isplitl [HS1]; · iexact HS1
      isplitl [HS2]; · iexact HS2
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iexact H12

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

theorem phi_in (c : Dev nD) : Pipeline.ΦA spec0 c ⊢ PhiS m c 0 := by
  unfold Pipeline.ΦA PhiS
  rw [scopedRest0_eq]
  simp only [owns_whole]
  iintro ⟨⟨⟨%Z, HZ⟩, H1, H2⟩, HP⟩
  isplitl [HZ]
  · iexists Z; isplitr; swap; · iexact HZ
    ipureintro; exact gathered_zero m c Z
  isplitl [H1]; · iexact H1
  isplitl [H2]; · iexact H2
  iexact HP

theorem phi_out (c : Dev nD) (n : ℕ) : PhiS m c n ⊢ Pipeline.ΦA spec0 c := by
  unfold Pipeline.ΦA PhiS
  rw [scopedRest0_eq]
  simp only [owns_whole]
  iintro ⟨⟨%Z, -, HZ⟩, H1, H2, HP⟩
  isplitl [HZ H1 H2]
  · isplitl [HZ]; · iexists Z; iexact HZ
    isplitl [H1]; · iexact H1
    iexact H2
  iexact HP

set_option backward.isDefEq.respectTransparency.types false in
set_option maxHeartbeats 800000 in
/-- The run: every weakly fair execution of @main terminates with each named array at what the proof data say, every other
    buffer as the pipeline found it, and every semaphore counter at zero. -/
theorem run_main_quiescent : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

/-- What a run with forgotten outputs says of an array not forgotten, stated at a variable configuration. -/
theorem arr_named {cfg₁ : Cfg sig Λ₀} (dat : (c : Dev nD) → Dat τ (Elt F) Unit ℕ (UR sig nD τ) ℕ cfg₁ c) {fg : Fin cfg₁.W → Bool}
    {V : (c : Dev nD) → (b : Ref sig .tc) → Buf (Elt F) ((c.tc : Thread nD τ).loc b)} {r : PUnit × MemSt nD τ sig (Elt F)}
    (h : Pipeline.RDat.FramePost cfg₁ (fun c => (dat c).toRForget fg) V r) (c : Dev nD) (w : Fin cfg₁.W) (hf : fg w = false) :
    r.2.mem ((cfg₁.spec w).arr.view.loc (c.tc : Thread nD τ)) = (dat c).arrAt w cfg₁.N :=
  ((dat c).toRForget_arrAt_iff hf _ _).1 ((h c).1 w)

/-- And of an input's array. -/
theorem arr_input {cfg₁ : Cfg sig Λ₀} (dat : (c : Dev nD) → Dat τ (Elt F) Unit ℕ (UR sig nD τ) ℕ cfg₁ c) {fg : Fin cfg₁.W → Bool}
    {V : (c : Dev nD) → (b : Ref sig .tc) → Buf (Elt F) ((c.tc : Thread nD τ).loc b)} {r : PUnit × MemSt nD τ sig (Elt F)}
    (h : Pipeline.RDat.FramePost cfg₁ (fun c => (dat c).toRForget fg) V r) (c : Dev nD) (w : Fin cfg₁.W) (hin : (cfg₁.win w).isOut = false) :
    r.2.mem ((cfg₁.spec w).arr.view.loc (c.tc : Thread nD τ)) = (dat c).A w :=
  Pipeline.RDat.FramePost.arr_in h c w hin

/-- The final state's arrays: the arguments as launched, and the two index-query arrays at what the proof data compute. -/
theorem run_arrays : θ_run defs (onTc (τ := τ) (main (F := F))) ⟨m, fun _ => 0, ρ⟩ (fun r => (∀ c : Dev nD,
      r.2.mem ((c.tc : Thread nD τ).loc main_v21_0) = (dats m 0 c).arrAt 8 grid0.N
      ∧ r.2.mem ((c.tc : Thread nD τ).loc main_v21_1) = (dats m 0 c).arrAt 9 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
      arr_named (dats m 0) h.1 c 8 rfl,
      arr_named (dats m 0) h.1 c 9 rfl,
      (arr_input (dats m 0) h.1 c 0 rfl).trans ((A_eq m c 0).trans (V_main_arg0 m c)),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      (arr_input (dats m 0) h.1 c 2 rfl).trans ((A_eq m c 2).trans (V_main_arg3 m c)),
      (arr_input (dats m 0) h.1 c 3 rfl).trans ((A_eq m c 3).trans (V_main_arg4 m c)),
      (arr_input (dats m 0) h.1 c 4 rfl).trans ((A_eq m c 4).trans (V_main_arg5 m c)),
      (arr_input (dats m 0) h.1 c 5 rfl).trans ((A_eq m c 5).trans (V_main_arg6 m c)),
      (arr_input (dats m 0) h.1 c 6 rfl).trans ((A_eq m c 6).trans (V_main_arg7 m c)),
      (arr_input (dats m 0) h.1 c 7 rfl).trans ((A_eq m c 7).trans (V_main_arg8 m c))⟩, h.2⟩) (run_main_quiescent m ρ)

/-- THE FRAME: the program runs to the end, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2.2, h.2⟩) (run_arrays m ρ)

end Cert.Queries.Hand

end
-- ==== Proof.QueriesIdealStep.lean ====
module

public import proofs.«01_k».proof.Proof.Gen.QueriesIdeal.Launch
public import proofs.«01_k».proof.Proof.Gen.QueriesIdeal.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index

/-!
# One grid step of the query projection: the rows of the projected index queries it adds

The projected index queries stand in scratch, row `64 b + h` that of batch row `b` and head `h`. Grid step `j` adds the eight
heads `8 j, …, 8 j + 7`, each head's sixteen rows by one strided store.
-/

@[expose] public section

set_option maxRecDepth 16384

noncomputable section

namespace Cert.QueriesIdeal.Hand

open Cert.QueriesIdeal Cert.QueriesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Column block `k` of the activations. -/
def actBlk (x0 : Vec F S16x1536 .bf16) (k : Fin 12) : Vec F S16x128 .bf16 :=
  View.ld x0 (Rect.unit (s := S16x1536) ![0, 128 * k.val] S16x128.size (fun a => by
    have := k.isLt
    match a with
    | ⟨0, _⟩ => show 0 + 16 ≤ 16; omega
    | ⟨1, _⟩ => show 128 * k.val + 128 ≤ 1536; omega))

/-- The scales of head `8 j + 2 t`, one per block of the contracted axis. -/
def sclEven (i : grid0.Coords) (x3 : Vec F S12x64 .f32) (t : Fin 4) : Fin 12 → Elt F .f32
  | ⟨0, _⟩ => x3 (fun a => ⟨k0_off1 i (BitVec.ofNat 32 (2 * t.val)) a, lt_of_lt_of_le (Nat.lt_add_of_pos_right (by revert a; decide)) (k0_off1_inb i t a)⟩)
  | ⟨1, _⟩ => x3 (fun a => ⟨k0_off2 i (BitVec.ofNat 32 (2 * t.val)) a, lt_of_lt_of_le (Nat.lt_add_of_pos_right (by revert a; decide)) (k0_off2_inb i t a)⟩)
  | ⟨2, _⟩ => x3 (fun a => ⟨k0_off3 i (BitVec.ofNat 32 (2 * t.val)) a, lt_of_lt_of_le (Nat.lt_add_of_pos_right (by revert a; decide)) (k0_off3_inb i t a)⟩)
  | ⟨3, _⟩ => x3 (fun a => ⟨k0_off4 i (BitVec.ofNat 32 (2 * t.val)) a, lt_of_lt_of_le (Nat.lt_add_of_pos_right (by revert a; decide)) (k0_off4_inb i t a)⟩)
  | ⟨4, _⟩ => x3 (fun a => ⟨k0_off5 i (BitVec.ofNat 32 (2 * t.val)) a, lt_of_lt_of_le (Nat.lt_add_of_pos_right (by revert a; decide)) (k0_off5_inb i t a)⟩)
  | ⟨5, _⟩ => x3 (fun a => ⟨k0_off6 i (BitVec.ofNat 32 (2 * t.val)) a, lt_of_lt_of_le (Nat.lt_add_of_pos_right (by revert a; decide)) (k0_off6_inb i t a)⟩)
  | ⟨6, _⟩ => x3 (fun a => ⟨k0_off7 i (BitVec.ofNat 32 (2 * t.val)) a, lt_of_lt_of_le (Nat.lt_add_of_pos_right (by revert a; decide)) (k0_off7_inb i t a)⟩)
  | ⟨7, _⟩ => x3 (fun a => ⟨k0_off8 i (BitVec.ofNat 32 (2 * t.val)) a, lt_of_lt_of_le (Nat.lt_add_of_pos_right (by revert a; decide)) (k0_off8_inb i t a)⟩)
  | ⟨8, _⟩ => x3 (fun a => ⟨k0_off9 i (BitVec.ofNat 32 (2 * t.val)) a, lt_of_lt_of_le (Nat.lt_add_of_pos_right (by revert a; decide)) (k0_off9_inb i t a)⟩)
  | ⟨9, _⟩ => x3 (fun a => ⟨k0_off10 i (BitVec.ofNat 32 (2 * t.val)) a, lt_of_lt_of_le (Nat.lt_add_of_pos_right (by revert a; decide)) (k0_off10_inb i t a)⟩)
  | ⟨10, _⟩ => x3 (fun a => ⟨k0_off11 i (BitVec.ofNat 32 (2 * t.val)) a, lt_of_lt_of_le (Nat.lt_add_of_pos_right (by revert a; decide)) (k0_off11_inb i t a)⟩)
  | ⟨11, _⟩ => x3 (fun a => ⟨k0_off12 i (BitVec.ofNat 32 (2 * t.val)) a, lt_of_lt_of_le (Nat.lt_add_of_pos_right (by revert a; decide)) (k0_off12_inb i t a)⟩)

/-- The scales of head `8 j + 2 t + 1`. -/
def sclOdd (i : grid0.Coords) (x3 : Vec F S12x64 .f32) (t : Fin 4) : Fin 12 → Elt F .f32
  | ⟨0, _⟩ => x3 (fun a => ⟨k0_off13 i (BitVec.ofNat 32 (2 * t.val)) a, lt_of_lt_of_le (Nat.lt_add_of_pos_right (by revert a; decide)) (k0_off13_inb i t a)⟩)
  | ⟨1, _⟩ => x3 (fun a => ⟨k0_off14 i (BitVec.ofNat 32 (2 * t.val)) a, lt_of_lt_of_le (Nat.lt_add_of_pos_right (by revert a; decide)) (k0_off14_inb i t a)⟩)
  | ⟨2, _⟩ => x3 (fun a => ⟨k0_off15 i (BitVec.ofNat 32 (2 * t.val)) a, lt_of_lt_of_le (Nat.lt_add_of_pos_right (by revert a; decide)) (k0_off15_inb i t a)⟩)
  | ⟨3, _⟩ => x3 (fun a => ⟨k0_off16 i (BitVec.ofNat 32 (2 * t.val)) a, lt_of_lt_of_le (Nat.lt_add_of_pos_right (by revert a; decide)) (k0_off16_inb i t a)⟩)
  | ⟨4, _⟩ => x3 (fun a => ⟨k0_off17 i (BitVec.ofNat 32 (2 * t.val)) a, lt_of_lt_of_le (Nat.lt_add_of_pos_right (by revert a; decide)) (k0_off17_inb i t a)⟩)
  | ⟨5, _⟩ => x3 (fun a => ⟨k0_off18 i (BitVec.ofNat 32 (2 * t.val)) a, lt_of_lt_of_le (Nat.lt_add_of_pos_right (by revert a; decide)) (k0_off18_inb i t a)⟩)
  | ⟨6, _⟩ => x3 (fun a => ⟨k0_off19 i (BitVec.ofNat 32 (2 * t.val)) a, lt_of_lt_of_le (Nat.lt_add_of_pos_right (by revert a; decide)) (k0_off19_inb i t a)⟩)
  | ⟨7, _⟩ => x3 (fun a => ⟨k0_off20 i (BitVec.ofNat 32 (2 * t.val)) a, lt_of_lt_of_le (Nat.lt_add_of_pos_right (by revert a; decide)) (k0_off20_inb i t a)⟩)
  | ⟨8, _⟩ => x3 (fun a => ⟨k0_off21 i (BitVec.ofNat 32 (2 * t.val)) a, lt_of_lt_of_le (Nat.lt_add_of_pos_right (by revert a; decide)) (k0_off21_inb i t a)⟩)
  | ⟨9, _⟩ => x3 (fun a => ⟨k0_off22 i (BitVec.ofNat 32 (2 * t.val)) a, lt_of_lt_of_le (Nat.lt_add_of_pos_right (by revert a; decide)) (k0_off22_inb i t a)⟩)
  | ⟨10, _⟩ => x3 (fun a => ⟨k0_off23 i (BitVec.ofNat 32 (2 * t.val)) a, lt_of_lt_of_le (Nat.lt_add_of_pos_right (by revert a; decide)) (k0_off23_inb i t a)⟩)
  | ⟨11, _⟩ => x3 (fun a => ⟨k0_off24 i (BitVec.ofNat 32 (2 * t.val)) a, lt_of_lt_of_le (Nat.lt_add_of_pos_right (by revert a; decide)) (k0_off24_inb i t a)⟩)

/-- The weight columns of heads `8 j + 2 t` and `8 j + 2 t + 1`. -/
def wBlk (x5 : Vec F S1536x1024 .fp8e4m3) (t : Fin 4) : Vec F S1536x256 .fp8e4m3 :=
  View.ld x5 (Rect.unit (s := S1536x1024) ![0, 256 * t.val] S1536x256.size (fun a => by
    have := t.isLt
    match a with
    | ⟨0, _⟩ => show 0 + 1536 ≤ 1536; omega
    | ⟨1, _⟩ => show 256 * t.val + 256 ≤ 1024; omega))

/-- The projection onto the even head of a pair, in the kernel's spelling. -/
def zEven (a : Fin 12 → Vec F S16x128 .bf16) (s u : Fin 12 → Elt F .f32) (w : Vec F S1536x256 .fp8e4m3) : FVec F S16x128 .f32 :=
  k0_pay130 (a 8) (a 9) (a 10) (a 11) (u 9) (u 10) (u 11) w
    (k0_pay119 (a 0) (a 1) (a 2) (a 3) (a 4) (a 5) (a 6) (a 7) (a 8) (a 9) (a 10) (a 11) (s 1) (s 2) (s 3) (s 4) (s 5) (s 6) (s 7) (s 8) (s 9) (s 10) (s 11) (k0_pay118 (s 0)))
    (k0_pay120 (a 0) (u 0)) (k0_pay121 (a 1) (u 1)) (k0_pay122 (a 2) (u 2)) (k0_pay123 (a 3) (u 3)) (k0_pay124 (a 4) (u 4)) (k0_pay125 (a 5) (u 5)) (k0_pay126 (a 6) (u 6)) (k0_pay127 (a 7) (u 7)) (k0_pay128 (u 8))

/-- The projection onto the odd head of a pair, in the kernel's spelling. -/
def zOdd (a : Fin 12 → Vec F S16x128 .bf16) (s u : Fin 12 → Elt F .f32) (w : Vec F S1536x256 .fp8e4m3) : FVec F S16x128 .f32 :=
  k0_pay131 (a 8) (a 9) (a 10) (a 11) (u 9) (u 10) (u 11) w
    (k0_pay119 (a 0) (a 1) (a 2) (a 3) (a 4) (a 5) (a 6) (a 7) (a 8) (a 9) (a 10) (a 11) (s 1) (s 2) (s 3) (s 4) (s 5) (s 6) (s 7) (s 8) (s 9) (s 10) (s 11) (k0_pay118 (s 0)))
    (k0_pay120 (a 0) (u 0)) (k0_pay121 (a 1) (u 1)) (k0_pay122 (a 2) (u 2)) (k0_pay123 (a 3) (u 3)) (k0_pay124 (a 4) (u 4)) (k0_pay125 (a 5) (u 5)) (k0_pay126 (a 6) (u 6)) (k0_pay127 (a 7) (u 7)) (k0_pay128 (u 8))

/-- The eight heads a grid step projects onto. -/
def zVal (i : grid0.Coords) (x0 : Vec F S16x1536 .bf16) (x3 : Vec F S12x64 .f32) (x5 : Vec F S1536x1024 .fp8e4m3) : Fin 8 → FVec F S16x128 .f32 :=
  ![zEven (actBlk x0) (sclEven i x3 0) (sclOdd i x3 0) (wBlk x5 0),
    zOdd (actBlk x0) (sclEven i x3 0) (sclOdd i x3 0) (wBlk x5 0),
    zEven (actBlk x0) (sclEven i x3 1) (sclOdd i x3 1) (wBlk x5 1),
    zOdd (actBlk x0) (sclEven i x3 1) (sclOdd i x3 1) (wBlk x5 1),
    zEven (actBlk x0) (sclEven i x3 2) (sclOdd i x3 2) (wBlk x5 2),
    zOdd (actBlk x0) (sclEven i x3 2) (sclOdd i x3 2) (wBlk x5 2),
    zEven (actBlk x0) (sclEven i x3 3) (sclOdd i x3 3) (wBlk x5 3),
    zOdd (actBlk x0) (sclEven i x3 3) (sclOdd i x3 3) (wBlk x5 3)]

/-- The projected queries after a grid step, from those before it: the step's eight heads are replaced. -/
def zStep (i : grid0.Coords) (V : Fin 8 → FVec F S16x128 .f32) (z : Vec F S1024x128 .f32) : Vec F S1024x128 .f32 := fun y =>
  if (y 0).val % 64 / 8 = (i 0).val then V ⟨(y 0).val % 8, Nat.mod_lt _ (by omega)⟩ (ix2 (⟨(y 0).val / 64, by have h : (y 0).val < 1024 := (y 0).isLt; omega⟩ : Fin 16) (y 1 : Fin 128)) else z y

/-- Batch row `b`'s queries, rotated and transformed, from the head rows and the two table rows. -/
def turned (x1 : Vec F S4x16x128 .f32) (z : Vec F S1024x128 .f32) (b : Fin 10) : FVec F S64x128 .f32 :=
  k0_pay4 (View.ld z (Rect.unit (s := S1024x128) ![64 * b.val, 0] S64x128.size (fun a => by
      have := b.isLt
      match a with
      | ⟨0, _⟩ => show 64 * b.val + 64 ≤ 1024; omega
      | ⟨1, _⟩ => show 0 + 128 ≤ 128; omega)))
    (View.ld x1 (Rect.unit (s := S4x16x128) ![2, b.val, 0] S1x1x128.size (fun a => by
      have := b.isLt
      match a with
      | ⟨0, _⟩ => show 2 + 1 ≤ 4; omega
      | ⟨1, _⟩ => show b.val + 1 ≤ 16; omega
      | ⟨2, _⟩ => show 0 + 128 ≤ 128; omega)))
    (View.ld x1 (Rect.unit (s := S4x16x128) ![3, b.val, 0] S1x1x128.size (fun a => by
      have := b.isLt
      match a with
      | ⟨0, _⟩ => show 3 + 1 ≤ 4; omega
      | ⟨1, _⟩ => show b.val + 1 ≤ 16; omega
      | ⟨2, _⟩ => show 0 + 128 ≤ 128; omega)))

/-- The quantised queries of every batch row. -/
def codesOut (x1 : Vec F S4x16x128 .f32) (z : Vec F S1024x128 .f32) : Vec F S10x64x128 .fp8e4m3 := fun y =>
  ![k0_pay6 (turned x1 z 0), k0_pay6 (turned x1 z 1), k0_pay6 (turned x1 z 2), k0_pay6 (turned x1 z 3), k0_pay6 (turned x1 z 4), k0_pay6 (turned x1 z 5), k0_pay6 (turned x1 z 6), k0_pay6 (turned x1 z 7), k0_pay6 (turned x1 z 8), k0_pay6 (turned x1 z 9)] (y 0 : Fin 10) (ix3 (0 : Fin 1) (y 1 : Fin 64) (y 2 : Fin 128))

/-- Column `b` of a running table replaced by batch row `b`'s scales. -/
def colStep (b : BitVec 32) (v : FVec F S64x128 .f32) (t : FVec F S64x128 .f32) : FVec F S64x128 .f32 :=
  select (cmpi .eq (iota .tc S64x128 32 [1] iota_S64x128_d1_w32) (broadcast S64x128 b))
    (broadcastTo S64x128 (shapeCast S64x1 (k0_pay5 t) shapeCasts_S64x1_S64x1) broadcasts_S64x1_S64x128) v

/-- The scales of every batch row, batch rows along the columns. -/
def cols (x1 : Vec F S4x16x128 .f32) (z : Vec F S1024x128 .f32) : FVec F S64x128 .f32 :=
  colStep 9#32 (colStep 8#32 (colStep 7#32 (colStep 6#32 (colStep 5#32 (colStep 4#32 (colStep 3#32 (colStep 2#32 (colStep 1#32 (colStep 0#32 (k0_pay3) (turned x1 z 0)) (turned x1 z 1)) (turned x1 z 2)) (turned x1 z 3)) (turned x1 z 4)) (turned x1 z 5)) (turned x1 z 6)) (turned x1 z 7)) (turned x1 z 8)) (turned x1 z 9)

/-- The scales of every batch row and head. -/
def scalesOut (x1 : Vec F S4x16x128 .f32) (z : Vec F S1024x128 .f32) : Vec F S10x64 .f32 := k0_pay116 (cols x1 z)

end Cert.QueriesIdeal.Hand

end
-- ==== Proof.QueriesIdealProject.lean ====
module

public import proofs.«01_k».proof.Proof.QueriesIdealStep
public import proofs.«01_k».proof.Proof.Gen.QueriesIdeal.Launch
public import proofs.«01_k».proof.Proof.Gen.QueriesIdeal.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index

/-!
# The query projection's grid step, run

The part of the body every grid step runs: it projects onto the step's eight heads and stores their rows.
-/

@[expose] public section

set_option maxRecDepth 16384

noncomputable section

namespace Cert.QueriesIdeal.Hand

open Cert.QueriesIdeal Cert.QueriesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of head `8 j + 2 t + e`. -/
def headRect (i : grid0.Coords) (t : Fin 4) (e : Fin 2) : Rect S1024x128 :=
  ⟨⟨k0_off25 i (BitVec.ofNat 32 (2 * t.val)) (BitVec.ofNat 32 e.val), S16x128.size, ![64, 1], k0_off25_inb i t e⟩, spos_64_1⟩

theorem headRect_row (i : grid0.Coords) (t : Fin 4) (e : Fin 2) (x : S16x128.Idx) :
    ((headRect i t e).emb x 0).val = 8 * (i 0).val + 2 * t.val + e.val + 64 * (x 0).val := by
  show k0_off25 i (BitVec.ofNat 32 (2 * t.val)) (BitVec.ofNat 32 e.val) 0 + 64 * (x 0).val = _
  rw [k0_off25_eq]; rfl

theorem headRect_col (i : grid0.Coords) (t : Fin 4) (e : Fin 2) (x : S16x128.Idx) :
    ((headRect i t e).emb x 1).val = (x 1).val := by
  show k0_off25 i (BitVec.ofNat 32 (2 * t.val)) (BitVec.ofNat 32 e.val) 1 + 1 * (x 1).val = _
  rw [k0_off25_eq]
  show 0 + 1 * (x 1).val = _
  omega

/-- A step's head at one of its rows. -/
theorem zStep_at (i : grid0.Coords) (V : Fin 8 → FVec F S16x128 .f32) (z : Vec F S1024x128 .f32) (t : Fin 4) (e : Fin 2) (x : S16x128.Idx) :
    zStep i V z ((headRect i t e).emb x) = V ⟨2 * t.val + e.val, by omega⟩ x := by
  have hi : (i 0).val < 8 := (i 0).isLt
  have hx : (x 0).val < 16 := (x 0).isLt
  have h0 := headRect_row i t e x
  have h1 := headRect_col i t e x
  unfold zStep
  rw [if_pos (by omega)]
  have key : ∀ (r r' : Fin 8) (u u' : S16x128.Idx), r = r' → u = u' → V r u = V r' u' := by rintro _ _ _ _ rfl rfl; rfl
  refine key _ _ _ _ (Fin.ext ?_) (funext fun a => Fin.ext ?_)
  · show ((headRect i t e).emb x 0).val % 8 = 2 * t.val + e.val
    omega
  · match a with
    | ⟨0, _⟩ => show ((headRect i t e).emb x 0).val / 64 = (x 0).val; omega
    | ⟨1, _⟩ => exact h1

/-- The pieces a step stores over the projected queries, newest first. -/
theorem read_zStep {κ : Kind} {sp : Space} (v : View sig κ sp S1024x128 .f32) (f : v.ty.Contents (Elt F)) (i : grid0.Coords) (w0 w1 w2 w3 w4 w5 w6 w7 : FVec F S16x128 .f32) :
    v.read (Elt F) (v.writes (Elt F) f [⟨⟨⟨k0_off25 i 6#32 1#32, S16x128.size, ![64, 1], k0_off25_inb i 3 1⟩, spos_64_1⟩, w7⟩, ⟨⟨⟨k0_off25 i 6#32 0#32, S16x128.size, ![64, 1], k0_off25_inb i 3 0⟩, spos_64_1⟩, w6⟩, ⟨⟨⟨k0_off25 i 4#32 1#32, S16x128.size, ![64, 1], k0_off25_inb i 2 1⟩, spos_64_1⟩, w5⟩, ⟨⟨⟨k0_off25 i 4#32 0#32, S16x128.size, ![64, 1], k0_off25_inb i 2 0⟩, spos_64_1⟩, w4⟩, ⟨⟨⟨k0_off25 i 2#32 1#32, S16x128.size, ![64, 1], k0_off25_inb i 1 1⟩, spos_64_1⟩, w3⟩, ⟨⟨⟨k0_off25 i 2#32 0#32, S16x128.size, ![64, 1], k0_off25_inb i 1 0⟩, spos_64_1⟩, w2⟩, ⟨⟨⟨k0_off25 i 0#32 1#32, S16x128.size, ![64, 1], k0_off25_inb i 0 1⟩, spos_64_1⟩, w1⟩, ⟨⟨⟨k0_off25 i 0#32 0#32, S16x128.size, ![64, 1], k0_off25_inb i 0 0⟩, spos_64_1⟩, w0⟩])
      = zStep i ![w0, w1, w2, w3, w4, w5, w6, w7] (v.read (Elt F) f) := by
  show v.read (Elt F) (v.writes (Elt F) f [⟨headRect i 3 1, w7⟩, ⟨headRect i 3 0, w6⟩, ⟨headRect i 2 1, w5⟩, ⟨headRect i 2 0, w4⟩, ⟨headRect i 1 1, w3⟩, ⟨headRect i 1 0, w2⟩, ⟨headRect i 0 1, w1⟩, ⟨headRect i 0 0, w0⟩]) = _
  funext y
  have hi : (i 0).val < 8 := (i 0).isLt
  have hy : (y 0).val < 1024 := (y 0).isLt
  by_cases h : (y 0).val % 64 / 8 = (i 0).val
  · refine View.read_writes_apply_of_pieces v f (zStep i ![w0, w1, w2, w3, w4, w5, w6, w7] (v.read (Elt F) f)) _ ?_ y ?_
    · intro p hp
      simp only [List.mem_cons, List.not_mem_nil, or_false] at hp
      rcases hp with rfl | rfl | rfl | rfl | rfl | rfl | rfl | rfl
      · exact fun x => (zStep_at i ![w0, w1, w2, w3, w4, w5, w6, w7] _ 3 1 x).symm
      · exact fun x => (zStep_at i ![w0, w1, w2, w3, w4, w5, w6, w7] _ 3 0 x).symm
      · exact fun x => (zStep_at i ![w0, w1, w2, w3, w4, w5, w6, w7] _ 2 1 x).symm
      · exact fun x => (zStep_at i ![w0, w1, w2, w3, w4, w5, w6, w7] _ 2 0 x).symm
      · exact fun x => (zStep_at i ![w0, w1, w2, w3, w4, w5, w6, w7] _ 1 1 x).symm
      · exact fun x => (zStep_at i ![w0, w1, w2, w3, w4, w5, w6, w7] _ 1 0 x).symm
      · exact fun x => (zStep_at i ![w0, w1, w2, w3, w4, w5, w6, w7] _ 0 1 x).symm
      · exact fun x => (zStep_at i ![w0, w1, w2, w3, w4, w5, w6, w7] _ 0 0 x).symm
    · have hmem : ∀ (t : Fin 4) (e : Fin 2), (y 0).val % 8 = 2 * t.val + e.val → y ∈ (headRect i t e).set := fun t e hte => by
        have := (headRect i t e).idx_mem (ix2 (⟨(y 0).val / 64, by omega⟩ : Fin 16) (y 1 : Fin 128) : S16x128.Idx)
        have he : (headRect i t e).emb (ix2 (⟨(y 0).val / 64, by omega⟩ : Fin 16) (y 1 : Fin 128) : S16x128.Idx) = y := funext fun a => Fin.ext (by
          match a with
          | ⟨0, _⟩ =>
            refine (headRect_row i t e _).trans ?_
            show 8 * (i 0).val + 2 * t.val + e.val + 64 * ((y 0).val / 64) = (y 0).val
            omega
          | ⟨1, _⟩ => exact headRect_col i t e _)
        rw [← he]; exact this
      have h8 : (y 0).val % 8 < 8 := Nat.mod_lt _ (by omega)
      have h8' : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
      rcases h8' with hr | hr | hr | hr | hr | hr | hr | hr
      · exact ⟨⟨headRect i 0 0, w0⟩, by simp only [List.mem_cons, List.not_mem_nil, or_false, true_or, or_true], hmem 0 0 hr⟩
      · exact ⟨⟨headRect i 0 1, w1⟩, by simp only [List.mem_cons, List.not_mem_nil, or_false, true_or, or_true], hmem 0 1 hr⟩
      · exact ⟨⟨headRect i 1 0, w2⟩, by simp only [List.mem_cons, List.not_mem_nil, or_false, true_or, or_true], hmem 1 0 hr⟩
      · exact ⟨⟨headRect i 1 1, w3⟩, by simp only [List.mem_cons, List.not_mem_nil, or_false, true_or, or_true], hmem 1 1 hr⟩
      · exact ⟨⟨headRect i 2 0, w4⟩, by simp only [List.mem_cons, List.not_mem_nil, or_false, true_or, or_true], hmem 2 0 hr⟩
      · exact ⟨⟨headRect i 2 1, w5⟩, by simp only [List.mem_cons, List.not_mem_nil, or_false, true_or, or_true], hmem 2 1 hr⟩
      · exact ⟨⟨headRect i 3 0, w6⟩, by simp only [List.mem_cons, List.not_mem_nil, or_false, true_or, or_true], hmem 3 0 hr⟩
      · exact ⟨⟨headRect i 3 1, w7⟩, by simp only [List.mem_cons, List.not_mem_nil, or_false, true_or, or_true], hmem 3 1 hr⟩
  · have hno : ∀ (t : Fin 4) (e : Fin 2), y ∉ (headRect i t e).set := fun t e hm => by
      obtain ⟨x, hx⟩ := (headRect i t e).exists_idx_of_mem hm
      have h0 := headRect_row i t e x
      have hx' : (x 0).val < 16 := (x 0).isLt
      have h1 : ((headRect i t e).emb x 0).val = (y 0).val := congrArg (fun w : S1024x128.Idx => (w 0).val) hx
      omega
    rw [View.read_writes_apply_of_forall_not_mem]
    · unfold zStep; rw [if_neg h]
    · intro p hp
      simp only [List.mem_cons, List.not_mem_nil, or_false] at hp
      rcases hp with rfl | rfl | rfl | rfl | rfl | rfl | rfl | rfl
      · exact hno 3 1
      · exact hno 3 0
      · exact hno 2 1
      · exact hno 2 0
      · exact hno 1 1
      · exact hno 1 0
      · exact hno 0 1
      · exact hno 0 0

set_option maxHeartbeats 4000000 in
/-- The part of the body every grid step runs: the step's eight heads are stored over the projected queries. -/
theorem run_project (c : Dev nD) (i : grid0.Coords) (arg1 : Memref sig .tc .vmem S16x1536 .bf16) (harg1 : arg1.IsWhole) (arg2 : Memref sig .tc .vmem S4x16x128 .f32) (harg2 : arg2.IsWhole) (arg3 : Memref sig .tc .vmem S16x128 .f32) (harg3 : arg3.IsWhole) (arg4 : Memref sig .tc .smem S12x64 .f32) (harg4 : arg4.IsWhole) (arg5 : Memref sig .tc .smem S12x48 .f32) (harg5 : arg5.IsWhole) (arg6 : Memref sig .tc .vmem S1536x1024 .fp8e4m3) (harg6 : arg6.IsWhole) (arg7 : Memref sig .tc .vmem S1536x768 .fp8e4m3) (harg7 : arg7.IsWhole) (arg8 : Memref sig .tc .vmem S4x128x512 .bf16) (harg8 : arg8.IsWhole) (arg9 : Memref sig .tc .vmem S10x64x128 .fp8e4m3) (harg9 : arg9.IsWhole) (arg10 : Memref sig .tc .vmem S10x64 .f32) (harg10 : arg10.IsWhole) (arg11 : Memref sig .tc .vmem S64x128 .f32) (harg11 : arg11.IsWhole) (arg12 : Memref sig .tc .vmem S10x32x512 .bf16) (harg12 : arg12.IsWhole) (arg13 : Memref sig .tc .vmem S10x32x64 .bf16) (harg13 : arg13.IsWhole) (arg14 : Memref sig .tc .vmem S1024x128 .f32) (harg14 : arg14.IsWhole) (arg15 : Memref sig .tc .vmem S4x512x128 .f32) (harg15 : arg15.IsWhole) (arg16 : Memref sig .tc .vmem S512x128 .f32) (harg16 : arg16.IsWhole) (x0 : Vec F S16x1536 .bf16) (x1 : Vec F S4x16x128 .f32) (x3 : Vec F S12x64 .f32) (x4 : Vec F S12x48 .f32) (x5 : Vec F S1536x1024 .fp8e4m3) (x6 : Vec F S1536x768 .fp8e4m3) (x7 : Vec F S4x128x512 .bf16) (z : Vec F S1024x128 .f32) :
      ∀ (E : Set ℕ) (K : (Σ' (arg0 : BitVec 32) (v1161 : BitVec 32) (v1190 : FVec F S16x128 .f32), FVec F S16x128 .f32) → sProp 𝕄),
        iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg14 fullShare z ∗ (∃ d, owns (c : Thread nD τ) arg15 fullShare d) ∗ (∃ d, owns (c : Thread nD τ) arg16 fullShare d)
            ∗ (∀ r, iprop(owns (c : Thread nD τ) arg1 fullShare x0 ∗ owns (c : Thread nD τ) arg2 fullShare x1 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg14 fullShare (zStep i (zVal i x0 x3 x5) z) ∗ (∃ d, owns (c : Thread nD τ) arg15 fullShare d) ∗ (∃ d, owns (c : Thread nD τ) arg16 fullShare d)) -∗ K r))
          ⊢ wp frame (wpE (defs₀ (F := F)) Variants.none c none) E (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton]; unfold k0_part49_skel
    simp only [k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton]
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%f7, %hf7, H7⟩, ⟨%f14, %hf14, H14⟩, ⟨%d15, %f15, -, H15⟩, ⟨%d16, %f16, -, H16⟩, Hk⟩
    subst hf0 hf1 hf3 hf4 hf5 hf6 hf7 hf14
    sl_exec
    sl_step
    iapply Hk
    isplitl [H0]
    · iexists _; isplitr; · ipureintro; rfl
      iexact H0
    isplitl [H1]
    · iexists _; isplitr; · ipureintro; rfl
      iexact H1
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H14]
    · iexists _; isplitr; swap; · iexact H14
      ipureintro
      exact read_zStep _ _ i _ _ _ _ _ _ _ _
    isplitl [H15]
    · iexists _; iexists _; isplitr; swap; · iexact H15
      ipureintro; rfl
    iexists _; iexists _; isplitr; swap; · iexact H16
    ipureintro; rfl

end Cert.QueriesIdeal.Hand

end
-- ==== Proof.QueriesIdealBody.lean ====
module

public import proofs.«01_k».proof.Proof.QueriesIdealProject
public import Idealize.ShloMosaic.Lib.Pipeline.Value
public import proofs.«01_k».proof.Proof.Gen.QueriesIdeal.Launch
public import proofs.«01_k».proof.Proof.Gen.QueriesIdeal.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index

/-!
# The query projection's body, run

A grid step but the last only projects; the last one also rotates, transforms and quantises every batch row's queries and stores
them with their scales.
-/

@[expose] public section

set_option maxRecDepth 16384

noncomputable section

namespace Cert.QueriesIdeal.Hand

open Cert.QueriesIdeal Cert.QueriesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem code_at (w0 w1 w2 w3 w4 w5 w6 w7 w8 w9 : FVec F S1x64x128 .fp8e4m3) (b : Fin 10) (r : Rect S10x64x128) (e : S1x64x128.Idx → S10x64x128.Idx)
    (h0 : ∀ x, ((e x) 0).val = b.val + (x 0).val) (h1 : ∀ x, ((e x) 1).val = (x 1).val) (h2 : ∀ x, ((e x) 2).val = (x 2).val) (x : S1x64x128.Idx) :
    ![w0, w1, w2, w3, w4, w5, w6, w7, w8, w9] b x = ![w0, w1, w2, w3, w4, w5, w6, w7, w8, w9] ((e x) 0 : Fin 10) (ix3 (0 : Fin 1) ((e x) 1 : Fin 64) ((e x) 2 : Fin 128)) := by
  have hx : (x 0).val < 1 := (x 0).isLt
  have key : ∀ (V : Fin 10 → FVec F S1x64x128 .fp8e4m3) (r r' : Fin 10) (u u' : S1x64x128.Idx), r = r' → u = u' → V r u = V r' u' := by rintro _ _ _ _ _ rfl rfl; rfl
  refine key _ _ _ _ _ (Fin.ext ?_) (funext fun a => Fin.ext ?_)
  · exact (by have := h0 x; omega : b.val = ((e x) 0).val)
  · match a with
    | ⟨0, _⟩ => show (x 0).val = 0; omega
    | ⟨1, _⟩ => exact (h1 x).symm
    | ⟨2, _⟩ => exact (h2 x).symm

/-- The pieces the last step stores over the quantised queries, newest first. -/
theorem read_codes {κ : Kind} {sp : Space} (v : View sig κ sp S10x64x128 .fp8e4m3) (f : v.ty.Contents (Elt F)) (w0 w1 w2 w3 w4 w5 w6 w7 w8 w9 : FVec F S1x64x128 .fp8e4m3) :
    v.read (Elt F) (v.writes (Elt F) f [⟨Rect.unit (s := S10x64x128) ![9, 0, 0] S1x64x128.size inb_S10x64x128_S1x64x128_9_0_0, w9⟩, ⟨Rect.unit (s := S10x64x128) ![8, 0, 0] S1x64x128.size inb_S10x64x128_S1x64x128_8_0_0, w8⟩, ⟨Rect.unit (s := S10x64x128) ![7, 0, 0] S1x64x128.size inb_S10x64x128_S1x64x128_7_0_0, w7⟩, ⟨Rect.unit (s := S10x64x128) ![6, 0, 0] S1x64x128.size inb_S10x64x128_S1x64x128_6_0_0, w6⟩, ⟨Rect.unit (s := S10x64x128) ![5, 0, 0] S1x64x128.size inb_S10x64x128_S1x64x128_5_0_0, w5⟩, ⟨Rect.unit (s := S10x64x128) ![4, 0, 0] S1x64x128.size inb_S10x64x128_S1x64x128_4_0_0, w4⟩, ⟨Rect.unit (s := S10x64x128) ![3, 0, 0] S1x64x128.size inb_S10x64x128_S1x64x128_3_0_0, w3⟩, ⟨Rect.unit (s := S10x64x128) ![2, 0, 0] S1x64x128.size inb_S10x64x128_S1x64x128_2_0_0, w2⟩, ⟨Rect.unit (s := S10x64x128) ![1, 0, 0] S1x64x128.size inb_S10x64x128_S1x64x128_1_0_0, w1⟩, ⟨Rect.unit (s := S10x64x128) ![0, 0, 0] S1x64x128.size inb_S10x64x128_S1x64x128_0_0_0, w0⟩])
      = fun y => ![w0, w1, w2, w3, w4, w5, w6, w7, w8, w9] (y 0 : Fin 10) (ix3 (0 : Fin 1) (y 1 : Fin 64) (y 2 : Fin 128)) := by
  funext y
  refine View.read_writes_apply_of_pieces v f (fun y => ![w0, w1, w2, w3, w4, w5, w6, w7, w8, w9] (y 0 : Fin 10) (ix3 (0 : Fin 1) (y 1 : Fin 64) (y 2 : Fin 128))) _ ?_ y ?_
  · intro p hp
    simp only [List.mem_cons, List.not_mem_nil, or_false] at hp
    rcases hp with rfl | rfl | rfl | rfl | rfl | rfl | rfl | rfl | rfl | rfl
    · exact fun x => code_at w0 w1 w2 w3 w4 w5 w6 w7 w8 w9 9 (Rect.unit (s := S10x64x128) ![9, 0, 0] S1x64x128.size inb_S10x64x128_S1x64x128_9_0_0) (Rect.unit (s := S10x64x128) ![9, 0, 0] S1x64x128.size inb_S10x64x128_S1x64x128_9_0_0).emb (fun x => (by show 9 + 1 * (x 0).val = 9 + (x 0).val; omega)) (fun x => (by show 0 + 1 * (x 1).val = (x 1).val; omega)) (fun x => (by show 0 + 1 * (x 2).val = (x 2).val; omega)) x
    · exact fun x => code_at w0 w1 w2 w3 w4 w5 w6 w7 w8 w9 8 (Rect.unit (s := S10x64x128) ![8, 0, 0] S1x64x128.size inb_S10x64x128_S1x64x128_8_0_0) (Rect.unit (s := S10x64x128) ![8, 0, 0] S1x64x128.size inb_S10x64x128_S1x64x128_8_0_0).emb (fun x => (by show 8 + 1 * (x 0).val = 8 + (x 0).val; omega)) (fun x => (by show 0 + 1 * (x 1).val = (x 1).val; omega)) (fun x => (by show 0 + 1 * (x 2).val = (x 2).val; omega)) x
    · exact fun x => code_at w0 w1 w2 w3 w4 w5 w6 w7 w8 w9 7 (Rect.unit (s := S10x64x128) ![7, 0, 0] S1x64x128.size inb_S10x64x128_S1x64x128_7_0_0) (Rect.unit (s := S10x64x128) ![7, 0, 0] S1x64x128.size inb_S10x64x128_S1x64x128_7_0_0).emb (fun x => (by show 7 + 1 * (x 0).val = 7 + (x 0).val; omega)) (fun x => (by show 0 + 1 * (x 1).val = (x 1).val; omega)) (fun x => (by show 0 + 1 * (x 2).val = (x 2).val; omega)) x
    · exact fun x => code_at w0 w1 w2 w3 w4 w5 w6 w7 w8 w9 6 (Rect.unit (s := S10x64x128) ![6, 0, 0] S1x64x128.size inb_S10x64x128_S1x64x128_6_0_0) (Rect.unit (s := S10x64x128) ![6, 0, 0] S1x64x128.size inb_S10x64x128_S1x64x128_6_0_0).emb (fun x => (by show 6 + 1 * (x 0).val = 6 + (x 0).val; omega)) (fun x => (by show 0 + 1 * (x 1).val = (x 1).val; omega)) (fun x => (by show 0 + 1 * (x 2).val = (x 2).val; omega)) x
    · exact fun x => code_at w0 w1 w2 w3 w4 w5 w6 w7 w8 w9 5 (Rect.unit (s := S10x64x128) ![5, 0, 0] S1x64x128.size inb_S10x64x128_S1x64x128_5_0_0) (Rect.unit (s := S10x64x128) ![5, 0, 0] S1x64x128.size inb_S10x64x128_S1x64x128_5_0_0).emb (fun x => (by show 5 + 1 * (x 0).val = 5 + (x 0).val; omega)) (fun x => (by show 0 + 1 * (x 1).val = (x 1).val; omega)) (fun x => (by show 0 + 1 * (x 2).val = (x 2).val; omega)) x
    · exact fun x => code_at w0 w1 w2 w3 w4 w5 w6 w7 w8 w9 4 (Rect.unit (s := S10x64x128) ![4, 0, 0] S1x64x128.size inb_S10x64x128_S1x64x128_4_0_0) (Rect.unit (s := S10x64x128) ![4, 0, 0] S1x64x128.size inb_S10x64x128_S1x64x128_4_0_0).emb (fun x => (by show 4 + 1 * (x 0).val = 4 + (x 0).val; omega)) (fun x => (by show 0 + 1 * (x 1).val = (x 1).val; omega)) (fun x => (by show 0 + 1 * (x 2).val = (x 2).val; omega)) x
    · exact fun x => code_at w0 w1 w2 w3 w4 w5 w6 w7 w8 w9 3 (Rect.unit (s := S10x64x128) ![3, 0, 0] S1x64x128.size inb_S10x64x128_S1x64x128_3_0_0) (Rect.unit (s := S10x64x128) ![3, 0, 0] S1x64x128.size inb_S10x64x128_S1x64x128_3_0_0).emb (fun x => (by show 3 + 1 * (x 0).val = 3 + (x 0).val; omega)) (fun x => (by show 0 + 1 * (x 1).val = (x 1).val; omega)) (fun x => (by show 0 + 1 * (x 2).val = (x 2).val; omega)) x
    · exact fun x => code_at w0 w1 w2 w3 w4 w5 w6 w7 w8 w9 2 (Rect.unit (s := S10x64x128) ![2, 0, 0] S1x64x128.size inb_S10x64x128_S1x64x128_2_0_0) (Rect.unit (s := S10x64x128) ![2, 0, 0] S1x64x128.size inb_S10x64x128_S1x64x128_2_0_0).emb (fun x => (by show 2 + 1 * (x 0).val = 2 + (x 0).val; omega)) (fun x => (by show 0 + 1 * (x 1).val = (x 1).val; omega)) (fun x => (by show 0 + 1 * (x 2).val = (x 2).val; omega)) x
    · exact fun x => code_at w0 w1 w2 w3 w4 w5 w6 w7 w8 w9 1 (Rect.unit (s := S10x64x128) ![1, 0, 0] S1x64x128.size inb_S10x64x128_S1x64x128_1_0_0) (Rect.unit (s := S10x64x128) ![1, 0, 0] S1x64x128.size inb_S10x64x128_S1x64x128_1_0_0).emb (fun x => (by show 1 + 1 * (x 0).val = 1 + (x 0).val; omega)) (fun x => (by show 0 + 1 * (x 1).val = (x 1).val; omega)) (fun x => (by show 0 + 1 * (x 2).val = (x 2).val; omega)) x
    · exact fun x => code_at w0 w1 w2 w3 w4 w5 w6 w7 w8 w9 0 (Rect.unit (s := S10x64x128) ![0, 0, 0] S1x64x128.size inb_S10x64x128_S1x64x128_0_0_0) (Rect.unit (s := S10x64x128) ![0, 0, 0] S1x64x128.size inb_S10x64x128_S1x64x128_0_0_0).emb (fun x => (by show 0 + 1 * (x 0).val = 0 + (x 0).val; omega)) (fun x => (by show 0 + 1 * (x 1).val = (x 1).val; omega)) (fun x => (by show 0 + 1 * (x 2).val = (x 2).val; omega)) x
  · have hy : (y 0).val < 10 := (y 0).isLt
    have hmem : ∀ (b : ℕ) (h : ∀ a, (![b, 0, 0] : Fin 3 → ℕ) a + S1x64x128.size a ≤ S10x64x128.size a), (y 0).val = b → y ∈ (Rect.unit (s := S10x64x128) ![b, 0, 0] S1x64x128.size h).set := fun b h hb => by
      have he : (Rect.unit (s := S10x64x128) ![b, 0, 0] S1x64x128.size h).emb (ix3 (0 : Fin 1) (y 1 : Fin 64) (y 2 : Fin 128) : S1x64x128.Idx) = y := funext fun a => Fin.ext (by
        match a with
        | ⟨0, _⟩ => show b + 1 * 0 = (y 0).val; omega
        | ⟨1, _⟩ => show 0 + 1 * (y 1).val = (y 1).val; omega
        | ⟨2, _⟩ => show 0 + 1 * (y 2).val = (y 2).val; omega)
      rw [← he]; exact LoadRect.idx_mem _ _
    have h8' : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 := by omega
    rcases h8' with hr | hr | hr | hr | hr | hr | hr | hr | hr | hr
    · exact ⟨⟨Rect.unit (s := S10x64x128) ![0, 0, 0] S1x64x128.size inb_S10x64x128_S1x64x128_0_0_0, w0⟩, by repeat (first | exact List.mem_cons_self | apply List.mem_cons_of_mem), hmem 0 inb_S10x64x128_S1x64x128_0_0_0 hr⟩
    · exact ⟨⟨Rect.unit (s := S10x64x128) ![1, 0, 0] S1x64x128.size inb_S10x64x128_S1x64x128_1_0_0, w1⟩, by repeat (first | exact List.mem_cons_self | apply List.mem_cons_of_mem), hmem 1 inb_S10x64x128_S1x64x128_1_0_0 hr⟩
    · exact ⟨⟨Rect.unit (s := S10x64x128) ![2, 0, 0] S1x64x128.size inb_S10x64x128_S1x64x128_2_0_0, w2⟩, by repeat (first | exact List.mem_cons_self | apply List.mem_cons_of_mem), hmem 2 inb_S10x64x128_S1x64x128_2_0_0 hr⟩
    · exact ⟨⟨Rect.unit (s := S10x64x128) ![3, 0, 0] S1x64x128.size inb_S10x64x128_S1x64x128_3_0_0, w3⟩, by repeat (first | exact List.mem_cons_self | apply List.mem_cons_of_mem), hmem 3 inb_S10x64x128_S1x64x128_3_0_0 hr⟩
    · exact ⟨⟨Rect.unit (s := S10x64x128) ![4, 0, 0] S1x64x128.size inb_S10x64x128_S1x64x128_4_0_0, w4⟩, by repeat (first | exact List.mem_cons_self | apply List.mem_cons_of_mem), hmem 4 inb_S10x64x128_S1x64x128_4_0_0 hr⟩
    · exact ⟨⟨Rect.unit (s := S10x64x128) ![5, 0, 0] S1x64x128.size inb_S10x64x128_S1x64x128_5_0_0, w5⟩, by repeat (first | exact List.mem_cons_self | apply List.mem_cons_of_mem), hmem 5 inb_S10x64x128_S1x64x128_5_0_0 hr⟩
    · exact ⟨⟨Rect.unit (s := S10x64x128) ![6, 0, 0] S1x64x128.size inb_S10x64x128_S1x64x128_6_0_0, w6⟩, by repeat (first | exact List.mem_cons_self | apply List.mem_cons_of_mem), hmem 6 inb_S10x64x128_S1x64x128_6_0_0 hr⟩
    · exact ⟨⟨Rect.unit (s := S10x64x128) ![7, 0, 0] S1x64x128.size inb_S10x64x128_S1x64x128_7_0_0, w7⟩, by repeat (first | exact List.mem_cons_self | apply List.mem_cons_of_mem), hmem 7 inb_S10x64x128_S1x64x128_7_0_0 hr⟩
    · exact ⟨⟨Rect.unit (s := S10x64x128) ![8, 0, 0] S1x64x128.size inb_S10x64x128_S1x64x128_8_0_0, w8⟩, by repeat (first | exact List.mem_cons_self | apply List.mem_cons_of_mem), hmem 8 inb_S10x64x128_S1x64x128_8_0_0 hr⟩
    · exact ⟨⟨Rect.unit (s := S10x64x128) ![9, 0, 0] S1x64x128.size inb_S10x64x128_S1x64x128_9_0_0, w9⟩, by repeat (first | exact List.mem_cons_self | apply List.mem_cons_of_mem), hmem 9 inb_S10x64x128_S1x64x128_9_0_0 hr⟩

/-- The store over the scales covers them. -/
theorem read_scales {κ : Kind} {sp : Space} (v : View sig κ sp S10x64 .f32) (f : v.ty.Contents (Elt F)) (w : FVec F S10x64 .f32) :
    v.read (Elt F) (v.writes (Elt F) f [⟨Rect.unit (s := S10x64) ![0, 0] S10x64.size inb_S10x64_S10x64_0_0, w⟩]) = w := by
  funext y
  exact View.read_writes_cons_hit_of_coords v f (Rect.unit (s := S10x64) ![0, 0] S10x64.size inb_S10x64_S10x64_0_0) w [] y y (fun a => by
    match a with
    | ⟨0, _⟩ => show (y 0).val = 0 + 1 * (y 0).val; omega
    | ⟨1, _⟩ => show (y 1).val = 0 + 1 * (y 1).val; omega)

set_option maxHeartbeats 8000000 in
/-- A grid step but the last: it projects onto its heads and stores no result. -/
theorem run_step (c : Dev nD) (i : grid0.Coords) (arg1 : Memref sig .tc .vmem S16x1536 .bf16) (harg1 : arg1.IsWhole) (arg2 : Memref sig .tc .vmem S4x16x128 .f32) (harg2 : arg2.IsWhole) (arg3 : Memref sig .tc .vmem S16x128 .f32) (harg3 : arg3.IsWhole) (arg4 : Memref sig .tc .smem S12x64 .f32) (harg4 : arg4.IsWhole) (arg5 : Memref sig .tc .smem S12x48 .f32) (harg5 : arg5.IsWhole) (arg6 : Memref sig .tc .vmem S1536x1024 .fp8e4m3) (harg6 : arg6.IsWhole) (arg7 : Memref sig .tc .vmem S1536x768 .fp8e4m3) (harg7 : arg7.IsWhole) (arg8 : Memref sig .tc .vmem S4x128x512 .bf16) (harg8 : arg8.IsWhole) (arg9 : Memref sig .tc .vmem S10x64x128 .fp8e4m3) (harg9 : arg9.IsWhole) (arg10 : Memref sig .tc .vmem S10x64 .f32) (harg10 : arg10.IsWhole) (arg11 : Memref sig .tc .vmem S64x128 .f32) (harg11 : arg11.IsWhole) (arg12 : Memref sig .tc .vmem S10x32x512 .bf16) (harg12 : arg12.IsWhole) (arg13 : Memref sig .tc .vmem S10x32x64 .bf16) (harg13 : arg13.IsWhole) (arg14 : Memref sig .tc .vmem S1024x128 .f32) (harg14 : arg14.IsWhole) (arg15 : Memref sig .tc .vmem S4x512x128 .f32) (harg15 : arg15.IsWhole) (arg16 : Memref sig .tc .vmem S512x128 .f32) (harg16 : arg16.IsWhole) (x0 : Vec F S16x1536 .bf16) (x1 : Vec F S4x16x128 .f32) (x2 : Vec F S16x128 .f32) (x3 : Vec F S12x64 .f32) (x4 : Vec F S12x48 .f32) (x5 : Vec F S1536x1024 .fp8e4m3) (x6 : Vec F S1536x768 .fp8e4m3) (x7 : Vec F S4x128x512 .bf16) (y8 : Vec F S10x64x128 .fp8e4m3) (y9 : Vec F S10x64 .f32) (z : Vec F S1024x128 .f32) (hc : ¬k0_cond1 i = 1#1) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare z ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (zStep i (zVal i x0 x3 x5) z) ∗ (∃ d, owns (c : Thread nD τ) arg15 fullShare d) ∗ (∃ d, owns (c : Thread nD τ) arg16 fullShare d)) -∗ K ⟨⟩))
          ⊢ wp frame (wpE (defs₀ (F := F)) Variants.none c none) E (cc0_proj_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_proj_b_eq_skeleton]; unfold cc0_proj_b_skel
    rw [wp_bind]
    iintro ⟨H0, H1, H2, H3, H4, H5, H6, H7, H8, H9, H10, H11, H12, H14, H15, H16, Hk⟩
    iapply ((run_project c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x5 x6 x7 z) E _)
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H14]; · iexact H14
    isplitl [H15]; · iexact H15
    isplitl [H16]; · iexact H16
    iintro %r ⟨H0, H1, H3, H4, H5, H6, H7, H14, H15, H16⟩
    obtain ⟨r0, r1, r2, r3⟩ := r
    generalize hz : (zStep i (zVal i x0 x3 x5) z) = z'
    irevert Hk H0 H1 H2 H3 H4 H5 H6 H7 H8 H9 H10 H11 H12 H14 H15 H16

    unfold owns
    iintro Hk ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ ⟨%d10, %f10, -, H10⟩ ⟨%d11, %f11, -, H11⟩ ⟨%d12, %f12, -, H12⟩ ⟨%f14, %hf14, H14⟩ ⟨%d15, %f15, -, H15⟩ ⟨%d16, %f16, -, H16⟩
    subst hf0 hf1 hf2 hf3 hf4 hf5 hf6 hf7 hf8 hf9

    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H14]
    · iexists _; isplitr; swap; · iexact H14
      ipureintro; exact hf14
    isplitl [H15]
    · iexists _; iexists _; isplitr; swap; · iexact H15
      ipureintro; rfl
    iexists _; iexists _; isplitr; swap; · iexact H16
    ipureintro; rfl

set_option maxHeartbeats 8000000 in
/-- The last grid step: it projects onto its heads, then finishes every batch row. -/
theorem run_last (c : Dev nD) (i : grid0.Coords) (arg1 : Memref sig .tc .vmem S16x1536 .bf16) (harg1 : arg1.IsWhole) (arg2 : Memref sig .tc .vmem S4x16x128 .f32) (harg2 : arg2.IsWhole) (arg3 : Memref sig .tc .vmem S16x128 .f32) (harg3 : arg3.IsWhole) (arg4 : Memref sig .tc .smem S12x64 .f32) (harg4 : arg4.IsWhole) (arg5 : Memref sig .tc .smem S12x48 .f32) (harg5 : arg5.IsWhole) (arg6 : Memref sig .tc .vmem S1536x1024 .fp8e4m3) (harg6 : arg6.IsWhole) (arg7 : Memref sig .tc .vmem S1536x768 .fp8e4m3) (harg7 : arg7.IsWhole) (arg8 : Memref sig .tc .vmem S4x128x512 .bf16) (harg8 : arg8.IsWhole) (arg9 : Memref sig .tc .vmem S10x64x128 .fp8e4m3) (harg9 : arg9.IsWhole) (arg10 : Memref sig .tc .vmem S10x64 .f32) (harg10 : arg10.IsWhole) (arg11 : Memref sig .tc .vmem S64x128 .f32) (harg11 : arg11.IsWhole) (arg12 : Memref sig .tc .vmem S10x32x512 .bf16) (harg12 : arg12.IsWhole) (arg13 : Memref sig .tc .vmem S10x32x64 .bf16) (harg13 : arg13.IsWhole) (arg14 : Memref sig .tc .vmem S1024x128 .f32) (harg14 : arg14.IsWhole) (arg15 : Memref sig .tc .vmem S4x512x128 .f32) (harg15 : arg15.IsWhole) (arg16 : Memref sig .tc .vmem S512x128 .f32) (harg16 : arg16.IsWhole) (x0 : Vec F S16x1536 .bf16) (x1 : Vec F S4x16x128 .f32) (x2 : Vec F S16x128 .f32) (x3 : Vec F S12x64 .f32) (x4 : Vec F S12x48 .f32) (x5 : Vec F S1536x1024 .fp8e4m3) (x6 : Vec F S1536x768 .fp8e4m3) (x7 : Vec F S4x128x512 .bf16) (z : Vec F S1024x128 .f32) (hc : k0_cond1 i = 1#1) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare z ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (codesOut x1 (zStep i (zVal i x0 x3 x5) z)) ∗ owns (c : Thread nD τ) arg10 fullShare (scalesOut x1 (zStep i (zVal i x0 x3 x5) z)) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (zStep i (zVal i x0 x3 x5) z) ∗ (∃ d, owns (c : Thread nD τ) arg15 fullShare d) ∗ (∃ d, owns (c : Thread nD τ) arg16 fullShare d)) -∗ K ⟨⟩))
          ⊢ wp frame (wpE (defs₀ (F := F)) Variants.none c none) E (cc0_proj_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_proj_b_eq_skeleton]; unfold cc0_proj_b_skel
    rw [wp_bind]
    iintro ⟨H0, H1, H2, H3, H4, H5, H6, H7, H8, H9, H10, H11, H12, H14, H15, H16, Hk⟩
    iapply ((run_project c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x3 x4 x5 x6 x7 z) E _)
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H14]; · iexact H14
    isplitl [H15]; · iexact H15
    isplitl [H16]; · iexact H16
    iintro %r ⟨H0, H1, H3, H4, H5, H6, H7, H14, H15, H16⟩
    obtain ⟨r0, r1, r2, r3⟩ := r
    generalize hz : (zStep i (zVal i x0 x3 x5) z) = z'
    irevert Hk H0 H1 H2 H3 H4 H5 H6 H7 H8 H9 H10 H11 H12 H14 H15 H16
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro Hk ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%d8, %f8, -, H8⟩ ⟨%d9, %f9, -, H9⟩ ⟨%d10, %f10, -, H10⟩ ⟨%d11, %f11, -, H11⟩ ⟨%d12, %f12, -, H12⟩ ⟨%f14, %hf14, H14⟩ ⟨%d15, %f15, -, H15⟩ ⟨%d16, %f16, -, H16⟩
    subst hf0 hf1 hf2 hf3 hf4 hf5 hf6 hf7
    subst hf14
    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro
      exact read_codes _ _ _ _ _ _ _ _ _ _ _ _
    isplitl [H9]
    · iexists _; isplitr; swap; · iexact H9
      ipureintro
      exact read_scales _ _ _
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H14]
    · iexists _; isplitr; swap; · iexact H14
      ipureintro; rfl
    isplitl [H15]
    · iexists _; iexists _; isplitr; swap; · iexact H15
      ipureintro; rfl
    iexists _; iexists _; isplitr; swap; · iexact H16
    ipureintro; rfl

end Cert.QueriesIdeal.Hand

end
-- ==== Proof.QueriesIdealRuns.lean ====
module

public import proofs.«01_k».proof.Proof.Gen.QueriesIdeal.Launch
public import proofs.«01_k».proof.Proof.Gen.QueriesIdeal.Skeleton
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Tactic
public import Idealize.ShloMosaic.Lib.WordCmp
public import Idealize.ShloMosaic.Lib.Pointwise.Index
public import proofs.«01_k».proof.Proof.QueriesIdealBody

/-!
# The query projection's pipeline: its arrays, its blocks, and the rows gathered step by step

The buffers when the pipeline is entered (`V`), the windows' blocks (`iblk`), the projected queries (`zFull`), and which of
their rows stand in scratch before each grid step (`Gathered`).
-/

@[expose] public section

set_option maxRecDepth 16384

noncomputable section

namespace Cert.QueriesIdeal.Hand

open Cert.QueriesIdeal Cert.QueriesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after ([hostOps0, hostOps0_1].flatten) (fun b => m (c, b)) b

theorem hostOps_fresh : ([hostOps0, hostOps0_1] : List (List (HloOp τ sig (Elt F)))).Forall fun ops => ops.Forall fun op => op.fresh = ∅ := by
  simp only [List.Forall]; repeat' constructor

set_option maxHeartbeats 800000 in
/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] ⟨hostOps0_sub, hostOps0_1_sub⟩ hostOps_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The grid -/

theorem coords_val : ∀ t : Fin grid0.N, (grid0.coords t 0).val = t.val := by decide +kernel

/-- The rotation runs at the last point only. -/
theorem cond_iff : ∀ t : Fin grid0.N, k0_cond1 (grid0.coords t) = 1#1 ↔ t.val = 7 := by decide +kernel

theorem flush0_8 : ∀ t : Fin cfg0.N, t.val ≠ 7 → (cfg0.win 8).flush t = false :=
  (by decide +kernel : ∀ t : Fin grid0.N, t.val ≠ 7 → Pipeline.Window.flushOf grid0 true cc0_transform_8 t = false)
theorem flush0_9 : ∀ t : Fin cfg0.N, t.val ≠ 7 → (cfg0.win 9).flush t = false :=
  (by decide +kernel : ∀ t : Fin grid0.N, t.val ≠ 7 → Pipeline.Window.flushOf grid0 true cc0_transform_9 t = false)

/-! ## The projected queries -/

/-- The grid point that projects onto head `8 j + r`. -/
def pt (j : Fin 8) : Fin cfg0.N := ⟨j.val, by show j.val < grid0.N; rw [N_0]; exact j.isLt⟩

/-- The eight heads grid point `t` projects onto. -/
def zAt (c : Dev nD) (t : Fin cfg0.N) : Fin 8 → FVec F S16x128 .f32 :=
  zVal (grid0.coords t) (iblk m c 0 t) (iblk m c 3 t) (iblk m c 5 t)

/-- All the projected queries: row `64 b + h` is batch row `b`'s head `h`. -/
def zFull (c : Dev nD) : Vec F S1024x128 .f32 := fun y =>
  zAt m c (pt ⟨(y 0).val % 64 / 8, by omega⟩) ⟨(y 0).val % 8, Nat.mod_lt _ (by omega)⟩
    (ix2 (⟨(y 0).val / 64, by have h : (y 0).val < 1024 := (y 0).isLt; omega⟩ : Fin 16) (y 1 : Fin 128))

/-- The rows of the first `t` steps stand in place. -/
def Gathered (c : Dev nD) (t : ℕ) (Z : Vec F S1024x128 .f32) : Prop := ∀ y, (y 0).val % 64 / 8 < t → Z y = zFull m c y

theorem gathered_zero (c : Dev nD) (Z) : Gathered m c 0 Z := fun _ h => absurd h (Nat.not_lt_zero _)

/-- A grid step puts its rows in place. -/
theorem gathered_step (c : Dev nD) (t : Fin cfg0.N) (Z : Vec F S1024x128 .f32) (h : Gathered m c t.val Z) :
    Gathered m c (t.val + 1) (zStep (grid0.coords t) (zAt m c t) Z) := by
  intro y hy
  unfold zStep
  have hc := coords_val t
  by_cases e : (y 0).val % 64 / 8 = (grid0.coords t 0).val
  · rw [if_pos e]
    unfold zFull
    have ht : pt ⟨(y 0).val % 64 / 8, by omega⟩ = t := Fin.ext (e.trans hc)
    rw [ht]
  · rw [if_neg e]
    exact h y (by omega)

/-- After the last step all stand in place. -/
theorem gathered_last (c : Dev nD) (Z : Vec F S1024x128 .f32) (h : Gathered m c 8 Z) : Z = zFull m c :=
  funext fun y => h y (by omega)

/-! ## The body's operands -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)

/-- The kernel body at point `t`, on what the pipeline calls it with. -/
abbrev bodyAt0 (t : Fin cfg0.N) : Prog (TpuEff nD τ sig (Elt F) Λ₀ .tc) PUnit :=
  cc0_proj_b (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _)

end Cert.QueriesIdeal.Hand

end
-- ==== Proof.QueriesIdealFrame.lean ====
module

public import proofs.«01_k».proof.Proof.QueriesIdealRuns

/-!
# The query projection runs to the end, and what it leaves

Every grid step projects onto eight heads and keeps their rows in scratch; the last one rotates, transforms and quantises the
rows of each batch row. So the two index-query arrays end at `codesOut` and `scalesOut` of all the projected queries. The other
three outputs are left unnamed. `frame`: the program terminates with its arguments unchanged.
-/

@[expose] public section

set_option maxRecDepth 16384

noncomputable section

namespace Cert.QueriesIdeal.Hand

open Cert.QueriesIdeal Cert.QueriesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body keeps between grid points: the rows gathered so far, two more scratch buffers and the generator register. -/
def PhiS (c : Dev nD) (n : ℕ) : sProp 𝕄 :=
  iprop((∃ Z, ⌜Gathered m c n Z⌝ ∗ owns (c : Thread nD τ) (Memref.whole cc0_scratch0) fullShare Z)
    ∗ (∃ d, owns (c : Thread nD τ) (Memref.whole cc0_scratch1) fullShare d) ∗ (∃ d, owns (c : Thread nD τ) (Memref.whole cc0_scratch2) fullShare d)
    ∗ ∃ r, prngReg c r)

/-- The outputs nothing is said of. -/
def fgt : Fin cfg0.W → Bool := fun | 10 => true | 11 => true | 12 => true | _ => false

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codesOut (iblk m c 1 t) (zFull m c)
    | ⟨9, _⟩ => scalesOut (iblk m c 1 t) (zFull m c)
    | ⟨10, _⟩ => Dat.unnamed (Val := Elt F) (cfg := cfg0) 10 t
    | ⟨11, _⟩ => Dat.unnamed (Val := Elt F) (cfg := cfg0) 11 t
    | ⟨12, _⟩ => Dat.unnamed (Val := Elt F) (cfg := cfg0) 12 t
  Φ n := PhiS m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]; try rfl
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from rfl, after0_0]
theorem after0_1 (c : Dev nD) (t : Fin cfg0.N) : (dats m 0 c).after 1 t = iblk m c 1 t := by dsimp only [dats]; try rfl
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from rfl, after0_1]
theorem after0_2 (c : Dev nD) (t : Fin cfg0.N) : (dats m 0 c).after 2 t = iblk m c 2 t := by dsimp only [dats]; try rfl
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from rfl, after0_2]
theorem after0_3 (c : Dev nD) (t : Fin cfg0.N) : (dats m 0 c).after 3 t = iblk m c 3 t := by dsimp only [dats]; try rfl
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from rfl, after0_3]
theorem after0_4 (c : Dev nD) (t : Fin cfg0.N) : (dats m 0 c).after 4 t = iblk m c 4 t := by dsimp only [dats]; try rfl
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from rfl, after0_4]
theorem after0_5 (c : Dev nD) (t : Fin cfg0.N) : (dats m 0 c).after 5 t = iblk m c 5 t := by dsimp only [dats]; try rfl
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from rfl, after0_5]
theorem after0_6 (c : Dev nD) (t : Fin cfg0.N) : (dats m 0 c).after 6 t = iblk m c 6 t := by dsimp only [dats]; try rfl
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from rfl, after0_6]
theorem after0_7 (c : Dev nD) (t : Fin cfg0.N) : (dats m 0 c).after 7 t = iblk m c 7 t := by dsimp only [dats]; try rfl
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from rfl, after0_7]
theorem after0_8 (c : Dev nD) (t : Fin cfg0.N) : (dats m 0 c).after 8 t = codesOut (iblk m c 1 t) (zFull m c) := by dsimp only [dats]; try rfl
theorem leaves0_8_idle (c : Dev nD) (t : Fin cfg0.N) (h : ¬k0_cond1 (grid0.coords t) = 1#1) :
    (dats m 0 c).leavesExact 8 t = iprop(∃ d, owns (c : Thread nD τ) (ms0_8 t) fullShare ((dats m 0 c).before 8 t d)) :=
  (dats m 0 c).leavesExact_idle 8 t (by show (!(k0_cond1 (grid0.coords t) == 1#1)) = true; simp [h]) (flush0_8 t fun e => h ((cond_iff t).2 e))
theorem leaves0_8_live (c : Dev nD) (t : Fin cfg0.N) (h : k0_cond1 (grid0.coords t) = 1#1) :
    (dats m 0 c).leavesExact 8 t = owns (c : Thread nD τ) (ms0_8 t) fullShare (codesOut (iblk m c 1 t) (zFull m c)) := by
  rw [← after0_8]
  unfold Dat.leavesExact
  rw [show cfg0.idle 8 (cfg0.grid.coords t) = false from (by show (!(k0_cond1 (grid0.coords t) == 1#1)) = false; simp [h])]
theorem after0_9 (c : Dev nD) (t : Fin cfg0.N) : (dats m 0 c).after 9 t = scalesOut (iblk m c 1 t) (zFull m c) := by dsimp only [dats]; try rfl
theorem leaves0_9_idle (c : Dev nD) (t : Fin cfg0.N) (h : ¬k0_cond1 (grid0.coords t) = 1#1) :
    (dats m 0 c).leavesExact 9 t = iprop(∃ d, owns (c : Thread nD τ) (ms0_9 t) fullShare ((dats m 0 c).before 9 t d)) :=
  (dats m 0 c).leavesExact_idle 9 t (by show (!(k0_cond1 (grid0.coords t) == 1#1)) = true; simp [h]) (flush0_9 t fun e => h ((cond_iff t).2 e))
theorem leaves0_9_live (c : Dev nD) (t : Fin cfg0.N) (h : k0_cond1 (grid0.coords t) = 1#1) :
    (dats m 0 c).leavesExact 9 t = owns (c : Thread nD τ) (ms0_9 t) fullShare (scalesOut (iblk m c 1 t) (zFull m c)) := by
  rw [← after0_9]
  unfold Dat.leavesExact
  rw [show cfg0.idle 9 (cfg0.grid.coords t) = false from (by show (!(k0_cond1 (grid0.coords t) == 1#1)) = false; simp [h])]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ X, owns (c : Thread nD τ) (ms0_10 t) fullShare X)
    ∗ (∃ X, owns (c : Thread nD τ) (ms0_11 t) fullShare X)
    ∗ (∃ X, owns (c : Thread nD τ) (ms0_12 t) fullShare X))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ X, owns (c : Thread nD τ) (ms0_10 t) fullShare X)
    ∗ (∃ X, owns (c : Thread nD τ) (ms0_11 t) fullShare X)
    ∗ (∃ X, owns (c : Thread nD τ) (ms0_12 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl]
  rw [leaves0_0, leaves0_1, leaves0_2, leaves0_3, leaves0_4, leaves0_5, leaves0_6, leaves0_7]
  unfold PhiS
  by_cases h0 : k0_cond1 (grid0.coords t) = 1#1
  · rw [leaves0_8_live m c t h0, leaves0_9_live m c t h0]
    iintro ⟨⟨⟨%Z, %hZ, HZ⟩, HS1, HS2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hZ' := gathered_step m c t Z hZ
    have ht : t.val = 7 := (cond_iff t).1 h0
    have hF : zStep (grid0.coords t) (zAt m c t) Z = zFull m c := gathered_last m c _ (by rw [ht] at hZ'; exact hZ')
    iapply ((run_last c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Z h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HZ]; · iexact HZ
    isplitl [HS1]; · iexact HS1
    isplitl [HS2]; · iexact HS2
    iintro ⟨H0, H1, H2, H3, H4, H5, H6, H7, H8, H9, H10, H11, H12, HZ, HS1, HS2⟩
    isplitl [HZ HS1 HS2 HP]
    · isplitl [HZ]
      · iexists _; isplitr; swap; · iexact HZ
        ipureintro; exact hZ'
      isplitl [HS1]; · iexact HS1
      isplitl [HS2]; · iexact HS2
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · rw [← hF]; iexact H8
    isplitl [H9]
    · rw [← hF]; iexact H9
    isplitl [H10]; · iexact H10
    isplitl [H11]; · iexact H11
    iexact H12
  · rw [leaves0_8_idle m c t h0, leaves0_9_idle m c t h0]
    iintro ⟨⟨⟨%Z, %hZ, HZ⟩, HS1, HS2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hZ' := gathered_step m c t Z hZ
    iapply ((run_step c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 8 t d8) ((dats m 0 c).before 9 t d9) Z h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HZ]; · iexact HZ
    isplitl [HS1]; · iexact HS1
    isplitl [HS2]; · iexact HS2
    iintro ⟨H0, H1, H2, H3, H4, H5, H6, H7, H8, H9, H10, H11, H12, HZ, HS1, HS2⟩
    isplitl [HZ HS1 HS2 HP]
    · isplitl [HZ]
      · iexists _; isplitr; swap; · iexact HZ
        ipureintro; exact hZ'
      isplitl [HS1]; · iexact HS1
      isplitl [HS2]; · iexact HS2
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iexact H12

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

theorem phi_in (c : Dev nD) : Pipeline.ΦA spec0 c ⊢ PhiS m c 0 := by
  unfold Pipeline.ΦA PhiS
  rw [scopedRest0_eq]
  simp only [owns_whole]
  iintro ⟨⟨⟨%Z, HZ⟩, H1, H2⟩, HP⟩
  isplitl [HZ]
  · iexists Z; isplitr; swap; · iexact HZ
    ipureintro; exact gathered_zero m c Z
  isplitl [H1]; · iexact H1
  isplitl [H2]; · iexact H2
  iexact HP

theorem phi_out (c : Dev nD) (n : ℕ) : PhiS m c n ⊢ Pipeline.ΦA spec0 c := by
  unfold Pipeline.ΦA PhiS
  rw [scopedRest0_eq]
  simp only [owns_whole]
  iintro ⟨⟨%Z, -, HZ⟩, H1, H2, HP⟩
  isplitl [HZ H1 H2]
  · isplitl [HZ]; · iexists Z; iexact HZ
    isplitl [H1]; · iexact H1
    iexact H2
  iexact HP

set_option backward.isDefEq.respectTransparency.types false in
set_option maxHeartbeats 800000 in
/-- The run: every weakly fair execution of @main terminates with each named array at what the proof data say, every other
    buffer as the pipeline found it, and every semaphore counter at zero. -/
theorem run_main_quiescent : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

/-- What a run with forgotten outputs says of an array not forgotten, stated at a variable configuration. -/
theorem arr_named {cfg₁ : Cfg sig Λ₀} (dat : (c : Dev nD) → Dat τ (Elt F) Unit ℕ (UR sig nD τ) ℕ cfg₁ c) {fg : Fin cfg₁.W → Bool}
    {V : (c : Dev nD) → (b : Ref sig .tc) → Buf (Elt F) ((c.tc : Thread nD τ).loc b)} {r : PUnit × MemSt nD τ sig (Elt F)}
    (h : Pipeline.RDat.FramePost cfg₁ (fun c => (dat c).toRForget fg) V r) (c : Dev nD) (w : Fin cfg₁.W) (hf : fg w = false) :
    r.2.mem ((cfg₁.spec w).arr.view.loc (c.tc : Thread nD τ)) = (dat c).arrAt w cfg₁.N :=
  ((dat c).toRForget_arrAt_iff hf _ _).1 ((h c).1 w)

/-- And of an input's array. -/
theorem arr_input {cfg₁ : Cfg sig Λ₀} (dat : (c : Dev nD) → Dat τ (Elt F) Unit ℕ (UR sig nD τ) ℕ cfg₁ c) {fg : Fin cfg₁.W → Bool}
    {V : (c : Dev nD) → (b : Ref sig .tc) → Buf (Elt F) ((c.tc : Thread nD τ).loc b)} {r : PUnit × MemSt nD τ sig (Elt F)}
    (h : Pipeline.RDat.FramePost cfg₁ (fun c => (dat c).toRForget fg) V r) (c : Dev nD) (w : Fin cfg₁.W) (hin : (cfg₁.win w).isOut = false) :
    r.2.mem ((cfg₁.spec w).arr.view.loc (c.tc : Thread nD τ)) = (dat c).A w :=
  Pipeline.RDat.FramePost.arr_in h c w hin

/-- The final state's arrays: the arguments as launched, and the two index-query arrays at what the proof data compute. -/
theorem run_arrays : θ_run defs (onTc (τ := τ) (main (F := F))) ⟨m, fun _ => 0, ρ⟩ (fun r => (∀ c : Dev nD,
      r.2.mem ((c.tc : Thread nD τ).loc main_v21_0) = (dats m 0 c).arrAt 8 grid0.N
      ∧ r.2.mem ((c.tc : Thread nD τ).loc main_v21_1) = (dats m 0 c).arrAt 9 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
      arr_named (dats m 0) h.1 c 8 rfl,
      arr_named (dats m 0) h.1 c 9 rfl,
      (arr_input (dats m 0) h.1 c 0 rfl).trans ((A_eq m c 0).trans (V_main_arg0 m c)),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      (arr_input (dats m 0) h.1 c 2 rfl).trans ((A_eq m c 2).trans (V_main_arg3 m c)),
      (arr_input (dats m 0) h.1 c 3 rfl).trans ((A_eq m c 3).trans (V_main_arg4 m c)),
      (arr_input (dats m 0) h.1 c 4 rfl).trans ((A_eq m c 4).trans (V_main_arg5 m c)),
      (arr_input (dats m 0) h.1 c 5 rfl).trans ((A_eq m c 5).trans (V_main_arg6 m c)),
      (arr_input (dats m 0) h.1 c 6 rfl).trans ((A_eq m c 6).trans (V_main_arg7 m c)),
      (arr_input (dats m 0) h.1 c 7 rfl).trans ((A_eq m c 7).trans (V_main_arg8 m c))⟩, h.2⟩) (run_main_quiescent m ρ)

/-- THE FRAME: the program runs to the end, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2.2, h.2⟩) (run_arrays m ρ)

end Cert.QueriesIdeal.Hand

end
-- ==== Proof.QuerySpec.lean ====
module

public import Idealize.ShloMosaic.PureOps.Ideal
public import Idealize.ShloMosaic.Lib.Pointwise
public import Idealize.ShloMosaic.Lib.Pointwise.Index

/-!
# The index queries as the mathematics states them, over the extended reals

One head of one batch row: the projection with block-scaled weights, the rotation of the leading 64 dimensions, the normalised
Hadamard transform, and the quantisation by the head's own scale.
-/

@[expose] public section

noncomputable section

namespace Cert.IndexQuery

open Idealize.ShloMosaic

/-- The projection: row `k`'s weight is scaled by its block's scale. -/
def proj (a w : Fin 1536 → EReal) (s : Fin 12 → EReal) : EReal := ∑ k : Fin 1536, a k * (w k * s ⟨k.val / 128, by omega⟩)

/-- The rotation of the leading 64 dimensions in halves. -/
def rope (z : Fin 128 → EReal) (co si : Fin 32 → EReal) (d : Fin 128) : EReal :=
  if h : d.val < 32 then z d * co ⟨d.val, h⟩ - z ⟨d.val + 32, by omega⟩ * si ⟨d.val, h⟩
  else if h' : d.val < 64 then z ⟨d.val - 32, by omega⟩ * si ⟨d.val - 32, by omega⟩ + z d * co ⟨d.val - 32, by omega⟩
  else z d

/-- Whether the two numbers have an odd number of common bits. -/
def odd7 (i j : Fin 128) : Bool :=
  (i.val &&& j.val).testBit 0 ^^ (i.val &&& j.val).testBit 1 ^^ (i.val &&& j.val).testBit 2 ^^ (i.val &&& j.val).testBit 3
    ^^ (i.val &&& j.val).testBit 4 ^^ (i.val &&& j.val).testBit 5 ^^ (i.val &&& j.val).testBit 6

/-- The normalised Hadamard matrix: the sign is the parity of the common bits. -/
def had (i j : Fin 128) : EReal := (if odd7 i j then -1 else 1) * Ideal.ofBits .f32 0x3DB504F3#32

/-- The query after rotation and transform. -/
def turn (z : Fin 128 → EReal) (co si : Fin 32 → EReal) (e : Fin 128) : EReal := ∑ d : Fin 128, rope z co si d * had d e

/-- The largest magnitude. -/
def top (q : Fin 128 → EReal) : EReal :=
  Finset.fold max (Ideal.ofBits .f32 0xFF800000#32) (fun e => FloatOps.absf (F := Ideal) (φ := .f32) (q e)) Finset.univ

/-- The head's scale. -/
def scale (q : Fin 128 → EReal) : EReal := if top q = 0 then 1 else Ideal.div (top q) (Ideal.ofBits .f32 0x43E00000#32)

/-- The code of one element. -/
def code (q : Fin 128 → EReal) (e : Fin 128) : EReal :=
  min (Ideal.ofBits .f32 0x43E00000#32) (max (Ideal.ofBits .f32 0xC3E00000#32) (Ideal.div (q e) (scale q)))

/-- Queries of equal arguments are equal. -/
theorem query_congr {a a' : Fin 1536 → EReal} {w w' : Fin 128 → Fin 1536 → EReal} {s s' : Fin 12 → EReal} {co co' si si' : Fin 32 → EReal}
    (ha : ∀ k, a' k = a k) (hw : ∀ d k, w' d k = w d k) (hs : ∀ i, s' i = s i) (hc : ∀ d, co' d = co d) (hsi : ∀ d, si' d = si d) :
    turn (fun d => proj a' (w' d) s') co' si' = turn (fun d => proj a (w d) s) co si := by
  have ew : w' = w := funext fun d => funext (hw d)
  rw [funext ha, ew, funext hs, funext hc, funext hsi]

end Cert.IndexQuery

end
-- ==== Proof.QueriesValue.lean ====
module

public import proofs.«01_k».proof.Proof.QueriesIdealFrame
public import proofs.«01_k».proof.Proof.QuerySpec
public import Idealize.ShloMosaic.Lib.Pipeline.ValueKit
public import Idealize.ShloMosaic.Lib.Pipeline.ValueKit.Tiles
public import Idealize.ShloMosaic.Lib.StableHlo.ReadAt

/-!
# The kernel's queries, element by element, over the extended reals
-/

@[expose] public section

set_option maxRecDepth 16384

noncomputable section

namespace Cert.QueriesIdeal.Value

open Cert.QueriesIdeal Cert.QueriesIdeal.Gen Cert.QueriesIdeal.Hand Cert.IndexQuery
open Idealize.ShloMosaic Idealize.ShloMosaic.TcCoe

set_option maxRecDepth 100000 in
/-- The kernel's sign matrix. -/
theorem pay2_apply (i j : Fin 128) : (k0_pay2 (F := Ideal)) (ix2 i j) = had i j := by
  pointwise [k0_pay2]
  unfold had
  congr 1
  have key : ∀ i j : Fin 128, (IntOp.subi (1#32)
          (IntOp.muli (2#32)
            (IntOp.andi
              (IntOp.xori
                (IntOp.xori
                  (IntOp.xori (IntOp.andi (BitVec.ofNat 32 i.val) (BitVec.ofNat 32 j.val))
                    (IntOp.shrui ArithUnit.vector (IntOp.andi (BitVec.ofNat 32 i.val) (BitVec.ofNat 32 j.val)) 4#32))
                  (IntOp.shrui ArithUnit.vector
                    (IntOp.xori (IntOp.andi (BitVec.ofNat 32 i.val) (BitVec.ofNat 32 j.val))
                      (IntOp.shrui ArithUnit.vector (IntOp.andi (BitVec.ofNat 32 i.val) (BitVec.ofNat 32 j.val)) 4#32))
                    2#32))
                (IntOp.shrui ArithUnit.vector
                  (IntOp.xori
                    (IntOp.xori (IntOp.andi (BitVec.ofNat 32 i.val) (BitVec.ofNat 32 j.val))
                      (IntOp.shrui ArithUnit.vector (IntOp.andi (BitVec.ofNat 32 i.val) (BitVec.ofNat 32 j.val)) 4#32))
                    (IntOp.shrui ArithUnit.vector
                      (IntOp.xori (IntOp.andi (BitVec.ofNat 32 i.val) (BitVec.ofNat 32 j.val))
                        (IntOp.shrui ArithUnit.vector (IntOp.andi (BitVec.ofNat 32 i.val) (BitVec.ofNat 32 j.val)) 4#32))
                      2#32))
                  1#32))
              1#32))) = if odd7 i j then BitVec.ofInt 32 (-1) else 1#32 := by decide +kernel
  rw [key]
  split
  · show ((((BitVec.ofInt 32 (-1)).toInt : ℤ) : ℝ) : EReal) = -1
    rw [show (BitVec.ofInt 32 (-1)).toInt = -1 from by decide]
    norm_num
  · show ((((1#32 : BitVec 32).toInt : ℤ) : ℝ) : EReal) = 1
    rw [show (1#32 : BitVec 32).toInt = 1 from by decide]
    norm_num

theorem turned_apply (x1 : Vec Ideal S4x16x128 .f32) (z : Vec Ideal S1024x128 .f32) (b : Fin 10) (h : Fin 64) (e : Fin 128)
    (co si : Fin 32 → EReal)
    (hc : ∀ d : Fin 128, x1 (ix3 (2 : Fin 4) (⟨b.val, by omega⟩ : Fin 16) d) = if h : d.val < 32 then co ⟨d.val, h⟩ else
        if h' : d.val < 64 then co ⟨d.val - 32, by omega⟩ else 1)
    (hs : ∀ d : Fin 128, x1 (ix3 (3 : Fin 4) (⟨b.val, by omega⟩ : Fin 16) d) = if h : d.val < 32 then - si ⟨d.val, h⟩ else
        if h' : d.val < 64 then si ⟨d.val - 32, by omega⟩ else 0) :
    turned x1 z b (ix2 h e) = turn (fun d => z (ix2 (⟨64 * b.val + h.val, by omega⟩ : Fin 1024) d)) co si e := by
  unfold turned turn
  pointwise [k0_pay4]
  refine Finset.sum_congr rfl fun d _ => ?_
  show (z (ix2 (⟨64 * b.val + h.val, by omega⟩ : Fin 1024) d) * x1 (ix3 (2 : Fin 4) (⟨b.val, by omega⟩ : Fin 16) d)
      + Scalar.select (IntOp.cmpi CmpIPredicate.slt (BitVec.ofNat 32 d.val) 32#32)
          (z (ix2 (⟨64 * b.val + h.val, by omega⟩ : Fin 1024) (⟨(d.val + 128 - 96) % 128, by omega⟩ : Fin 128)))
          (z (ix2 (⟨64 * b.val + h.val, by omega⟩ : Fin 1024) (⟨(d.val + 128 - 32) % 128, by omega⟩ : Fin 128)))
        * x1 (ix3 (3 : Fin 4) (⟨b.val, by omega⟩ : Fin 16) d)) * (k0_pay2 (F := Ideal)) (ix2 d e) = _
  rw [pay2_apply, hc, hs]
  congr 1
  unfold rope
  have hlt : IntOp.cmpi CmpIPredicate.slt (BitVec.ofNat 32 d.val) 32#32 = if d.val < 32 then 1#1 else 0#1 := by
    have : ∀ d : Fin 128, IntOp.cmpi CmpIPredicate.slt (BitVec.ofNat 32 d.val) 32#32 = if d.val < 32 then 1#1 else 0#1 := by
      decide +kernel
    exact this d
  rw [hlt]
  by_cases h1 : d.val < 32
  · simp only [h1, dif_pos, if_true, Scalar.select]
    rw [mul_neg, ← sub_eq_add_neg]
    have e : (⟨(d.val + 128 - 96) % 128, by omega⟩ : Fin 128) = ⟨d.val + 32, by omega⟩ := Fin.ext (by show (d.val + 128 - 96) % 128 = d.val + 32; omega)
    rw [if_pos (show (1#1 : BitVec 1) = 1 from rfl), e]
  · by_cases h2 : d.val < 64
    · simp only [h1, h2, dif_pos, dif_neg, if_false, not_false_eq_true, Scalar.select]
      have e : (⟨(d.val + 128 - 32) % 128, by omega⟩ : Fin 128) = ⟨d.val - 32, by omega⟩ := Fin.ext (by show (d.val + 128 - 32) % 128 = d.val - 32; omega)
      rw [if_neg (show ¬ (0#1 : BitVec 1) = 1 from by decide), e, add_comm]
    · simp only [h1, h2, dif_neg, not_false_eq_true, mul_one, mul_zero, add_zero]

theorem pay5_apply (q : FVec Ideal S64x128 .f32) (h : Fin 64) :
    k0_pay5 q (ix2 h (0 : Fin 1)) = scale fun e => q (ix2 h e) := by
  pointwise [k0_pay5]
  rfl

theorem pay6_apply (q : FVec Ideal S64x128 .f32) (h : Fin 64) (e : Fin 128):
    k0_pay6 q (ix3 (0 : Fin 1) h e) = code (fun e => q (ix2 h e)) e := by
  pointwise [k0_pay6]
  rw [pay5_apply]
  rfl

theorem pay116_apply (q : FVec Ideal S64x128 .f32) (b : Fin 10) (h : Fin 64) :
    k0_pay116 q (ix2 b h) = q (ix2 h ⟨b.val, by omega⟩) := by
  pointwise [k0_pay116]

theorem codesOut_apply (x1 : Vec Ideal S4x16x128 .f32) (z : Vec Ideal S1024x128 .f32) (b : Fin 10) (h : Fin 64) (e : Fin 128) :
    codesOut x1 z (ix3 b h e) = code (fun e => turned x1 z b (ix2 h e)) e := by
  unfold codesOut
  rw [← pay6_apply]
  fin_cases b <;> rfl

theorem colStep_apply (n : ℕ) (hn : n < 10) (v q : FVec Ideal S64x128 .f32) (h : Fin 64) (e : Fin 128) :
    colStep (BitVec.ofNat 32 n) v q (ix2 h e) = if e.val = n then scale (fun e => q (ix2 h e)) else v (ix2 h e) := by
  unfold colStep
  pointwise
  rw [pay5_apply]
  have key : ∀ (n : Fin 10) (e : Fin 128), IntOp.cmpi CmpIPredicate.eq (BitVec.ofNat 32 e.val) (BitVec.ofNat 32 n.val) = if e.val = n.val then 1#1 else 0#1 := by
    decide +kernel
  rw [key ⟨n, hn⟩ e]
  show Scalar.select (if e.val = n then 1#1 else 0#1) _ _ = _
  by_cases he : e.val = n
  · rw [if_pos he, if_pos he]
    exact if_pos rfl
  · rw [if_neg he, if_neg he]
    exact if_neg (by decide)

theorem cols_apply (x1 : Vec Ideal S4x16x128 .f32) (z : Vec Ideal S1024x128 .f32) (b : Fin 10) (h : Fin 64) :
    cols x1 z (ix2 h (⟨b.val, by omega⟩ : Fin 128)) = scale (fun e => turned x1 z b (ix2 h e)) := by
  unfold cols
  have hs := fun v q e => colStep_apply 0 (by decide) v q h e
  rw [colStep_apply 9 (by decide), colStep_apply 8 (by decide), colStep_apply 7 (by decide), colStep_apply 6 (by decide), colStep_apply 5 (by decide), colStep_apply 4 (by decide), colStep_apply 3 (by decide), colStep_apply 2 (by decide), colStep_apply 1 (by decide), colStep_apply 0 (by decide)]
  fin_cases b <;> rfl

theorem scalesOut_apply (x1 : Vec Ideal S4x16x128 .f32) (z : Vec Ideal S1024x128 .f32) (b : Fin 10) (h : Fin 64) :
    scalesOut x1 z (ix2 b h) = scale (fun e => turned x1 z b (ix2 h e)) := by
  unfold scalesOut
  rw [pay116_apply, cols_apply]

/-- Twelve column blocks side by side, read at a column. -/
theorem blocks_apply (f : Fin 12 → Fin 128 → EReal) (k : Fin 1536) (P : EReal → Prop)
    (hP : P (f ⟨k.val / 128, by omega⟩ ⟨k.val % 128, by omega⟩)) (i : Fin 12) (r : Fin 128) (h : k.val = 128 * i.val + r.val) : P (f i r) := by
  have e1 : (⟨k.val / 128, by omega⟩ : Fin 12) = i := Fin.ext (by show k.val / 128 = i.val; omega)
  have e2 : (⟨k.val % 128, by omega⟩ : Fin 128) = r := Fin.ext (by show k.val % 128 = r.val; omega)
  rwa [e1, e2] at hP

theorem pay119_apply (a : Fin 12 → Vec Ideal S16x128 .bf16) (s : Fin 12 → Elt Ideal .f32) (b : Fin 16) (k : Fin 1536) :
    k0_pay119 (a 0) (a 1) (a 2) (a 3) (a 4) (a 5) (a 6) (a 7) (a 8) (a 9) (a 10) (a 11) (s 1) (s 2) (s 3) (s 4) (s 5)
          (s 6) (s 7) (s 8) (s 9) (s 10) (s 11) (k0_pay118 (s 0)) (ix2 b k) =
     a ⟨k.val / 128, by omega⟩ (ix2 b (⟨k.val % 128, by omega⟩ : Fin 128)) * s ⟨k.val / 128, by omega⟩ := by
  have hk := k.isLt
  pointwise [k0_pay119, k0_pay118]
  have aux := fun (i : Fin 12) (r : Fin 128) (h : k.val = 128 * i.val + r.val) =>
    blocks_apply (fun i r => a i (ix2 b r) * s i) k
      (fun v => v = a ⟨k.val / 128, by omega⟩ (ix2 b (⟨k.val % 128, by omega⟩ : Fin 128)) * s ⟨k.val / 128, by omega⟩) rfl i r h
  by_cases h0 : k.val < 128
  · rw [dif_pos h0]
    exact aux 0 ⟨k.val, h0⟩ (by show k.val = 128 * 0 + (k.val); omega)
  rw [dif_neg h0]
  by_cases h1 : k.val - 128 < 128
  · rw [dif_pos h1]
    exact aux 1 ⟨k.val - 128, h1⟩ (by show k.val = 128 * 1 + (k.val - 128); omega)
  rw [dif_neg h1]
  by_cases h2 : k.val - 128 - 128 < 128
  · rw [dif_pos h2]
    exact aux 2 ⟨k.val - 128 - 128, h2⟩ (by show k.val = 128 * 2 + (k.val - 128 - 128); omega)
  rw [dif_neg h2]
  by_cases h3 : k.val - 128 - 128 - 128 < 128
  · rw [dif_pos h3]
    exact aux 3 ⟨k.val - 128 - 128 - 128, h3⟩ (by show k.val = 128 * 3 + (k.val - 128 - 128 - 128); omega)
  rw [dif_neg h3]
  by_cases h4 : k.val - 128 - 128 - 128 - 128 < 128
  · rw [dif_pos h4]
    exact aux 4 ⟨k.val - 128 - 128 - 128 - 128, h4⟩ (by show k.val = 128 * 4 + (k.val - 128 - 128 - 128 - 128); omega)
  rw [dif_neg h4]
  by_cases h5 : k.val - 128 - 128 - 128 - 128 - 128 < 128
  · rw [dif_pos h5]
    exact aux 5 ⟨k.val - 128 - 128 - 128 - 128 - 128, h5⟩ (by show k.val = 128 * 5 + (k.val - 128 - 128 - 128 - 128 - 128); omega)
  rw [dif_neg h5]
  by_cases h6 : k.val - 128 - 128 - 128 - 128 - 128 - 128 < 128
  · rw [dif_pos h6]
    exact aux 6 ⟨k.val - 128 - 128 - 128 - 128 - 128 - 128, h6⟩ (by show k.val = 128 * 6 + (k.val - 128 - 128 - 128 - 128 - 128 - 128); omega)
  rw [dif_neg h6]
  by_cases h7 : k.val - 128 - 128 - 128 - 128 - 128 - 128 - 128 < 128
  · rw [dif_pos h7]
    exact aux 7 ⟨k.val - 128 - 128 - 128 - 128 - 128 - 128 - 128, h7⟩ (by show k.val = 128 * 7 + (k.val - 128 - 128 - 128 - 128 - 128 - 128 - 128); omega)
  rw [dif_neg h7]
  by_cases h8 : k.val - 128 - 128 - 128 - 128 - 128 - 128 - 128 - 128 < 128
  · rw [dif_pos h8]
    exact aux 8 ⟨k.val - 128 - 128 - 128 - 128 - 128 - 128 - 128 - 128, h8⟩ (by show k.val = 128 * 8 + (k.val - 128 - 128 - 128 - 128 - 128 - 128 - 128 - 128); omega)
  rw [dif_neg h8]
  by_cases h9 : k.val - 128 - 128 - 128 - 128 - 128 - 128 - 128 - 128 - 128 < 128
  · rw [dif_pos h9]
    exact aux 9 ⟨k.val - 128 - 128 - 128 - 128 - 128 - 128 - 128 - 128 - 128, h9⟩ (by show k.val = 128 * 9 + (k.val - 128 - 128 - 128 - 128 - 128 - 128 - 128 - 128 - 128); omega)
  rw [dif_neg h9]
  by_cases h10 : k.val - 128 - 128 - 128 - 128 - 128 - 128 - 128 - 128 - 128 - 128 < 128
  · rw [dif_pos h10]
    exact aux 10 ⟨k.val - 128 - 128 - 128 - 128 - 128 - 128 - 128 - 128 - 128 - 128, h10⟩ (by show k.val = 128 * 10 + (k.val - 128 - 128 - 128 - 128 - 128 - 128 - 128 - 128 - 128 - 128); omega)
  rw [dif_neg h10]
  exact aux 11 ⟨k.val - 128 - 128 - 128 - 128 - 128 - 128 - 128 - 128 - 128 - 128 - 128, by omega⟩ (by show k.val = 128 * 11 + (k.val - 128 - 128 - 128 - 128 - 128 - 128 - 128 - 128 - 128 - 128 - 128); omega)

theorem zEven_apply (a : Fin 12 → Vec Ideal S16x128 .bf16) (s u : Fin 12 → Elt Ideal .f32) (w : Vec Ideal S1536x256 .fp8e4m3) (b : Fin 16) (n : Fin 128) :
   zEven a s u w (ix2 b n) = proj (fun k => a ⟨k.val / 128, by omega⟩ (ix2 b (⟨k.val % 128, by omega⟩ : Fin 128)))
     (fun k => w (ix2 k (⟨n.val, by omega⟩ : Fin 256))) s := by
  unfold zEven proj
  pointwise [k0_pay130, k0_pay129]
  refine Finset.sum_congr rfl fun k _ => ?_
  rw [pay119_apply, mul_assoc, mul_comm (s _)]

/-- The activations scaled for the odd head. -/
def oddCat (a : Fin 12 → Vec Ideal S16x128 .bf16) (u : Fin 12 → Elt Ideal .f32) : FVec Ideal S16x1536 .bf16 :=
  k0_pay119 (a 0) (a 1) (a 2) (a 3) (a 4) (a 5) (a 6) (a 7) (a 8) (a 9) (a 10) (a 11) (u 1) (u 2) (u 3) (u 4) (u 5)
          (u 6) (u 7) (u 8) (u 9) (u 10) (u 11) (k0_pay118 (u 0))

theorem zOdd_eq (a : Fin 12 → Vec Ideal S16x128 .bf16) (s u : Fin 12 → Elt Ideal .f32) (w : Vec Ideal S1536x256 .fp8e4m3) :
    zOdd a s u w = shapeCast S16x128 (extractStridedSlice S16x128 ![0, 128] (concatenate S16x256 1
      [⟨S16x128, extractStridedSlice S16x128 ![0, 0] (matmul (φ₂ := .fp8e4m3) dot_S32x1536_S1536x256_S32x256_1_0_0_1_n_n none (concatenate S32x1536 0 [⟨S16x1536, oddCat a s⟩, ⟨S16x1536, oddCat a u⟩] concatenates_S16x1536_S16x1536_S32x1536_d0) w (constant S32x256 .f32 0x00000000#32)) slices_S32x256_o0_0_S16x128⟩,
       ⟨S16x128, extractStridedSlice S16x128 ![16, 128] (matmul (φ₂ := .fp8e4m3) dot_S32x1536_S1536x256_S32x256_1_0_0_1_n_n none (concatenate S32x1536 0 [⟨S16x1536, oddCat a s⟩, ⟨S16x1536, oddCat a u⟩] concatenates_S16x1536_S16x1536_S32x1536_d0) w (constant S32x256 .f32 0x00000000#32)) slices_S32x256_o16_128_S16x128⟩] concatenates_S16x128_S16x128_S16x256_d1)
       slices_S16x256_o0_128_S16x128) shapeCasts_S16x128_S16x128 := rfl

theorem zOdd_apply (a : Fin 12 → Vec Ideal S16x128 .bf16) (s u : Fin 12 → Elt Ideal .f32) (w : Vec Ideal S1536x256 .fp8e4m3) (b : Fin 16) (n : Fin 128) :
   zOdd a s u w (ix2 b n) = proj (fun k => a ⟨k.val / 128, by omega⟩ (ix2 b (⟨k.val % 128, by omega⟩ : Fin 128)))
     (fun k => w (ix2 k (⟨128 + n.val, by omega⟩ : Fin 256))) u := by
  rw [zOdd_eq]
  unfold proj
  pointwise
  refine Finset.sum_congr rfl fun k _ => ?_
  unfold oddCat
  rw [pay119_apply, mul_assoc, mul_comm (u _)]

end Cert.QueriesIdeal.Value

end
-- ==== Proof.QueriesArray.lean ====
module

public import proofs.«01_k».proof.Proof.QueriesValue

/-!
# The kernel's result arrays over the extended reals

The projected queries, the rotation table and the two result arrays, element by element, in terms of the argument arrays.
-/

@[expose] public section

set_option maxRecDepth 16384

noncomputable section

namespace Cert.QueriesIdeal.Value

open Cert.QueriesIdeal Cert.QueriesIdeal.Gen Cert.QueriesIdeal.Hand Cert.IndexQuery
open Idealize.ShloMosaic Idealize.ShloMosaic.TcCoe

/-! ## One grid step's projections -/

theorem proj_congr {a a' w w' : Fin 1536 → EReal} {s s' : Fin 12 → EReal} (ha : ∀ k, a k = a' k) (hw : ∀ k, w k = w' k) (hs : ∀ k, s k = s' k) :
    proj a w s = proj a' w' s' := by
  rw [funext ha, funext hw, funext hs]

theorem actBlk_apply (x0 : Vec Ideal S16x1536 .bf16) (b : Fin 16) (k : Fin 1536) :
    actBlk x0 ⟨k.val / 128, by omega⟩ (ix2 b (⟨k.val % 128, by omega⟩ : Fin 128)) = x0 (ix2 b k) := by
  show x0 _ = x0 _
  congr 1
  funext a
  match a with
  | ⟨0, _⟩ => exact Fin.ext (by show 0 + 1 * b.val = b.val; omega)
  | ⟨1, _⟩ => exact Fin.ext (by show 128 * (k.val / 128) + 1 * (k.val % 128) = k.val; omega)

theorem wBlk_apply (x5 : Vec Ideal S1536x1024 .fp8e4m3) (t : Fin 4) (k : Fin 1536) (n : Fin 256) :
    wBlk x5 t (ix2 k n) = x5 (ix2 k (⟨256 * t.val + n.val, by omega⟩ : Fin 1024)) := by
  show x5 _ = x5 _
  congr 1
  funext a
  match a with
  | ⟨0, _⟩ => exact Fin.ext (by show 0 + 1 * k.val = k.val; omega)
  | ⟨1, _⟩ => exact Fin.ext (by show 256 * t.val + 1 * n.val = 256 * t.val + n.val; omega)

theorem sclEven_apply (i : grid0.Coords) (x3 : Vec Ideal S12x64 .f32) (t : Fin 4) : ∀ kk : Fin 12,
    sclEven i x3 t kk = x3 (ix2 kk (⟨8 * (i 0).val + 2 * t.val, by have h : (i 0).val < 8 := (i 0).isLt; omega⟩ : Fin 64))
  | ⟨0, _⟩ => congrArg x3 (funext fun a => by
      have e := congrFun (k0_off1_eq i t) a
      match a, e with
      | ⟨0, _⟩, e => exact Fin.ext e
      | ⟨1, _⟩, e => exact Fin.ext e)
  | ⟨1, _⟩ => congrArg x3 (funext fun a => by
      have e := congrFun (k0_off2_eq i t) a
      match a, e with
      | ⟨0, _⟩, e => exact Fin.ext e
      | ⟨1, _⟩, e => exact Fin.ext e)
  | ⟨2, _⟩ => congrArg x3 (funext fun a => by
      have e := congrFun (k0_off3_eq i t) a
      match a, e with
      | ⟨0, _⟩, e => exact Fin.ext e
      | ⟨1, _⟩, e => exact Fin.ext e)
  | ⟨3, _⟩ => congrArg x3 (funext fun a => by
      have e := congrFun (k0_off4_eq i t) a
      match a, e with
      | ⟨0, _⟩, e => exact Fin.ext e
      | ⟨1, _⟩, e => exact Fin.ext e)
  | ⟨4, _⟩ => congrArg x3 (funext fun a => by
      have e := congrFun (k0_off5_eq i t) a
      match a, e with
      | ⟨0, _⟩, e => exact Fin.ext e
      | ⟨1, _⟩, e => exact Fin.ext e)
  | ⟨5, _⟩ => congrArg x3 (funext fun a => by
      have e := congrFun (k0_off6_eq i t) a
      match a, e with
      | ⟨0, _⟩, e => exact Fin.ext e
      | ⟨1, _⟩, e => exact Fin.ext e)
  | ⟨6, _⟩ => congrArg x3 (funext fun a => by
      have e := congrFun (k0_off7_eq i t) a
      match a, e with
      | ⟨0, _⟩, e => exact Fin.ext e
      | ⟨1, _⟩, e => exact Fin.ext e)
  | ⟨7, _⟩ => congrArg x3 (funext fun a => by
      have e := congrFun (k0_off8_eq i t) a
      match a, e with
      | ⟨0, _⟩, e => exact Fin.ext e
      | ⟨1, _⟩, e => exact Fin.ext e)
  | ⟨8, _⟩ => congrArg x3 (funext fun a => by
      have e := congrFun (k0_off9_eq i t) a
      match a, e with
      | ⟨0, _⟩, e => exact Fin.ext e
      | ⟨1, _⟩, e => exact Fin.ext e)
  | ⟨9, _⟩ => congrArg x3 (funext fun a => by
      have e := congrFun (k0_off10_eq i t) a
      match a, e with
      | ⟨0, _⟩, e => exact Fin.ext e
      | ⟨1, _⟩, e => exact Fin.ext e)
  | ⟨10, _⟩ => congrArg x3 (funext fun a => by
      have e := congrFun (k0_off11_eq i t) a
      match a, e with
      | ⟨0, _⟩, e => exact Fin.ext e
      | ⟨1, _⟩, e => exact Fin.ext e)
  | ⟨11, _⟩ => congrArg x3 (funext fun a => by
      have e := congrFun (k0_off12_eq i t) a
      match a, e with
      | ⟨0, _⟩, e => exact Fin.ext e
      | ⟨1, _⟩, e => exact Fin.ext e)

theorem sclOdd_apply (i : grid0.Coords) (x3 : Vec Ideal S12x64 .f32) (t : Fin 4) : ∀ kk : Fin 12,
    sclOdd i x3 t kk = x3 (ix2 kk (⟨8 * (i 0).val + 2 * t.val + 1, by have h : (i 0).val < 8 := (i 0).isLt; omega⟩ : Fin 64))
  | ⟨0, _⟩ => congrArg x3 (funext fun a => by
      have e := congrFun (k0_off13_eq i t) a
      match a, e with
      | ⟨0, _⟩, e => exact Fin.ext e
      | ⟨1, _⟩, e => exact Fin.ext e)
  | ⟨1, _⟩ => congrArg x3 (funext fun a => by
      have e := congrFun (k0_off14_eq i t) a
      match a, e with
      | ⟨0, _⟩, e => exact Fin.ext e
      | ⟨1, _⟩, e => exact Fin.ext e)
  | ⟨2, _⟩ => congrArg x3 (funext fun a => by
      have e := congrFun (k0_off15_eq i t) a
      match a, e with
      | ⟨0, _⟩, e => exact Fin.ext e
      | ⟨1, _⟩, e => exact Fin.ext e)
  | ⟨3, _⟩ => congrArg x3 (funext fun a => by
      have e := congrFun (k0_off16_eq i t) a
      match a, e with
      | ⟨0, _⟩, e => exact Fin.ext e
      | ⟨1, _⟩, e => exact Fin.ext e)
  | ⟨4, _⟩ => congrArg x3 (funext fun a => by
      have e := congrFun (k0_off17_eq i t) a
      match a, e with
      | ⟨0, _⟩, e => exact Fin.ext e
      | ⟨1, _⟩, e => exact Fin.ext e)
  | ⟨5, _⟩ => congrArg x3 (funext fun a => by
      have e := congrFun (k0_off18_eq i t) a
      match a, e with
      | ⟨0, _⟩, e => exact Fin.ext e
      | ⟨1, _⟩, e => exact Fin.ext e)
  | ⟨6, _⟩ => congrArg x3 (funext fun a => by
      have e := congrFun (k0_off19_eq i t) a
      match a, e with
      | ⟨0, _⟩, e => exact Fin.ext e
      | ⟨1, _⟩, e => exact Fin.ext e)
  | ⟨7, _⟩ => congrArg x3 (funext fun a => by
      have e := congrFun (k0_off20_eq i t) a
      match a, e with
      | ⟨0, _⟩, e => exact Fin.ext e
      | ⟨1, _⟩, e => exact Fin.ext e)
  | ⟨8, _⟩ => congrArg x3 (funext fun a => by
      have e := congrFun (k0_off21_eq i t) a
      match a, e with
      | ⟨0, _⟩, e => exact Fin.ext e
      | ⟨1, _⟩, e => exact Fin.ext e)
  | ⟨9, _⟩ => congrArg x3 (funext fun a => by
      have e := congrFun (k0_off22_eq i t) a
      match a, e with
      | ⟨0, _⟩, e => exact Fin.ext e
      | ⟨1, _⟩, e => exact Fin.ext e)
  | ⟨10, _⟩ => congrArg x3 (funext fun a => by
      have e := congrFun (k0_off23_eq i t) a
      match a, e with
      | ⟨0, _⟩, e => exact Fin.ext e
      | ⟨1, _⟩, e => exact Fin.ext e)
  | ⟨11, _⟩ => congrArg x3 (funext fun a => by
      have e := congrFun (k0_off24_eq i t) a
      match a, e with
      | ⟨0, _⟩, e => exact Fin.ext e
      | ⟨1, _⟩, e => exact Fin.ext e)

/-- Head `8 j + r`'s projection at grid step `j`. -/
theorem zVal_apply (i : grid0.Coords) (x0 : Vec Ideal S16x1536 .bf16) (x3 : Vec Ideal S12x64 .f32) (x5 : Vec Ideal S1536x1024 .fp8e4m3)
    (b : Fin 16) (n : Fin 128) : ∀ r : Fin 8, zVal i x0 x3 x5 r (ix2 b n)
      = proj (fun k => x0 (ix2 b k)) (fun k => x5 (ix2 k (⟨128 * r.val + n.val, by omega⟩ : Fin 1024)))
          (fun kk => x3 (ix2 kk (⟨8 * (i 0).val + r.val, by have h : (i 0).val < 8 := (i 0).isLt; omega⟩ : Fin 64)))
  | ⟨0, _⟩ => by
      refine (zEven_apply _ _ _ _ b n).trans ?_
      refine proj_congr (fun k => actBlk_apply x0 b k) (fun k => ?_) (fun kk => (sclEven_apply i x3 0 kk).trans (congrArg (fun q => x3 (ix2 kk q)) (Fin.ext (by show 8 * (i 0).val + 2 * 0 = 8 * (i 0).val + 0; omega))))
      refine (wBlk_apply x5 0 k _).trans (congrArg (fun q => x5 (ix2 k q)) (Fin.ext ?_))
      show 256 * 0 + n.val = 128 * 0 + n.val
      omega
  | ⟨1, _⟩ => by
      refine (zOdd_apply _ _ _ _ b n).trans ?_
      refine proj_congr (fun k => actBlk_apply x0 b k) (fun k => ?_) (fun kk => (sclOdd_apply i x3 0 kk).trans (congrArg (fun q => x3 (ix2 kk q)) (Fin.ext (by show 8 * (i 0).val + 2 * 0 + 1 = 8 * (i 0).val + 1; omega))))
      refine (wBlk_apply x5 0 k _).trans (congrArg (fun q => x5 (ix2 k q)) (Fin.ext ?_))
      show 256 * 0 + (128 + n.val) = 128 * 1 + n.val
      omega
  | ⟨2, _⟩ => by
      refine (zEven_apply _ _ _ _ b n).trans ?_
      refine proj_congr (fun k => actBlk_apply x0 b k) (fun k => ?_) (fun kk => (sclEven_apply i x3 1 kk).trans (congrArg (fun q => x3 (ix2 kk q)) (Fin.ext (by show 8 * (i 0).val + 2 * 1 = 8 * (i 0).val + 2; omega))))
      refine (wBlk_apply x5 1 k _).trans (congrArg (fun q => x5 (ix2 k q)) (Fin.ext ?_))
      show 256 * 1 + n.val = 128 * 2 + n.val
      omega
  | ⟨3, _⟩ => by
      refine (zOdd_apply _ _ _ _ b n).trans ?_
      refine proj_congr (fun k => actBlk_apply x0 b k) (fun k => ?_) (fun kk => (sclOdd_apply i x3 1 kk).trans (congrArg (fun q => x3 (ix2 kk q)) (Fin.ext (by show 8 * (i 0).val + 2 * 1 + 1 = 8 * (i 0).val + 3; omega))))
      refine (wBlk_apply x5 1 k _).trans (congrArg (fun q => x5 (ix2 k q)) (Fin.ext ?_))
      show 256 * 1 + (128 + n.val) = 128 * 3 + n.val
      omega
  | ⟨4, _⟩ => by
      refine (zEven_apply _ _ _ _ b n).trans ?_
      refine proj_congr (fun k => actBlk_apply x0 b k) (fun k => ?_) (fun kk => (sclEven_apply i x3 2 kk).trans (congrArg (fun q => x3 (ix2 kk q)) (Fin.ext (by show 8 * (i 0).val + 2 * 2 = 8 * (i 0).val + 4; omega))))
      refine (wBlk_apply x5 2 k _).trans (congrArg (fun q => x5 (ix2 k q)) (Fin.ext ?_))
      show 256 * 2 + n.val = 128 * 4 + n.val
      omega
  | ⟨5, _⟩ => by
      refine (zOdd_apply _ _ _ _ b n).trans ?_
      refine proj_congr (fun k => actBlk_apply x0 b k) (fun k => ?_) (fun kk => (sclOdd_apply i x3 2 kk).trans (congrArg (fun q => x3 (ix2 kk q)) (Fin.ext (by show 8 * (i 0).val + 2 * 2 + 1 = 8 * (i 0).val + 5; omega))))
      refine (wBlk_apply x5 2 k _).trans (congrArg (fun q => x5 (ix2 k q)) (Fin.ext ?_))
      show 256 * 2 + (128 + n.val) = 128 * 5 + n.val
      omega
  | ⟨6, _⟩ => by
      refine (zEven_apply _ _ _ _ b n).trans ?_
      refine proj_congr (fun k => actBlk_apply x0 b k) (fun k => ?_) (fun kk => (sclEven_apply i x3 3 kk).trans (congrArg (fun q => x3 (ix2 kk q)) (Fin.ext (by show 8 * (i 0).val + 2 * 3 = 8 * (i 0).val + 6; omega))))
      refine (wBlk_apply x5 3 k _).trans (congrArg (fun q => x5 (ix2 k q)) (Fin.ext ?_))
      show 256 * 3 + n.val = 128 * 6 + n.val
      omega
  | ⟨7, _⟩ => by
      refine (zOdd_apply _ _ _ _ b n).trans ?_
      refine proj_congr (fun k => actBlk_apply x0 b k) (fun k => ?_) (fun kk => (sclOdd_apply i x3 3 kk).trans (congrArg (fun q => x3 (ix2 kk q)) (Fin.ext (by show 8 * (i 0).val + 2 * 3 + 1 = 8 * (i 0).val + 7; omega))))
      refine (wBlk_apply x5 3 k _).trans (congrArg (fun q => x5 (ix2 k q)) (Fin.ext ?_))
      show 256 * 3 + (128 + n.val) = 128 * 7 + n.val
      omega

variable (m : (ℓ : Loc nD τ sig) → Buf (Elt Ideal) ℓ)

/-! ## The argument arrays, read at indices -/

abbrev actF (c : Dev nD) (b : Fin 10) (k : Fin 1536) : EReal := (m ((c : Thread nD τ).loc main_arg0) : Vec Ideal S16x1536 .bf16) (ix2 (⟨b.val, by omega⟩ : Fin 16) k)
abbrev cosF (c : Dev nD) (b : Fin 10) (d : Fin 32) : EReal := (m ((c : Thread nD τ).loc main_arg1) : Vec Ideal S10x32 .f32) (ix2 b d)
abbrev sinF (c : Dev nD) (b : Fin 10) (d : Fin 32) : EReal := (m ((c : Thread nD τ).loc main_arg2) : Vec Ideal S10x32 .f32) (ix2 b d)
abbrev sclF (c : Dev nD) (h : Fin 64) (i : Fin 12) : EReal := (m ((c : Thread nD τ).loc main_arg4) : Vec Ideal S12x64 .f32) (ix2 i h)
abbrev wF (c : Dev nD) (h : Fin 64) (d : Fin 128) (k : Fin 1536) : EReal :=
  (m ((c : Thread nD τ).loc main_arg6) : Vec Ideal S1536x8192 .fp8e4m3) (ix2 k (⟨h.val * 128 + d.val, by omega⟩ : Fin 8192))

/-- Batch row `b`'s head `h` before quantisation. -/
abbrev query (c : Dev nD) (b : Fin 10) (h : Fin 64) : Fin 128 → EReal :=
  turn (fun d => proj (actF m c b) (wF m c h d) (sclF m c h)) (cosF m c b) (sinF m c b)

/-! ## The blocks, read at indices -/

theorem iblk0_apply (c : Dev nD) (t : Fin cfg0.N) (b : Fin 16) (k : Fin 1536) :
    (iblk m c 0 t : Vec Ideal S16x1536 .bf16) (ix2 b k) = (m ((c : Thread nD τ).loc main_arg0) : Vec Ideal S16x1536 .bf16) (ix2 b k) := by
  show V m c main_arg0 _ = _
  rw [V_main_arg0]
  show m _ _ = m _ _
  congr 1
  funext a
  match a with
  | ⟨0, _⟩ => exact Fin.ext (by show 0 * 16 + 1 * b.val = b.val; omega)
  | ⟨1, _⟩ => exact Fin.ext (by show 0 * 1536 + 1 * k.val = k.val; omega)

theorem iblk3_apply (c : Dev nD) (t : Fin cfg0.N) (i : Fin 12) (h : Fin 64) :
    (iblk m c 3 t : Vec Ideal S12x64 .f32) (ix2 i h) = sclF m c h i := by
  show V m c main_arg4 _ = _
  rw [V_main_arg4]
  show m _ _ = m _ _
  congr 1
  funext a
  match a with
  | ⟨0, _⟩ => exact Fin.ext (by show 0 * 12 + 1 * i.val = i.val; omega)
  | ⟨1, _⟩ => exact Fin.ext (by show 0 * 64 + 1 * h.val = h.val; omega)

theorem iblk5_apply (c : Dev nD) (t : Fin cfg0.N) (k : Fin 1536) (n : Fin 1024) (col : Fin 8192) (hcol : col.val = t.val * 1024 + n.val) :
    (iblk m c 5 t : Vec Ideal S1536x1024 .fp8e4m3) (ix2 k n) = (m ((c : Thread nD τ).loc main_arg6) : Vec Ideal S1536x8192 .fp8e4m3) (ix2 k col) := by
  show V m c main_arg6 _ = _
  rw [V_main_arg6]
  show m _ _ = m _ _
  congr 1
  funext a
  have h0 : (grid0.coords t 0).val < 8 := (grid0.coords t 0).isLt
  have ht := coords_val t
  match a with
  | ⟨0, _⟩ => exact Fin.ext (by show 0 * 1536 + 1 * k.val = k.val; omega)
  | ⟨1, _⟩ => exact Fin.ext (by
      show (BitVec.ofNat 32 (grid0.coords t 0).val).toNat * 1024 + 1 * n.val = col.val
      rw [BitVec.toNat_ofNat, hcol]; omega)

/-- The projected queries: row `64 b + h` is batch row `b`'s head `h`. -/
theorem zFull_apply (c : Dev nD) (b : Fin 10) (h : Fin 64) (d : Fin 128) :
    zFull m c (ix2 (⟨64 * b.val + h.val, by omega⟩ : Fin 1024) d) = proj (actF m c b) (wF m c h d) (sclF m c h) := by
  have key : ∀ (j : Fin 8) (r : Fin 8) (bb : Fin 16), h.val = 8 * j.val + r.val → bb.val = b.val →
      zAt m c (pt j) r (ix2 bb d) = proj (actF m c b) (wF m c h d) (sclF m c h) := by
    intro j r bb hj hb
    have ht : (grid0.coords (pt j) 0).val = j.val := coords_val (pt j)
    unfold zAt
    refine (zVal_apply _ _ _ _ bb d r).trans (proj_congr (fun k => ?_) (fun k => ?_) (fun kk => ?_))
    · refine (iblk0_apply m c _ bb k).trans ?_
      exact congrArg (fun q => (m ((c : Thread nD τ).loc main_arg0) : Vec Ideal S16x1536 .bf16) (ix2 q k)) (Fin.ext hb)
    · exact iblk5_apply m c _ k _ _ (by show h.val * 128 + d.val = j.val * 1024 + (128 * r.val + d.val); omega)
    · refine (iblk3_apply m c _ kk _).trans ?_
      exact congrArg (fun q => sclF m c q kk) (Fin.ext (by show 8 * (grid0.coords (pt j) 0).val + r.val = h.val; omega))
  exact key ⟨(64 * b.val + h.val) % 64 / 8, by omega⟩ ⟨(64 * b.val + h.val) % 8, by omega⟩ ⟨(64 * b.val + h.val) / 64, by omega⟩
    (by show h.val = 8 * ((64 * b.val + h.val) % 64 / 8) + (64 * b.val + h.val) % 8; omega) (by show (64 * b.val + h.val) / 64 = b.val; omega)

/-! ## The rotation table -/

theorem table2 (c : Dev nD) (b : Fin 10) (d : Fin 128) :
    (V m c main_v20 : Vec Ideal S4x16x128 .f32) (ix3 (2 : Fin 4) (⟨b.val, by omega⟩ : Fin 16) d)
      = if h : d.val < 32 then cosF m c b ⟨d.val, h⟩ else if h' : d.val < 64 then cosF m c b ⟨d.val - 32, by omega⟩ else 1 := by
  unfold V
  repeat after_reads_at
  by_cases h1 : d.val < 32
  · rw [dif_pos h1, dif_pos h1]
  · rw [dif_neg h1, dif_neg h1]
    by_cases h2 : d.val < 64
    · have h3 : d.val - 32 < 32 := by omega
      rw [dif_pos h2, dif_pos h3]
    · have h3 : ¬ d.val - 32 < 32 := by omega
      rw [dif_neg h2, dif_neg h3]

theorem table3 (c : Dev nD) (b : Fin 10) (d : Fin 128) :
    (V m c main_v20 : Vec Ideal S4x16x128 .f32) (ix3 (3 : Fin 4) (⟨b.val, by omega⟩ : Fin 16) d)
      = if h : d.val < 32 then - sinF m c b ⟨d.val, h⟩ else if h' : d.val < 64 then sinF m c b ⟨d.val - 32, by omega⟩ else 0 := by
  unfold V
  repeat after_reads_at
  by_cases h1 : d.val < 32
  · rw [dif_pos h1, dif_pos h1]
  · rw [dif_neg h1, dif_neg h1]
    by_cases h2 : d.val < 64
    · have h3 : d.val - 32 < 32 := by omega
      rw [dif_pos h2, dif_pos h3]
    · have h3 : ¬ d.val - 32 < 32 := by omega
      rw [dif_neg h2, dif_neg h3]

theorem iblk1_apply (c : Dev nD) (t : Fin cfg0.N) (i : Fin 4) (b : Fin 16) (d : Fin 128) :
    (iblk m c 1 t : Vec Ideal S4x16x128 .f32) (ix3 i b d) = (V m c main_v20 : Vec Ideal S4x16x128 .f32) (ix3 i b d) := by
  show V m c main_v20 _ = V m c main_v20 _
  congr 1
  funext a
  match a with
  | ⟨0, _⟩ => exact Fin.ext (by show 0 * 4 + 1 * i.val = i.val; omega)
  | ⟨1, _⟩ => exact Fin.ext (by show 0 * 16 + 1 * b.val = b.val; omega)
  | ⟨2, _⟩ => exact Fin.ext (by show 0 * 128 + 1 * d.val = d.val; omega)

/-! ## The result arrays -/

theorem turned_query (c : Dev nD) (t : Fin cfg0.N) (b : Fin 10) (h : Fin 64) :
    (fun e => turned (iblk m c 1 t) (zFull m c) b (ix2 h e)) = query m c b h := by
  funext e
  refine (turned_apply (iblk m c 1 t) (zFull m c) b h e (cosF m c b) (sinF m c b)
    (fun d => (iblk1_apply m c t _ _ d).trans (table2 m c b d)) (fun d => (iblk1_apply m c t _ _ d).trans (table3 m c b d))).trans ?_
  exact congrArg (fun z => turn z (cosF m c b) (sinF m c b) e) (funext fun d => zFull_apply m c b h d)

/-- All the codes. -/
def codesArr (c : Dev nD) : Vec Ideal S10x64x128 .fp8e4m3 := fun y => code (query m c (y 0) (y 1)) (y 2)

/-- All the scales. -/
def scalesArr (c : Dev nD) : Vec Ideal S10x64 .f32 := fun y => scale (query m c (y 0) (y 1))

theorem codesOut_eq (c : Dev nD) (t : Fin cfg0.N) : codesOut (iblk m c 1 t) (zFull m c) = codesArr m c := by
  funext y
  idx_vars y
  rw [codesOut_apply, turned_query]
  rfl

theorem scalesOut_eq (c : Dev nD) (t : Fin cfg0.N) : scalesOut (iblk m c 1 t) (zFull m c) = scalesArr m c := by
  funext y
  idx_vars y
  rw [scalesOut_apply, turned_query]
  rfl

theorem emb8 (t : Fin cfg0.N) (j : S10x64x128.Idx) : ((cfg0.win 8).blk t).view.emb j = j := by
  funext a; apply Fin.ext
  match a with
  | ⟨0, _⟩ => show 0 * 10 + 1 * (j 0).val = (j 0).val; omega
  | ⟨1, _⟩ => show 0 * 64 + 1 * (j 1).val = (j 1).val; omega
  | ⟨2, _⟩ => show 0 * 128 + 1 * (j 2).val = (j 2).val; omega

theorem emb9 (t : Fin cfg0.N) (j : S10x64.Idx) : ((cfg0.win 9).blk t).view.emb j = j := by
  funext a; apply Fin.ext
  match a with
  | ⟨0, _⟩ => show 0 * 10 + 1 * (j 0).val = (j 0).val; omega
  | ⟨1, _⟩ => show 0 * 64 + 1 * (j 1).val = (j 1).val; omega

theorem flush8_last : (cfg0.win 8).flush (pt 7) = true :=
  (by decide +kernel : Pipeline.Window.flushOf grid0 true cc0_transform_8 (pt 7) = true)
theorem flush9_last : (cfg0.win 9).flush (pt 7) = true :=
  (by decide +kernel : Pipeline.Window.flushOf grid0 true cc0_transform_9 (pt 7) = true)

/-- The first result array: the codes. -/
theorem final8 (c : Dev nD) : (dats m 0 c).arrAt 8 cfg0.N = codesArr m c := by
  refine (dats m 0 c).arrAt_eq_of_cover 8 (codesArr m c) (fun t _ => ?_) (fun i => ⟨pt 7, flush8_last, ?_⟩)
  · show (cfg0.win 8).cut (grid0.coords t) ((dats m 0 c).after 8 t) = _
    rw [after0_8, codesOut_eq]
    funext j
    show codesArr m c j = codesArr m c (((cfg0.win 8).blk t).view.emb j)
    rw [emb8]
  · have h := ((cfg0.win 8).blk (pt 7)).view.emb_mem_set i
    rwa [emb8] at h

/-- The second result array: the scales. -/
theorem final9 (c : Dev nD) : (dats m 0 c).arrAt 9 cfg0.N = scalesArr m c := by
  refine (dats m 0 c).arrAt_eq_of_cover 9 (scalesArr m c) (fun t _ => ?_) (fun i => ⟨pt 7, flush9_last, ?_⟩)
  · show (cfg0.win 9).cut (grid0.coords t) ((dats m 0 c).after 9 t) = _
    rw [after0_9, scalesOut_eq]
    funext j
    show scalesArr m c j = scalesArr m c (((cfg0.win 9).blk t).view.emb j)
    rw [emb9]
  · have h := ((cfg0.win 9).blk (pt 7)).view.emb_mem_set i
    rwa [emb9] at h

end Cert.QueriesIdeal.Value

end
-- ==== Proof.PlainQueriesValue.lean ====
module

public import proofs.«01_k».proof.Proof.Gen.PlainQueriesIdeal.Value
public import proofs.«01_k».proof.Proof.QuerySpec
public import Idealize.ShloMosaic.Lib.Pipeline.ValueKit
public import Idealize.ShloMosaic.Lib.Pipeline.ValueKit.Tiles

/-!
# The reference's queries, element by element, over the extended reals
-/

@[expose] public section

set_option maxRecDepth 16384

noncomputable section

namespace Cert.PlainQueriesIdeal.Value

open Cert.PlainQueriesIdeal Cert.PlainQueriesIdeal.Gen Cert.IndexQuery
open Idealize.ShloMosaic Idealize.ShloMosaic.TcCoe

variable (a0 : Vec Ideal S16x1536 .bf16) (a1 a2 : Vec Ideal S10x32 .f32) (a3 : Vec Ideal S12x64 .f32)
  (a4 : Vec Ideal S1536x8192 .fp8e4m3)

/-- The scaled weights. -/
def wgt (a3 : Vec Ideal S12x64 .f32) (a4 : Vec Ideal S1536x8192 .fp8e4m3) : FVec Ideal S1536x8192 .bf16 :=
  mulf (extf .bf16 a4 bitsLt_fp8e4m3_bf16) (truncf .bf16 (shapeCast S1536x8192 (broadcastTo S1536x64x128 (shapeCast S1536x64x1
    (shapeCast S1536x64 (broadcastTo S12x128x64 (shapeCast S12x1x64 a3 shapeCasts_S12x64_S12x1x64) broadcasts_S12x1x64_S12x128x64) shapeCasts_S12x128x64_S1536x64)
    shapeCasts_S1536x64_S1536x64x1) broadcasts_S1536x64x1_S1536x64x128) shapeCasts_S1536x64x128_S1536x8192) bitsLt_bf16_f32)

/-- The projection. -/
def qproj (a0 : Vec Ideal S10x1536 .bf16) (a3 : Vec Ideal S12x64 .f32) (a4 : Vec Ideal S1536x8192 .fp8e4m3) : FVec Ideal S10x64x128 .f32 :=
  shapeCast S10x64x128 (matmul (φ₁ := .bf16) dot_S10x1536_S1536x8192_S10x8192_1_0_0_1_n_n none a0 (wgt a3 a4) (constant S10x8192 .f32 0x00000000#32)) shapeCasts_S10x8192_S10x64x128

/-- The rotation. -/
def qrope (v0 v2 : Vec Ideal S10x32 .f32) (v17 : FVec Ideal S10x64x128 .f32) : FVec Ideal S10x64x128 .f32 :=
  have v1 := shapeCast S10x1x32 v0 shapeCasts_S10x32_S10x1x32
  have v3 := shapeCast S10x1x32 v2 shapeCasts_S10x32_S10x1x32
  have v18 := extractStridedSlice S10x64x32 ![0, 0, 0] v17 slices_S10x64x128_o0_0_0_S10x64x32
  have v19 := extractStridedSlice S10x64x32 ![0, 0, 32] v17 slices_S10x64x128_o0_0_32_S10x64x32
  have v20 := broadcastTo S10x64x32 v1 broadcasts_S10x1x32_S10x64x32
  have v21 := mulf v18 v20
  have v22 := broadcastTo S10x64x32 v3 broadcasts_S10x1x32_S10x64x32
  have v23 := mulf v19 v22
  have v24 : FVec Ideal S10x64x32 .f32 := subf v21 v23
  have v26 := mulf v18 v22
  have v28 := mulf v19 v20
  have v29 : FVec Ideal S10x64x32 .f32 := addf v26 v28
  have v30 := extractStridedSlice S10x64x64 ![0, 0, 64] v17 slices_S10x64x128_o0_0_64_S10x64x64
  concatenate S10x64x128 2 [⟨S10x64x32, v24⟩, ⟨S10x64x32, v29⟩, ⟨S10x64x64, v30⟩] concatenates_S10x64x32_S10x64x32_S10x64x64_S10x64x128_d2

theorem pay2_eq (a0 : Vec Ideal S10x1536 .bf16) : k0_pay2 a1 a2 a0 a4 a3 = qrope a1 a2 (qproj a0 a3 a4) := rfl

theorem wgt_apply (k : Fin 1536) (h : Fin 64) (d : Fin 128) :
    wgt a3 a4 (ix2 k (⟨h.val * 128 + d.val, by omega⟩ : Fin 8192)) = a4 (ix2 k (⟨h.val * 128 + d.val, by omega⟩ : Fin 8192)) * a3 (ix2 (⟨k.val / 128, by omega⟩ : Fin 12) h) := by
  unfold wgt
  pointwise

theorem qproj_apply (a0 : Vec Ideal S10x1536 .bf16) (b : Fin 10) (h : Fin 64) (d : Fin 128) : qproj a0 a3 a4 (ix3 b h d) =
    proj (fun k => a0 (ix2 b k)) (fun k => a4 (ix2 k (⟨h.val * 128 + d.val, by omega⟩ : Fin 8192))) (fun i => a3 (ix2 i h)) := by
  unfold qproj proj
  pointwise
  refine Finset.sum_congr rfl fun k _ => ?_
  congr 1
  exact wgt_apply a3 a4 k h d

theorem qrope_apply (v : FVec Ideal S10x64x128 .f32) (b : Fin 10) (h : Fin 64) (d : Fin 128) :
    qrope a1 a2 v (ix3 b h d) = rope (fun d => v (ix3 b h d)) (fun d => a1 (ix2 b d)) (fun d => a2 (ix2 b d)) d := by
  have hd := d.isLt
  unfold qrope rope
  pointwise
  by_cases h1 : d.val < 32
  · rw [dif_pos h1, dif_pos h1]
    congr 3
    exact congrArg (ix3 b h) (Fin.ext (by show 32 + d.val = d.val + 32; omega))
  · rw [dif_neg h1, dif_neg h1]
    by_cases h2 : d.val < 64
    · have h3 : d.val - 32 < 32 := by omega
      rw [dif_pos h2, dif_pos h3]
      congr 3
      exact congrArg (ix3 b h) (Fin.ext (by show 32 + (d.val - 32) = d.val; omega))
    · have h3 : ¬ d.val - 32 < 32 := by omega
      rw [dif_neg h2, dif_neg h3]
      congr 1
      exact congrArg (ix3 b h) (Fin.ext (by show 64 + (d.val - 32 - 32) = d.val; omega))

/-- The number of common bits below the sixth, as the reference counts them. -/
def cnt (i j : Fin 128) : BitVec 32 :=
      IntOp.addi
        (IntOp.addi
          (IntOp.addi
            (IntOp.addi
              (IntOp.addi
                (IntOp.addi (0#32)
                  (IntOp.andi
                    (IntOp.andi (IntOp.shrsi ArithUnit.vector (BitVec.ofNat 32 i.val) 0#32)
                      (IntOp.shrsi ArithUnit.vector (BitVec.ofNat 32 j.val) 0#32))
                    1#32))
                (IntOp.andi
                  (IntOp.andi (IntOp.shrsi ArithUnit.vector (BitVec.ofNat 32 i.val) 1#32)
                    (IntOp.shrsi ArithUnit.vector (BitVec.ofNat 32 j.val) 1#32))
                  1#32))
              (IntOp.andi
                (IntOp.andi (IntOp.shrsi ArithUnit.vector (BitVec.ofNat 32 i.val) 2#32)
                  (IntOp.shrsi ArithUnit.vector (BitVec.ofNat 32 j.val) 2#32))
                1#32))
            (IntOp.andi
              (IntOp.andi (IntOp.shrsi ArithUnit.vector (BitVec.ofNat 32 i.val) 3#32)
                (IntOp.shrsi ArithUnit.vector (BitVec.ofNat 32 j.val) 3#32))
              1#32))
          (IntOp.andi
            (IntOp.andi (IntOp.shrsi ArithUnit.vector (BitVec.ofNat 32 i.val) 4#32)
              (IntOp.shrsi ArithUnit.vector (BitVec.ofNat 32 j.val) 4#32))
            1#32))
        (IntOp.andi
          (IntOp.andi (IntOp.shrsi ArithUnit.vector (BitVec.ofNat 32 i.val) 5#32)
            (IntOp.shrsi ArithUnit.vector (BitVec.ofNat 32 j.val) 5#32))
          1#32)

/-- The sixth bits together. -/
def hi (i j : Fin 128) : BitVec 32 :=
  IntOp.andi (IntOp.shrsi ArithUnit.vector (BitVec.ofNat 32 i.val) 6#32) (IntOp.shrsi ArithUnit.vector (BitVec.ofNat 32 j.val) 6#32)

theorem par_apply (i j : Fin 128) : k0_pay13 a0 a1 a2 a3 a4 (ix2 i j) = cnt i j ∧ k0_pay14 a0 a1 a2 a3 a4 (ix2 i j) = hi i j := by
  unfold cnt hi
  pointwise [k0_pay13, k0_pay14, k0_pay10, k0_pay11, k0_pay5, k0_pay3, k0_pay4, k0_pay6]

/-- Whether a count and a last bit make an even number, in the reference's spelling. -/
def even (P Q : BitVec 32) : BitVec 1 :=
  IntOp.cmpi CmpIPredicate.eq
              (Scalar.select
                (IntOp.andi
                  (IntOp.xori
                    (IntOp.cmpi CmpIPredicate.slt
                      (IntOp.remsi ArithUnit.vector (IntOp.addi P (IntOp.andi Q 1#32))
                        (Scalar.select (Scalar.cmpi CmpIPredicate.eq 2#32 0#32) 1#32 2#32))
                      0#32)
                    (Scalar.cmpi CmpIPredicate.slt (Scalar.select (Scalar.cmpi CmpIPredicate.eq 2#32 0#32) 1#32 2#32)
                      0#32))
                  (IntOp.cmpi CmpIPredicate.ne
                    (IntOp.remsi ArithUnit.vector (IntOp.addi P (IntOp.andi Q 1#32))
                      (Scalar.select (Scalar.cmpi CmpIPredicate.eq 2#32 0#32) 1#32 2#32))
                    0#32))
                (IntOp.addi
                  (IntOp.remsi ArithUnit.vector (IntOp.addi P (IntOp.andi Q 1#32))
                    (Scalar.select (Scalar.cmpi CmpIPredicate.eq 2#32 0#32) 1#32 2#32))
                  (Scalar.select (Scalar.cmpi CmpIPredicate.eq 2#32 0#32) 1#32 2#32))
                (IntOp.remsi ArithUnit.vector (IntOp.addi P (IntOp.andi Q 1#32))
                  (Scalar.select (Scalar.cmpi CmpIPredicate.eq 2#32 0#32) 1#32 2#32)))
              0#32

set_option maxRecDepth 100000 in
theorem even_iff : ∀ i j : Fin 128, even (cnt i j) (hi i j) = if odd7 i j then 0#1 else 1#1 := by decide +kernel

theorem pay7_eq (v : FVec Ideal S10x64x128 .f32) (p q : IVec S128x128 32) (b : Fin 10) (h : Fin 64) (e : Fin 128) :
    k0_pay7 v p q (ix3 b h e) = ∑ x : Fin 128, v (ix3 b h x) * (Scalar.select (even (p (ix2 x e)) (q (ix2 x e))) (1 : EReal) (Ideal.ofBits FTy.f32 0xBF800000#32) * Ideal.ofBits FTy.f32 0x3DB504F3#32) := by
  unfold even
  pointwise [k0_pay7]

theorem neg_one_bits : Ideal.ofBits FTy.f32 0xBF800000#32 = (-1 : EReal) := by
  simp [Ideal.ofBits, Ideal.ieee, -EReal.coe_mul]
  norm_num

/-- The transform of the reference's queries. -/
theorem pay7_apply (v : FVec Ideal S10x64x128 .f32) (b : Fin 10) (h : Fin 64) (e : Fin 128) :
    k0_pay7 v (k0_pay13 a0 a1 a2 a3 a4) (k0_pay14 a0 a1 a2 a3 a4) (ix3 b h e) = ∑ d : Fin 128, v (ix3 b h d) * had d e := by
  rw [pay7_eq]
  refine Finset.sum_congr rfl fun x _ => ?_
  obtain ⟨e1, e2⟩ := par_apply a0 a1 a2 a3 a4 x e
  rw [e1, e2, even_iff, neg_one_bits]
  unfold had
  by_cases ho : odd7 x e = true
  · rw [if_pos ho, if_pos ho]
    congr 2
  · rw [if_neg ho, if_neg ho]
    congr 2

/-- The reference's query before quantisation. -/
theorem query_apply (b : Fin 10) (h : Fin 64) (e : Fin 128) :
    k0_pay7 (k0_pay12 a0 a1 a2 a3 a4) (k0_pay13 a0 a1 a2 a3 a4) (k0_pay14 a0 a1 a2 a3 a4) (ix3 b h e)
      = turn (fun d => proj (fun k => a0 (ix2 (⟨b.val, by omega⟩ : Fin 16) k)) (fun k => a4 (ix2 k (⟨h.val * 128 + d.val, by omega⟩ : Fin 8192))) (fun i => a3 (ix2 i h)))
          (fun d => a1 (ix2 b d)) (fun d => a2 (ix2 b d)) e := by
  rw [pay7_apply]
  unfold turn
  refine Finset.sum_congr rfl fun d _ => ?_
  congr 1
  unfold k0_pay12
  rw [pay2_eq, qrope_apply]
  have e0 : ∀ d, qproj (View.ld a0 r0_1) (View.ld a3 r0_3) (View.ld a4 r0_2) (ix3 b h d)
      = proj (fun k => a0 (ix2 (⟨b.val, by omega⟩ : Fin 16) k)) (fun k => a4 (ix2 k (⟨h.val * 128 + d.val, by omega⟩ : Fin 8192))) (fun i => a3 (ix2 i h)) := by
    intro d
    rw [qproj_apply]
    unfold proj
    pointwise
  have e1 : (fun d : Fin 32 => View.ld a1 r0_0 (ix2 b d)) = fun d => a1 (ix2 b d) := funext fun d => by pointwise
  have e2 : (fun d : Fin 32 => View.ld a2 r0_0 (ix2 b d)) = fun d => a2 (ix2 b d) := funext fun d => by pointwise
  rw [e1, e2, funext e0]

theorem pay8_apply (v : FVec Ideal S10x64x128 .f32) (p q : IVec S128x128 32) (b : Fin 10) (h : Fin 64) :
    k0_pay8 v p q (ix2 b h) = scale fun e => k0_pay7 v p q (ix3 b h e) := by
  pointwise [k0_pay8]
  rfl

theorem pay9_apply (v : FVec Ideal S10x64x128 .f32) (p q : IVec S128x128 32) (b : Fin 10) (h : Fin 64) (d : Fin 128) :
    k0_pay1 (k0_pay9 v p q) (ix3 b h d) = code (fun e => k0_pay7 v p q (ix3 b h e)) d := by
  pointwise [k0_pay9, k0_pay1]
  rw [pay8_apply]
  rfl

theorem codes_apply (b : Fin 10) (h : Fin 64) (e : Fin 128) :
    G5 a0 a1 a2 a3 a4 (ix3 b h e)
      = code (turn (fun d => proj (fun k => a0 (ix2 (⟨b.val, by omega⟩ : Fin 16) k)) (fun k => a4 (ix2 k (⟨h.val * 128 + d.val, by omega⟩ : Fin 8192))) (fun i => a3 (ix2 i h)))
          (fun d => a1 (ix2 b d)) (fun d => a2 (ix2 b d))) e := by
  unfold G5
  rw [pay9_apply]
  simp only [query_apply]

theorem scales_apply (b : Fin 10) (h : Fin 64) :
    G6 a0 a1 a2 a3 a4 (ix2 b h)
      = scale (turn (fun d => proj (fun k => a0 (ix2 (⟨b.val, by omega⟩ : Fin 16) k)) (fun k => a4 (ix2 k (⟨h.val * 128 + d.val, by omega⟩ : Fin 8192))) (fun i => a3 (ix2 i h)))
          (fun d => a1 (ix2 b d)) (fun d => a2 (ix2 b d))) := by
  unfold G6
  rw [pay8_apply]
  simp only [query_apply]

end Cert.PlainQueriesIdeal.Value

end
-- ==== Proof.Tame.lean ====
module

public import proofs.«01_k».proof.Defs
public import proofs.«01_k».proof.Proof.ScoreSpec
public import Idealize.ShloMosaic.Lib.Pipeline.ValueKit

/-!
# What the precondition says, element by element
-/

@[expose] public section

noncomputable section

namespace Cert.Pre_tame

open Idealize.ShloMosaic Cert.IndexScore

/-- The precondition's side conditions hold. -/
theorem facts : Facts where
  slices_S2112x5120_S64x5120_2048_0 := by decide
  bcast_S_S10 := by decide
  bcast_S_S10x64 := by decide
  shapeCasts_S64x5120_S64x10x4x2x64 := by decide
  bcast_S_S64x10x4x2x64 := by decide
  bcast_S10_S1x10x1x1x1_1 := by decide
  bcast_S1x10x1x1x1_S64x10x4x2x64_0_1_2_3_4 := by decide

theorem oge_iff (x y : EReal) : Ideal.cmp .oge x y = 1#1 ↔ y ≤ x := by
  unfold Ideal.cmp
  by_cases h : y ≤ x <;> simp [h]

theorem olt_iff (x y : EReal) : Ideal.cmp .olt x y = 1#1 ↔ x < y := by
  unfold Ideal.cmp
  by_cases h : x < y <;> simp [h]

theorem sle_iff (x y : BitVec 32) : IntOp.cmpi .sle x y = 1#1 ↔ x.toInt ≤ y.toInt := by
  show BitVec.ofBool (x.sle y) = 1#1 ↔ _
  rw [BitVec.sle_eq_decide]
  by_cases h : x.toInt ≤ y.toInt <;> simp [h]

theorem sge_iff (x y : BitVec 32) : IntOp.cmpi .sge x y = 1#1 ↔ y.toInt ≤ x.toInt := by
  show BitVec.ofBool (y.sle x) = 1#1 ↔ _
  rw [BitVec.sle_eq_decide]
  by_cases h : y.toInt ≤ x.toInt <;> simp [h]

/-- A position, put together from its chunk, its page pair in the chunk, its page of the pair and its slot, in 32-bit arithmetic. -/
theorem pos_toInt (p : ℕ) (hp : p < 32768) :
    (BitVec.ofNat 32 (p / 64 / 128) * 8192#32 + BitVec.ofNat 32 (p / 64 % 128 / 2) * 128#32 + BitVec.ofNat 32 (p / 64 % 2) * 64#32 + BitVec.ofNat 32 (p % 64)).toInt = p := by
  have : BitVec.ofNat 32 (p / 64 / 128) * 8192#32 + BitVec.ofNat 32 (p / 64 % 128 / 2) * 128#32 + BitVec.ofNat 32 (p / 64 % 2) * 64#32 + BitVec.ofNat 32 (p % 64)
      = BitVec.ofNat 32 p := by
    apply BitVec.eq_of_toNat_eq
    simp only [BitVec.toNat_add, BitVec.toNat_mul, BitVec.toNat_ofNat]
    omega
  rw [this, toInt_ofNat p (by omega)]

variable (a0 : IVec S10 32) (a1 : IVec S2112x5120 32) (a2 : FVec Ideal S10x64x128 .fp8e4m3) (a3 a4 : FVec Ideal S10x64 .f32)
  (a5 : FVec Ideal S10x1x128 .fp8e4m3) (a6 : FVec Ideal S10 .f32)

local instance : Facts := facts

/-- The cache lengths leave room for the last chunk. -/
theorem len (h : (fn (F := Ideal) a0 a1 a2 a3 a4 a5 a6).1 = fun _ => 1#1) (b : Fin 10) : (a0 (ix1 b)).toInt ≤ 2 ^ 31 - 8192 := by
  have h := congrFun h (ix1 b)
  unfold fn fn_part1 at h
  exact (sle_iff _ _).1 h

/-- The query scales are nonnegative. -/
theorem iqs (h : (fn (F := Ideal) a0 a1 a2 a3 a4 a5 a6).2.1 = fun _ => 1#1) (b : Fin 10) (g : Fin 64) : (0 : EReal) ≤ a3 (ix2 b g) := by
  have h := congrFun h (ix2 b g)
  unfold fn fn_part1 at h
  have := (oge_iff _ _).1 h
  exact this.trans' (le_of_eq Ideal.ofBits_zero_f32.symm)

/-- A bit that is set by an `or` of one fact with an `and` of two others. -/
theorem or_and (x y z : BitVec 1) (h : IntOp.ori x (IntOp.andi y z) = 1#1) (hx : x ≠ 1#1) : y = 1#1 ∧ z = 1#1 := by
  revert x y z; decide

/-- Inside the cache the cached keys' scales are nonnegative and finite. -/
theorem cached (h : (fn (F := Ideal) a0 a1 a2 a3 a4 a5 a6).2.2.1 = fun _ => 1#1) (b : Fin 10) (p : Fin 32768)
    (hp : (p.val : Int) < (a0 (ix1 b)).toInt) :
    0 ≤ cachedScale (fun r col => a1 (ix2 r col)) ⟨p.val % 64, by omega⟩ (pageCol b (p.val / 64) (by omega))
      ∧ cachedScale (fun r col => a1 (ix2 r col)) ⟨p.val % 64, by omega⟩ (pageCol b (p.val / 64) (by omega)) ≠ ⊤ := by
  have h := congrFun h (ix5 (⟨p.val % 64, by omega⟩ : Fin 64) b (⟨p.val / 64 / 128, by omega⟩ : Fin 4) (⟨p.val / 64 % 2, by omega⟩ : Fin 2)
    (⟨p.val / 64 % 128 / 2, by omega⟩ : Fin 64))
  unfold fn fn_part1 at h
  have e : (shapeCast S64x10x4x2x64 ((extractStridedSlice S64x5120 ![2048, 0] · Facts.slices_S2112x5120_S64x5120_2048_0) a1) Facts.shapeCasts_S64x5120_S64x10x4x2x64)
      (ix5 (⟨p.val % 64, by omega⟩ : Fin 64) b (⟨p.val / 64 / 128, by omega⟩ : Fin 4) (⟨p.val / 64 % 2, by omega⟩ : Fin 2)
        (⟨p.val / 64 % 128 / 2, by omega⟩ : Fin 64)) = a1 (ix2 ⟨2048 + p.val % 64, by omega⟩ (pageCol b (p.val / 64) (by omega))) := by
    pointwise
    rfl
  have eb : (broadcastInDim S64x10x4x2x64 ![0, 1, 2, 3, 4] Facts.bcast_S1x10x1x1x1_S64x10x4x2x64_0_1_2_3_4 (broadcastInDim S1x10x1x1x1 ![1] Facts.bcast_S10_S1x10x1x1x1_1 a0))
      (ix5 (⟨p.val % 64, by omega⟩ : Fin 64) b (⟨p.val / 64 / 128, by omega⟩ : Fin 4) (⟨p.val / 64 % 2, by omega⟩ : Fin 2)
        (⟨p.val / 64 % 128 / 2, by omega⟩ : Fin 64)) = a0 (ix1 b) := by
    pointwise
  obtain ⟨hy, hz⟩ := or_and _ _ _ h (fun hx => by
    have := ((congrArg BitVec.toInt eb).symm.trans_le ((sge_iff _ _).1 hx)).trans_eq (pos_toInt p.val p.isLt)
    omega)
  have hy := (oge_iff _ _).1 hy
  have hz := (olt_iff _ _).1 hz
  refine ⟨(hy.trans' (le_of_eq Ideal.ofBits_zero_f32.symm)).trans (le_of_eq ?_), ne_top_of_lt (lt_of_eq_of_lt ?_ hz)⟩
  · exact congrArg (Ideal.ofBits .f32) e
  · exact congrArg (Ideal.ofBits .f32) e.symm

/-- The new keys' scales are nonnegative -/
theorem iks_nonneg (h : (fn (F := Ideal) a0 a1 a2 a3 a4 a5 a6).2.2.2.1 = fun _ => 1#1) (b : Fin 10) : (0 : EReal) ≤ a6 (ix1 b) := by
  have h := congrFun h (ix1 b)
  unfold fn fn_part1 at h
  have := (oge_iff _ _).1 h
  exact this.trans' (le_of_eq Ideal.ofBits_zero_f32.symm)

/-- and finite. -/
theorem iks_ne_top (h : (fn (F := Ideal) a0 a1 a2 a3 a4 a5 a6).2.2.2.2 = fun _ => 1#1) (b : Fin 10) : a6 (ix1 b) ≠ (⊤ : EReal) := by
  have h := congrFun h (ix1 b)
  unfold fn fn_part1 at h
  exact ne_top_of_lt ((olt_iff _ _).1 h)

end Cert.Pre_tame

end
-- ==== Proof.lean ====
module

public import proofs.«01_k».proof.Defs
public import proofs.«01_k».proof.Proof.Gen.PlainQueriesIdeal.Launch
public import proofs.«01_k».proof.Proof.Gen.QueriesIdeal.Skeleton
public import proofs.«01_k».proof.Proof.Gen.QueriesIdeal.Launch
public import proofs.«01_k».proof.Proof.Gen.Queries.Skeleton
public import proofs.«01_k».proof.Proof.Gen.Queries.Launch
public import proofs.«01_k».proof.Proof.Gen.PlainQueriesIdeal.Frame
public import proofs.«01_k».proof.Proof.Gen.PlainQueriesIdeal.Value
public import proofs.«01_k».proof.Proof.Gen.IndexScoresIdeal.Frame
public import proofs.«01_k».proof.Proof.Gen.IndexScoresIdeal.Value
public import proofs.«01_k».proof.Proof.ScoresFrame
public import proofs.«01_k».proof.Proof.ScoresIdealFrame
public import proofs.«01_k».proof.Proof.ScoresArray
public import proofs.«01_k».proof.Proof.RefArray
public import proofs.«01_k».proof.Proof.QueriesFrame
public import proofs.«01_k».proof.Proof.QueriesArray
public import proofs.«01_k».proof.Proof.PlainQueriesValue
public import proofs.«01_k».proof.Proof.Tame
public import Idealize.ShloMosaic.Adequacy
public import Idealize.ShloMosaic.Init

@[expose] public section

noncomputable section

namespace Cert.Proof

open Idealize.ShloMosaic Idealize.SL.Sem

local instance : Cert.Pre_tame.Facts := Cert.Pre_tame.facts

/-- Two score arrays computed from the same arguments are the same. -/
theorem scores_agree {cl cl' : Fin 10 → BitVec 32} {pg pg' : Fin 2112 → Fin 5120 → BitVec 32} {qc qc' : Fin 10 → Fin 64 → Fin 128 → EReal}
    {iqs iqs' wts wts' : Fin 10 → Fin 64 → EReal} {kc kc' : Fin 10 → Fin 128 → EReal} {iks iks' : Fin 10 → EReal}
    (h0 : cl' = cl) (h1 : pg' = pg) (h2 : qc' = qc) (h3 : iqs' = iqs) (h4 : wts' = wts) (h5 : kc' = kc) (h6 : iks' = iks) (b : Fin 10) (p : ℕ) (hp : p < 32768) :
    Cert.IndexScore.score cl' pg' qc' iqs' wts' kc' iks' b p hp = Cert.IndexScore.score cl pg qc iqs wts kc iks b p hp := by
  subst h0 h1 h2 h3 h4 h5 h6; rfl

/-- The kernel and the reference compute the same scores, from any memories that agree on the arguments and meet the precondition. -/
theorem algebraic : Cert.algebraic_ScoresIdeal_IndexScoresIdeal_pre_tame := by
  intro m g m' g' hpre hag
  obtain ⟨p0, p1, p2, p3, p4⟩ := hpre 0
  obtain ⟨a0, a1, a2, a3, a4, a5, a6⟩ := hag 0
  have e0 : Cert.IndexScoresIdeal.Hand.clF m' 0 = Cert.ScoresIdeal.Value.clF m 0 := funext fun _ => congrFun a0 _
  have e1 : Cert.IndexScoresIdeal.Hand.pgF m' 0 = Cert.ScoresIdeal.Value.pgF m 0 := funext fun _ => funext fun _ => congrFun a1 _
  have e2 : Cert.IndexScoresIdeal.Hand.qcF m' 0 = Cert.ScoresIdeal.Value.qcF m 0 := funext fun _ => funext fun _ => funext fun _ => congrFun a2 _
  have e3 : Cert.IndexScoresIdeal.Hand.iqsF m' 0 = Cert.ScoresIdeal.Value.iqsF m 0 := funext fun _ => funext fun _ => congrFun a3 _
  have e4 : Cert.IndexScoresIdeal.Hand.wtsF m' 0 = Cert.ScoresIdeal.Value.wtsF m 0 := funext fun _ => funext fun _ => congrFun a4 _
  have e5 : Cert.IndexScoresIdeal.Hand.kcF m' 0 = Cert.ScoresIdeal.Value.kcF m 0 := funext fun _ => funext fun _ => congrFun a5 _
  have e6 : Cert.IndexScoresIdeal.Hand.iksF m' 0 = Cert.ScoresIdeal.Value.iksF m 0 := funext fun _ => congrFun a6 _
  have hs : Cert.IndexScoresIdeal.Hand.Scales m' 0 :=
    { iqs := by rw [e3]; exact fun b h => Cert.Pre_tame.iqs _ _ _ _ _ _ _ p1 b h
      cached := by rw [e0, e1]; exact fun b p hp => Cert.Pre_tame.cached _ _ _ _ _ _ _ p2 b p hp
      iks := by rw [e6]; exact fun b => ⟨Cert.Pre_tame.iks_nonneg _ _ _ _ _ _ _ p3 b, Cert.Pre_tame.iks_ne_top _ _ _ _ _ _ _ p4 b⟩ }
  have hlen : ∀ b, (Cert.ScoresIdeal.Value.clF m 0 b).toInt ≤ 2 ^ 31 - 8192 := fun b => Cert.Pre_tame.len _ _ _ _ _ _ _ p0 b
  refine ⟨fun c => Cert.ScoresIdeal.Value.scores m c, ?_, ?_⟩
  · refine (θ_run _ _ _).mono (fun r h c => ?_) (Cert.ScoresIdeal.Hand.run_arrays m g)
    obtain rfl : c = 0 := Subsingleton.elim _ _
    exact ⟨(h.1 0).1.trans (Cert.ScoresIdeal.Value.final_scores m hlen _), (h.1 0).2⟩
  · refine (θ_run _ _ _).mono (fun r h c => ?_) (Cert.IndexScoresIdeal.Value.run_blocks m' g')
    obtain rfl : c = 0 := Subsingleton.elim _ _
    refine ⟨((h 0).1.trans (Cert.IndexScoresIdeal.Hand.final_scores m' 0 hs)).trans ?_, (h 0).2⟩
    exact funext fun i => scores_agree e0 e1 e2 e3 e4 e5 e6 _ _ _

/-- The kernel's query call and its reference compute the same codes and the same scales, from any memories that agree on the arguments. -/
theorem algebraic_queries : Cert.algebraic_QueriesIdeal_PlainQueriesIdeal := by
  intro m g m' g' hpre hag
  refine ⟨fun c => Cert.QueriesIdeal.Value.codesArr m c, fun c => Cert.QueriesIdeal.Value.scalesArr m c, ?_, ?_⟩
  · refine (θ_run _ _ _).mono (fun r h c => ?_) (Cert.QueriesIdeal.Hand.run_arrays m g)
    exact ⟨(h.1 c).1.trans (Cert.QueriesIdeal.Value.final8 m c), (h.1 c).2.1.trans (Cert.QueriesIdeal.Value.final9 m c), (h.1 c).2.2⟩
  · refine (θ_run _ _ _).mono (fun r h c => ?_) (Cert.PlainQueriesIdeal.Value.run m' g')
    obtain ⟨a0, a1, a2, a3, a4, a5, a6, a7, a8⟩ := hag c
    have hq : ∀ (b : Fin 10) (h : Fin 64), _ = Cert.QueriesIdeal.Value.query m c b h := fun b h =>
      Cert.IndexQuery.query_congr (fun k => congrFun a0 (ix2 (⟨b.val, by omega⟩ : Fin 16) k)) (fun d k => congrFun a6 (ix2 k (⟨h.val * 128 + d.val, by omega⟩ : Fin 8192)))
        (fun i => congrFun a4 (ix2 i h)) (fun d => congrFun a1 (ix2 b d)) (fun d => congrFun a2 (ix2 b d))
    refine ⟨(h c).1.trans (funext fun y => ?_), (h c).2.1.trans (funext fun y => ?_), (h c).2.2⟩
    · have key : ∀ y : Cert.PlainQueriesIdeal.S10x64x128.Idx, Cert.PlainQueriesIdeal.Value.G5 (F := Ideal) _ _ _ _ _ y = Cert.QueriesIdeal.Value.codesArr m c y := fun y => by
        idx_vars y
        exact (Cert.PlainQueriesIdeal.Value.codes_apply _ _ _ _ _ _ _ _).trans (congrArg (fun q => Cert.IndexQuery.code q _) (hq _ _))
      exact key y
    · have key : ∀ y : Cert.PlainQueriesIdeal.S10x64.Idx, Cert.PlainQueriesIdeal.Value.G6 (F := Ideal) _ _ _ _ _ y = Cert.QueriesIdeal.Value.scalesArr m c y := fun y => by
        idx_vars y
        exact (Cert.PlainQueriesIdeal.Value.scales_apply _ _ _ _ _ _ _).trans (congrArg Cert.IndexQuery.scale (hq _ _))
      exact key y

theorem claim : Cert.Claim :=
  ⟨Cert.Scores.Gen.facts, Cert.ScoresIdeal.Gen.facts, Cert.IndexScoresIdeal.Gen.facts, Cert.Queries.Gen.facts, Cert.QueriesIdeal.Gen.facts,
    Cert.PlainQueriesIdeal.Gen.facts, Cert.Pre_tame.facts,
    fun m g _ => Cert.Scores.Hand.frame m g, fun m g _ => Cert.ScoresIdeal.Hand.frame m g, fun m g _ => Cert.ScoresIdeal.Hand.frame m g,
    fun m g _ => Cert.IndexScoresIdeal.Gen.frame m g, fun m g _ => Cert.IndexScoresIdeal.Gen.frame m g,
    fun m g _ => Cert.Queries.Hand.frame m g, fun m g _ => Cert.QueriesIdeal.Hand.frame m g, fun m g _ => Cert.PlainQueriesIdeal.Gen.frame m g,
    trivial, algebraic, trivial, algebraic_queries⟩

end Cert.Proof

end
